-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.bf16_pack.Statement Cert.KernelIdeal.S8x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_11)) (v3 : (c : Dev Cert.KernelIdeal.nD) → Buf (Elt Ideal) ((c.tc : Thread Cert.KernelIdeal.nD Cert.KernelIdeal.τ).loc Cert.KernelIdeal.main_v3_12)) (v4 : (c : Dev Cert.KernelIdeal.nD) → Buf (Elt Ideal) ((c.tc : Thread Cert.KernelIdeal.nD Cert.KernelIdeal.τ).loc Cert.KernelIdeal.main_v3_13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_11) = v2 c
          ∧ r.2.mem ((c.tc : Thread Cert.KernelIdeal.nD Cert.KernelIdeal.τ).loc Cert.KernelIdeal.main_v3_12) = v3 c
          ∧ r.2.mem ((c.tc : Thread Cert.KernelIdeal.nD Cert.KernelIdeal.τ).loc Cert.KernelIdeal.main_v3_13) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_v81) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x7808x1536 : Shape := ⟨3, ![16, 7808, 1536]⟩
abbrev S16x7808x24 : Shape := ⟨3, ![16, 7808, 24]⟩
abbrev S16 : Shape := ⟨1, ![16]⟩
abbrev S7808x3072 : Shape := ⟨2, ![7808, 3072]⟩
abbrev S7808x24 : Shape := ⟨2, ![7808, 24]⟩
abbrev S_ : Shape := ⟨0, ![]⟩
abbrev S7808 : Shape := ⟨1, ![7808]⟩
abbrev S7808x2944 : Shape := ⟨2, ![7808, 2944]⟩

class Facts : Prop where
  bcast_S_S16x7808x24 : S_.BroadcastsInDim S16x7808x24 (![] : Fin 0 → Fin S16x7808x24.rank)
  reducesTo_S16x7808x24_S_d0_1_2 : S16x7808x24.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : IVec S16x7808x1536 8) (main_arg1 : FVec F S16x7808x24 .f32) (main_arg2 : FVec F S16 .f32) (main_arg3 : FVec F S7808x3072 .f32) (main_arg4 : FVec F S7808x3072 .bf16) (main_arg5 : IVec S7808x3072 8) (main_arg6 : FVec F S7808x24 .f32) (main_arg7 : FVec F S_ .f32) (main_arg8 : IVec S7808 32) (main_arg9 : FVec F S7808x2944 .f32) (main_arg10 : FVec F S7808x2944 .bf16) (main_arg11 : IVec S7808 32) : IVec S_ 1 :=
  let main_v0 : FVec F S16x7808x24 .f32 := Host.absf main_arg1
  let main_cst : FVec F S_ .f32 := constant S_ .f32 0x7F800000#32
  let main_v1 : FVec F S16x7808x24 .f32 := broadcastInDim S16x7808x24 ![] bcast_S_S16x7808x24 main_cst
  let main_v2 : IVec S16x7808x24 1 := cmpf .olt main_v0 main_v1
  let main_c : IVec S_ 1 := constantI S_ 1 1#1
  let main_v3 : IVec S_ 1 := (fun x v => Host.reduce IntOp.andi x v reducesTo_S16x7808x24_S_d0_1_2 h_S_) main_v2 main_c
  let main_v4 : FVec F S16 .f32 := Host.absf main_arg2
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Kernel.lean ====
abbrev S16x7808x1536 : Shape := ⟨3, ![16, 7808, 1536]⟩
abbrev S16x7808x24 : Shape := ⟨3, ![16, 7808, 24]⟩
abbrev S16 : Shape := ⟨1, ![16]⟩
abbrev S7808x3072 : Shape := ⟨2, ![7808, 3072]⟩
abbrev S7808x24 : Shape := ⟨2, ![7808, 24]⟩
abbrev S_ : Shape := ⟨0, ![]⟩
abbrev S7808 : Shape := ⟨1, ![7808]⟩
abbrev S7808x2944 : Shape := ⟨2, ![7808, 2944]⟩
abbrev S1 : Shape := ⟨1, ![1]⟩
abbrev S16x24x7808 : Shape := ⟨3, ![16, 24, 7808]⟩
abbrev S24x7808 : Shape := ⟨2, ![24, 7808]⟩
abbrev S9 : Shape := ⟨1, ![9]⟩
abbrev S6 : Shape := ⟨1, ![6]⟩
abbrev S7808x1536 : Shape := ⟨2, ![7808, 1536]⟩
abbrev S61x24 : Shape := ⟨2, ![61, 24]⟩
abbrev S7808x1472 : Shape := ⟨2, ![7808, 1472]⟩
abbrev S23x7808 : Shape := ⟨2, ![23, 7808]⟩
abbrev S16x128x1536 : Shape := ⟨3, ![16, 128, 1536]⟩
abbrev S16x24x128 : Shape := ⟨3, ![16, 24, 128]⟩
abbrev S128x3072 : Shape := ⟨2, ![128, 3072]⟩
abbrev S24x128 : Shape := ⟨2, ![24, 128]⟩
abbrev S128x2944 : Shape := ⟨2, ![128, 2944]⟩
abbrev S128x1536 : Shape := ⟨2, ![128, 1536]⟩
abbrev S128x1472 : Shape := ⟨2, ![128, 1472]⟩
abbrev S23x128 : Shape := ⟨2, ![23, 128]⟩
abbrev S4x2x3x24x256 : Shape := ⟨5, ![4, 2, 3, 24, 256]⟩
abbrev S128x128 : Shape := ⟨2, ![128, 128]⟩
abbrev S4x16x128 : Shape := ⟨3, ![4, 16, 128]⟩
abbrev S1x128 : Shape := ⟨2, ![1, 128]⟩
abbrev S1x8x128 : Shape := ⟨3, ![1, 8, 128]⟩
abbrev S8x128 : Shape := ⟨2, ![8, 128]⟩
abbrev S1x1x1x8x128 : Shape := ⟨5, ![1, 1, 1, 8, 128]⟩
abbrev S16x128 : Shape := ⟨2, ![16, 128]⟩
abbrev S16x256 : Shape := ⟨2, ![16, 256]⟩
abbrev S32x128 : Shape := ⟨2, ![32, 128]⟩
abbrev S256x128 : Shape := ⟨2, ![256, 128]⟩
abbrev S1x32x128 : Shape := ⟨3, ![1, 32, 128]⟩
abbrev S256x256 : Shape := ⟨2, ![256, 256]⟩
abbrev S1x1x1x1x256 : Shape := ⟨5, ![1, 1, 1, 1, 256]⟩
abbrev S1x256 : Shape := ⟨2, ![1, 256]⟩
abbrev S192x256 : Shape := ⟨2, ![192, 256]⟩
abbrev S64x256 : Shape := ⟨2, ![64, 256]⟩
abbrev S32x128x1 : Shape := ⟨3, ![32, 128, 1]⟩
abbrev S32 : Shape := ⟨1, ![32]⟩
abbrev S32x1 : Shape := ⟨2, ![32, 1]⟩
abbrev S32x256 : Shape := ⟨2, ![32, 256]⟩
abbrev S128 : Shape := ⟨1, ![128]⟩
abbrev S1x1 : Shape := ⟨2, ![1, 1]⟩
abbrev S1x24 : Shape := ⟨2, ![1, 24]⟩
abbrev S32x64 : Shape := ⟨2, ![32, 64]⟩
abbrev S1x16x128 : Shape := ⟨3, ![1, 16, 128]⟩
abbrev S112x128 : Shape := ⟨2, ![112, 128]⟩

abbrev nBuf : Space → Nat
  | .hbm => 33
  | .vmem => 54
  | .smem => 2
  | _ => 0

abbrev bufTy : (tb : Table) → Fin (tcTables nBuf tb) → BufTy
  | .hbm, ⟨0, _⟩ => ⟨S16x7808x1536, .i8⟩
  | .hbm, ⟨1, _⟩ => ⟨S16x7808x24, .f32⟩
  | .hbm, ⟨2, _⟩ => ⟨S16, .f32⟩
  | .hbm, ⟨3, _⟩ => ⟨S7808x3072, .f32⟩
  | .hbm, ⟨4, _⟩ => ⟨S7808x3072, .bf16⟩
  | .hbm, ⟨5, _⟩ => ⟨S7808x3072, .i8⟩
  | .hbm, ⟨6, _⟩ => ⟨S7808x24, .f32⟩
  | .hbm, ⟨7, _⟩ => ⟨S_, .f32⟩
  | .hbm, ⟨8, _⟩ => ⟨S7808, .i32⟩
  | .hbm, ⟨9, _⟩ => ⟨S7808x2944, .f32⟩
  | .hbm, ⟨10, _⟩ => ⟨S7808x2944, .bf16⟩
  | .hbm, ⟨11, _⟩ => ⟨S7808, .i32⟩
  | .hbm, ⟨12, _⟩ => ⟨S1, .f32⟩
  | .hbm, ⟨13, _⟩ => ⟨S16x24x7808, .f32⟩
  | .hbm, ⟨14, _⟩ => ⟨S24x7808, .f32⟩
  | .hbm, ⟨15, _⟩ => ⟨S7808x3072, .f32⟩
  | .hbm, ⟨16, _⟩ => ⟨S7808x3072, .f32⟩
  | .hbm, ⟨17, _⟩ => ⟨S9, .f32⟩
  | .hbm, ⟨18, _⟩ => ⟨S9, .f32⟩
  | .hbm, ⟨19, _⟩ => ⟨S9, .f32⟩
  | .hbm, ⟨20, _⟩ => ⟨S6, .f32⟩
  | .hbm, ⟨21, _⟩ => ⟨S7808, .f32⟩
  | .hbm, ⟨22, _⟩ => ⟨S7808, .f32⟩
  | .hbm, ⟨23, _⟩ => ⟨S7808, .f32⟩
  | .hbm, ⟨24, _⟩ => ⟨S7808, .f32⟩
  | .hbm, ⟨25, _⟩ => ⟨S7808x1536, .i8⟩
  | .hbm, ⟨26, _⟩ => ⟨S24x7808, .f32⟩
  | .hbm, ⟨27, _⟩ => ⟨S7808x3072, .i8⟩
  | .hbm, ⟨28, _⟩ => ⟨S24x7808, .f32⟩
  | .hbm, ⟨29, _⟩ => ⟨S7808x3072, .fp8e4m3⟩
  | .hbm, ⟨30, _⟩ => ⟨S61x24, .f32⟩
  | .hbm, ⟨31, _⟩ => ⟨S7808x1472, .i8⟩
  | .hbm, ⟨32, _⟩ => ⟨S23x7808, .f32⟩
  | .local _ .vmem, ⟨0, _⟩ => ⟨S16x128x1536, .i8⟩
  | .local _ .vmem, ⟨1, _⟩ => ⟨S16x128x1536, .i8⟩
  | .local _ .vmem, ⟨2, _⟩ => ⟨S16x24x128, .f32⟩
  | .local _ .vmem, ⟨3, _⟩ => ⟨S16x24x128, .f32⟩
  | .local _ .vmem, ⟨4, _⟩ => ⟨S128x3072, .f32⟩
  | .local _ .vmem, ⟨5, _⟩ => ⟨S128x3072, .f32⟩
  | .local _ .vmem, ⟨6, _⟩ => ⟨S128x3072, .bf16⟩
  | .local _ .vmem, ⟨7, _⟩ => ⟨S128x3072, .bf16⟩
  | .local _ .vmem, ⟨8, _⟩ => ⟨S128x3072, .i8⟩
  | .local _ .vmem, ⟨9, _⟩ => ⟨S128x3072, .i8⟩
  | .local _ .vmem, ⟨10, _⟩ => ⟨S24x128, .f32⟩
  | .local _ .vmem, ⟨11, _⟩ => ⟨S24x128, .f32⟩
  | .local _ .vmem, ⟨12, _⟩ => ⟨S7808, .i32⟩
  | .local _ .vmem, ⟨13, _⟩ => ⟨S128x2944, .f32⟩
  | .local _ .vmem, ⟨14, _⟩ => ⟨S128x2944, .f32⟩
  | .local _ .vmem, ⟨15, _⟩ => ⟨S128x2944, .bf16⟩
  | .local _ .vmem, ⟨16, _⟩ => ⟨S128x2944, .bf16⟩
  | .local _ .vmem, ⟨17, _⟩ => ⟨S7808, .i32⟩
  | .local _ .vmem, ⟨18, _⟩ => ⟨S128x3072, .f32⟩
  | .local _ .vmem, ⟨19, _⟩ => ⟨S128x3072, .f32⟩
  | .local _ .vmem, ⟨20, _⟩ => ⟨S128x3072, .f32⟩
  | .local _ .vmem, ⟨21, _⟩ => ⟨S128x3072, .f32⟩
  | .local _ .vmem, ⟨22, _⟩ => ⟨S9, .f32⟩
  | .local _ .vmem, ⟨23, _⟩ => ⟨S9, .f32⟩
  | .local _ .vmem, ⟨24, _⟩ => ⟨S9, .f32⟩
  | .local _ .vmem, ⟨25, _⟩ => ⟨S6, .f32⟩
  | .local _ .vmem, ⟨26, _⟩ => ⟨S7808, .f32⟩
  | .local _ .vmem, ⟨27, _⟩ => ⟨S7808, .f32⟩
  | .local _ .vmem, ⟨28, _⟩ => ⟨S7808, .f32⟩
  | .local _ .vmem, ⟨29, _⟩ => ⟨S7808, .f32⟩
  | .local _ .vmem, ⟨30, _⟩ => ⟨S128x1536, .i8⟩
  | .local _ .vmem, ⟨31, _⟩ => ⟨S128x1536, .i8⟩
  | .local _ .vmem, ⟨32, _⟩ => ⟨S24x128, .f32⟩
  | .local _ .vmem, ⟨33, _⟩ => ⟨S24x128, .f32⟩
  | .local _ .vmem, ⟨34, _⟩ => ⟨S128x3072, .i8⟩
  | .local _ .vmem, ⟨35, _⟩ => ⟨S128x3072, .i8⟩
  | .local _ .vmem, ⟨36, _⟩ => ⟨S24x128, .f32⟩
  | .local _ .vmem, ⟨37, _⟩ => ⟨S24x128, .f32⟩
  | .local _ .vmem, ⟨38, _⟩ => ⟨S128x3072, .fp8e4m3⟩
  | .local _ .vmem, ⟨39, _⟩ => ⟨S128x3072, .fp8e4m3⟩
  | .local _ .vmem, ⟨40, _⟩ => ⟨S61x24, .f32⟩
  | .local _ .vmem, ⟨41, _⟩ => ⟨S128x1472, .i8⟩
  | .local _ .vmem, ⟨42, _⟩ => ⟨S128x1472, .i8⟩
  | .local _ .vmem, ⟨43, _⟩ => ⟨S23x128, .f32⟩
  | .local _ .vmem, ⟨44, _⟩ => ⟨S23x128, .f32⟩
  | .local _ .vmem, ⟨45, _⟩ => ⟨S4x2x3x24x256, .f32⟩
  | .local _ .vmem, ⟨46, _⟩ => ⟨S128x128, .f32⟩
  | .local _ .vmem, ⟨47, _⟩ => ⟨S128x128, .f32⟩
  | .local _ .vmem, ⟨48, _⟩ => ⟨S128x128, .f32⟩
  | .local _ .vmem, ⟨49, _⟩ => ⟨S128x128, .f32⟩
  | .local _ .vmem, ⟨50, _⟩ => ⟨S128x128, .f32⟩
  | .local _ .vmem, ⟨51, _⟩ => ⟨S128x128, .f32⟩
  | .local _ .vmem, ⟨52, _⟩ => ⟨S128x128, .f32⟩
  | .local _ .vmem, ⟨53, _⟩ => ⟨S4x16x128, .f32⟩
  | .local _ .smem, ⟨0, _⟩ => ⟨S16, .f32⟩
  | .local _ .smem, ⟨1, _⟩ => ⟨S1, .f32⟩
  | _, _ => ⟨S16x7808x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev main_v3_7 : Ref sig .tc := ⟨.hbm, 22, rfl⟩
abbrev main_v3_8 : Ref sig .tc := ⟨.hbm, 23, rfl⟩
abbrev main_v3_9 : Ref sig .tc := ⟨.hbm, 24, rfl⟩
abbrev main_v3_10 : Ref sig .tc := ⟨.hbm, 25, rfl⟩
abbrev main_v3_11 : Ref sig .tc := ⟨.hbm, 26, rfl⟩
abbrev main_v3_12 : Ref sig .tc := ⟨.hbm, 27, rfl⟩
abbrev main_v3_13 : Ref sig .tc := ⟨.hbm, 28, rfl⟩
abbrev main_v3_14 : Ref sig .tc := ⟨.hbm, 29, rfl⟩
abbrev main_v3_15 : Ref sig .tc := ⟨.hbm, 30, rfl⟩
abbrev main_v3_16 : Ref sig .tc := ⟨.hbm, 31, rfl⟩
abbrev main_v3_17 : Ref sig .tc := ⟨.hbm, 32, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_stg26_0 : Ref sig .tc := ⟨.vmem, 38, rfl⟩
abbrev cc0_stg26_1 : Ref sig .tc := ⟨.vmem, 39, rfl⟩
abbrev cc0_stg27_0 : Ref sig .tc := ⟨.vmem, 40, rfl⟩
abbrev cc0_stg28_0 : Ref sig .tc := ⟨.vmem, 41, rfl⟩
abbrev cc0_stg28_1 : Ref sig .tc := ⟨.vmem, 42, rfl⟩
abbrev cc0_stg29_0 : Ref sig .tc := ⟨.vmem, 43, rfl⟩
abbrev cc0_stg29_1 : Ref sig .tc := ⟨.vmem, 44, rfl⟩
abbrev cc0_scratch0 : Ref sig .tc := ⟨.vmem, 45, rfl⟩
abbrev cc0_scratch1 : Ref sig .tc := ⟨.vmem, 46, rfl⟩
abbrev cc0_scratch2 : Ref sig .tc := ⟨.vmem, 47, rfl⟩
abbrev cc0_scratch3 : Ref sig .tc := ⟨.vmem, 48, rfl⟩
abbrev cc0_scratch4 : Ref sig .tc := ⟨.vmem, 49, rfl⟩
abbrev cc0_scratch5 : Ref sig .tc := ⟨.vmem, 50, rfl⟩
abbrev cc0_scratch6 : Ref sig .tc := ⟨.vmem, 51, rfl⟩
abbrev cc0_scratch7 : Ref sig .tc := ⟨.vmem, 52, rfl⟩
abbrev cc0_scratch8 : Ref sig .tc := ⟨.vmem, 53, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39
abbrev cc0_sem26_0 : DmaSem sig := 40
abbrev cc0_sem26_1 : DmaSem sig := 41
abbrev cc0_sem27_0 : DmaSem sig := 42
abbrev cc0_sem28_0 : DmaSem sig := 43
abbrev cc0_sem28_1 : DmaSem sig := 44
abbrev cc0_sem29_0 : DmaSem sig := 45
abbrev cc0_sem29_1 : DmaSem sig := 46

abbrev nD : Nat := 1
abbrev τ : Topo := Topo.v7x

variable {F : FTy → Type} [BitOps F]

abbrev grid0 : Pipeline.Grid := ⟨1, ![61], ![false]⟩

@[reducible] def k0_t1_loop : Scf.Loop 32 :=
  let c0_i32_1376 : BitVec 32 := 0#32
  let c12_i32 : BitVec 32 := 12#32
  let v2360 : BitVec 32 := Scalar.addi c0_i32_1376 c12_i32
  let c1_i32_1377 : BitVec 32 := 1#32
  ⟨c0_i32_1376, v2360, c1_i32_1377⟩
def k0_off1 (k0_t1 : Fin k0_t1_loop.trips) : Fin 2 → Nat :=
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v2825 : Index := Scalar.indexCast v2822
  let c0_1607 : Index := 0#32
  ![v2825.toNat, 0]
def k0_off2 (k0_t1 : Fin k0_t1_loop.trips) : Fin 2 → Nat :=
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v2831 : Index := Scalar.indexCast v2824
  let c0_1608 : Index := 0#32
  ![v2831.toNat, 0]
def k0_mult1 (k0_t1 : Fin k0_t1_loop.trips) : BitVec 32 :=
  let c128_i32_1611 : BitVec 32 := 128#32
  let c0_i32_1376 : BitVec 32 := 0#32
  let c1_i32_1377 : BitVec 32 := 1#32
  let arg40 : BitVec 32 := Scf.iv c0_i32_1376 c1_i32_1377 k0_t1
  let v2839 : BitVec 32 := Scalar.muli c128_i32_1611 arg40
  v2839
def k0_off3 (k0_t1 : Fin k0_t1_loop.trips) : Fin 3 → Nat :=
  let c0_1612 : Index := 0#32
  let c0_1613 : Index := 0#32
  let c128_i32_1611 : BitVec 32 := 128#32
  let c0_i32_1376 : BitVec 32 := 0#32
  let c1_i32_1377 : BitVec 32 := 1#32
  let arg40 : BitVec 32 := Scf.iv c0_i32_1376 c1_i32_1377 k0_t1
  let v2839 : BitVec 32 := Scalar.muli c128_i32_1611 arg40
  let v2840 : BitVec 32 := v2839
  let v2841 : Index := Scalar.indexCast v2840
  ![0, 0, v2841.toNat]
def k0_mult2 (k0_t1 : Fin k0_t1_loop.trips) : BitVec 32 :=
  let c128_i32_1618 : BitVec 32 := 128#32
  let c0_i32_1376 : BitVec 32 := 0#32
  let c1_i32_1377 : BitVec 32 := 1#32
  let arg40 : BitVec 32 := Scf.iv c0_i32_1376 c1_i32_1377 k0_t1
  let v2863 : BitVec 32 := Scalar.muli c128_i32_1618 arg40
  v2863
def k0_off4 (k0_t1 : Fin k0_t1_loop.trips) : Fin 3 → Nat :=
  let c1_1619 : Index := 1#32
  let c0_1620 : Index := 0#32
  let c128_i32_1618 : BitVec 32 := 128#32
  let c0_i32_1376 : BitVec 32 := 0#32
  let c1_i32_1377 : BitVec 32 := 1#32
  let arg40 : BitVec 32 := Scf.iv c0_i32_1376 c1_i32_1377 k0_t1
  let v2863 : BitVec 32 := Scalar.muli c128_i32_1618 arg40
  let v2864 : BitVec 32 := v2863
  let v2865 : Index := Scalar.indexCast v2864
  ![1, 0, v2865.toNat]
def k0_mult3 (k0_t1 : Fin k0_t1_loop.trips) : BitVec 32 :=
  let c128_i32_1628 : BitVec 32 := 128#32
  let c0_i32_1376 : BitVec 32 := 0#32
  let c1_i32_1377 : BitVec 32 := 1#32
  let arg40 : BitVec 32 := Scf.iv c0_i32_1376 c1_i32_1377 k0_t1
  let v2887 : BitVec 32 := Scalar.muli c128_i32_1628 arg40
  v2887
def k0_off5 (k0_t1 : Fin k0_t1_loop.trips) : Fin 3 → Nat :=
  let c2_1629 : Index := 2#32
  let c0_1630 : Index := 0#32
  let c128_i32_1628 : BitVec 32 := 128#32
  let c0_i32_1376 : BitVec 32 := 0#32
  let c1_i32_1377 : BitVec 32 := 1#32
  let arg40 : BitVec 32 := Scf.iv c0_i32_1376 c1_i32_1377 k0_t1
  let v2887 : BitVec 32 := Scalar.muli c128_i32_1628 arg40
  let v2888 : BitVec 32 := v2887
  let v2889 : Index := Scalar.indexCast v2888
  ![2, 0, v2889.toNat]
def k0_mult4 (k0_t1 : Fin k0_t1_loop.trips) : BitVec 32 :=
  let c128_i32_1638 : BitVec 32 := 128#32
  let c0_i32_1376 : BitVec 32 := 0#32
  let c1_i32_1377 : BitVec 32 := 1#32
  let arg40 : BitVec 32 := Scf.iv c0_i32_1376 c1_i32_1377 k0_t1
  let v2911 : BitVec 32 := Scalar.muli c128_i32_1638 arg40
  v2911
def k0_off6 (k0_t1 : Fin k0_t1_loop.trips) : Fin 3 → Nat :=
  let c3_1639 : Index := 3#32
  let c0_1640 : Index := 0#32
  let c128_i32_1638 : BitVec 32 := 128#32
  let c0_i32_1376 : BitVec 32 := 0#32
  let c1_i32_1377 : BitVec 32 := 1#32
  let arg40 : BitVec 32 := Scf.iv c0_i32_1376 c1_i32_1377 k0_t1
  let v2911 : BitVec 32 := Scalar.muli c128_i32_1638 arg40
  let v2912 : BitVec 32 := v2911
  let v2913 : Index := Scalar.indexCast v2912
  ![3, 0, v2913.toNat]
def k0_mult5 (k0_t1 : Fin k0_t1_loop.trips) : BitVec 32 :=
  let c128_i32_1648 : BitVec 32 := 128#32
  let c0_i32_1376 : BitVec 32 := 0#32
  let c1_i32_1377 : BitVec 32 := 1#32
  let arg40 : BitVec 32 := Scf.iv c0_i32_1376 c1_i32_1377 k0_t1
  let v2935 : BitVec 32 := Scalar.muli c128_i32_1648 arg40
  v2935
def k0_off7 (k0_t1 : Fin k0_t1_loop.trips) : Fin 3 → Nat :=
  let c4_1649 : Index := 4#32
  let c0_1650 : Index := 0#32
  let c128_i32_1648 : BitVec 32 := 128#32
  let c0_i32_1376 : BitVec 32 := 0#32
  let c1_i32_1377 : BitVec 32 := 1#32
  let arg40 : BitVec 32 := Scf.iv c0_i32_1376 c1_i32_1377 k0_t1
  let v2935 : BitVec 32 := Scalar.muli c128_i32_1648 arg40
  let v2936 : BitVec 32 := v2935
  let v2937 : Index := Scalar.indexCast v2936
  ![4, 0, v2937.toNat]
def k0_mult6 (k0_t1 : Fin k0_t1_loop.trips) : BitVec 32 :=
  let c128_i32_1658 : BitVec 32 := 128#32
  let c0_i32_1376 : BitVec 32 := 0#32
  let c1_i32_1377 : BitVec 32 := 1#32
  let arg40 : BitVec 32 := Scf.iv c0_i32_1376 c1_i32_1377 k0_t1
  let v2959 : BitVec 32 := Scalar.muli c128_i32_1658 arg40
  v2959
def k0_off8 (k0_t1 : Fin k0_t1_loop.trips) : Fin 3 → Nat :=
  let c5_1659 : Index := 5#32
  let c0_1660 : Index := 0#32
  let c128_i32_1658 : BitVec 32 := 128#32
  let c0_i32_1376 : BitVec 32 := 0#32
  let c1_i32_1377 : BitVec 32 := 1#32
  let arg40 : BitVec 32 := Scf.iv c0_i32_1376 c1_i32_1377 k0_t1
  let v2959 : BitVec 32 := Scalar.muli c128_i32_1658 arg40
  let v2960 : BitVec 32 := v2959
  let v2961 : Index := Scalar.indexCast v2960
  ![5, 0, v2961.toNat]
def k0_mult7 (k0_t1 : Fin k0_t1_loop.trips) : BitVec 32 :=
  let c128_i32_1668 : BitVec 32 := 128#32
  let c0_i32_1376 : BitVec 32 := 0#32
  let c1_i32_1377 : BitVec 32 := 1#32
  let arg40 : BitVec 32 := Scf.iv c0_i32_1376 c1_i32_1377 k0_t1
  let v2983 : BitVec 32 := Scalar.muli c128_i32_1668 arg40
  v2983
def k0_off9 (k0_t1 : Fin k0_t1_loop.trips) : Fin 3 → Nat :=
  let c6_1669 : Index := 6#32
  let c0_1670 : Index := 0#32
  let c128_i32_1668 : BitVec 32 := 128#32
  let c0_i32_1376 : BitVec 32 := 0#32
  let c1_i32_1377 : BitVec 32 := 1#32
  let arg40 : BitVec 32 := Scf.iv c0_i32_1376 c1_i32_1377 k0_t1
  let v2983 : BitVec 32 := Scalar.muli c128_i32_1668 arg40
  let v2984 : BitVec 32 := v2983
  let v2985 : Index := Scalar.indexCast v2984
  ![6, 0, v2985.toNat]
def k0_mult8 (k0_t1 : Fin k0_t1_loop.trips) : BitVec 32 :=
  let c128_i32_1678 : BitVec 32 := 128#32
  let c0_i32_1376 : BitVec 32 := 0#32
  let c1_i32_1377 : BitVec 32 := 1#32
  let arg40 : BitVec 32 := Scf.iv c0_i32_1376 c1_i32_1377 k0_t1
  let v3007 : BitVec 32 := Scalar.muli c128_i32_1678 arg40
  v3007
def k0_off10 (k0_t1 : Fin k0_t1_loop.trips) : Fin 3 → Nat :=
  let c7_1679 : Index := 7#32
  let c0_1680 : Index := 0#32
  let c128_i32_1678 : BitVec 32 := 128#32
  let c0_i32_1376 : BitVec 32 := 0#32
  let c1_i32_1377 : BitVec 32 := 1#32
  let arg40 : BitVec 32 := Scf.iv c0_i32_1376 c1_i32_1377 k0_t1
  let v3007 : BitVec 32 := Scalar.muli c128_i32_1678 arg40
  let v3008 : BitVec 32 := v3007
  let v3009 : Index := Scalar.indexCast v3008
  ![7, 0, v3009.toNat]
def k0_mult9 (k0_t1 : Fin k0_t1_loop.trips) : BitVec 32 :=
  let c128_i32_1688 : BitVec 32 := 128#32
  let c0_i32_1376 : BitVec 32 := 0#32
  let c1_i32_1377 : BitVec 32 := 1#32
  let arg40 : BitVec 32 := Scf.iv c0_i32_1376 c1_i32_1377 k0_t1
  let v3031 : BitVec 32 := Scalar.muli c128_i32_1688 arg40
  v3031
def k0_off11 (k0_t1 : Fin k0_t1_loop.trips) : Fin 3 → Nat :=
  let c8_1689 : Index := 8#32
  let c0_1690 : Index := 0#32
  let c128_i32_1688 : BitVec 32 := 128#32
  let c0_i32_1376 : BitVec 32 := 0#32
  let c1_i32_1377 : BitVec 32 := 1#32
  let arg40 : BitVec 32 := Scf.iv c0_i32_1376 c1_i32_1377 k0_t1
  let v3031 : BitVec 32 := Scalar.muli c128_i32_1688 arg40
  let v3032 : BitVec 32 := v3031
  let v3033 : Index := Scalar.indexCast v3032
  ![8, 0, v3033.toNat]
def k0_mult10 (k0_t1 : Fin k0_t1_loop.trips) : BitVec 32 :=
  let c128_i32_1698 : BitVec 32 := 128#32
  let c0_i32_1376 : BitVec 32 := 0#32
  let c1_i32_1377 : BitVec 32 := 1#32
  let arg40 : BitVec 32 := Scf.iv c0_i32_1376 c1_i32_1377 k0_t1
  let v3055 : BitVec 32 := Scalar.muli c128_i32_1698 arg40
  v3055
def k0_off12 (k0_t1 : Fin k0_t1_loop.trips) : Fin 3 → Nat :=
  let c9_1699 : Index := 9#32
  let c0_1700 : Index := 0#32
  let c128_i32_1698 : BitVec 32 := 128#32
  let c0_i32_1376 : BitVec 32 := 0#32
  let c1_i32_1377 : BitVec 32 := 1#32
  let arg40 : BitVec 32 := Scf.iv c0_i32_1376 c1_i32_1377 k0_t1
  let v3055 : BitVec 32 := Scalar.muli c128_i32_1698 arg40
  let v3056 : BitVec 32 := v3055
  let v3057 : Index := Scalar.indexCast v3056
  ![9, 0, v3057.toNat]
def k0_mult11 (k0_t1 : Fin k0_t1_loop.trips) : BitVec 32 :=
  let c128_i32_1708 : BitVec 32 := 128#32
  let c0_i32_1376 : BitVec 32 := 0#32
  let c1_i32_1377 : BitVec 32 := 1#32
  let arg40 : BitVec 32 := Scf.iv c0_i32_1376 c1_i32_1377 k0_t1
  let v3079 : BitVec 32 := Scalar.muli c128_i32_1708 arg40
  v3079
def k0_off13 (k0_t1 : Fin k0_t1_loop.trips) : Fin 3 → Nat :=
  let c10_1709 : Index := 10#32
  let c0_1710 : Index := 0#32
  let c128_i32_1708 : BitVec 32 := 128#32
  let c0_i32_1376 : BitVec 32 := 0#32
  let c1_i32_1377 : BitVec 32 := 1#32
  let arg40 : BitVec 32 := Scf.iv c0_i32_1376 c1_i32_1377 k0_t1
  let v3079 : BitVec 32 := Scalar.muli c128_i32_1708 arg40
  let v3080 : BitVec 32 := v3079
  let v3081 : Index := Scalar.indexCast v3080
  ![10, 0, v3081.toNat]
def k0_mult12 (k0_t1 : Fin k0_t1_loop.trips) : BitVec 32 :=
  let c128_i32_1718 : BitVec 32 := 128#32
  let c0_i32_1376 : BitVec 32 := 0#32
  let c1_i32_1377 : BitVec 32 := 1#32
  let arg40 : BitVec 32 := Scf.iv c0_i32_1376 c1_i32_1377 k0_t1
  let v3103 : BitVec 32 := Scalar.muli c128_i32_1718 arg40
  v3103
def k0_off14 (k0_t1 : Fin k0_t1_loop.trips) : Fin 3 → Nat :=
  let c11_1719 : Index := 11#32
  let c0_1720 : Index := 0#32
  let c128_i32_1718 : BitVec 32 := 128#32
  let c0_i32_1376 : BitVec 32 := 0#32
  let c1_i32_1377 : BitVec 32 := 1#32
  let arg40 : BitVec 32 := Scf.iv c0_i32_1376 c1_i32_1377 k0_t1
  let v3103 : BitVec 32 := Scalar.muli c128_i32_1718 arg40
  let v3104 : BitVec 32 := v3103
  let v3105 : Index := Scalar.indexCast v3104
  ![11, 0, v3105.toNat]
def k0_mult13 (k0_t1 : Fin k0_t1_loop.trips) : BitVec 32 :=
  let c128_i32_1728 : BitVec 32 := 128#32
  let c0_i32_1376 : BitVec 32 := 0#32
  let c1_i32_1377 : BitVec 32 := 1#32
  let arg40 : BitVec 32 := Scf.iv c0_i32_1376 c1_i32_1377 k0_t1
  let v3127 : BitVec 32 := Scalar.muli c128_i32_1728 arg40
  v3127
def k0_off15 (k0_t1 : Fin k0_t1_loop.trips) : Fin 3 → Nat :=
  let c12_1729 : Index := 12#32
  let c0_1730 : Index := 0#32
  let c128_i32_1728 : BitVec 32 := 128#32
  let c0_i32_1376 : BitVec 32 := 0#32
  let c1_i32_1377 : BitVec 32 := 1#32
  let arg40 : BitVec 32 := Scf.iv c0_i32_1376 c1_i32_1377 k0_t1
  let v3127 : BitVec 32 := Scalar.muli c128_i32_1728 arg40
  let v3128 : BitVec 32 := v3127
  let v3129 : Index := Scalar.indexCast v3128
  ![12, 0, v3129.toNat]
def k0_mult14 (k0_t1 : Fin k0_t1_loop.trips) : BitVec 32 :=
  let c128_i32_1738 : BitVec 32 := 128#32
  let c0_i32_1376 : BitVec 32 := 0#32
  let c1_i32_1377 : BitVec 32 := 1#32
  let arg40 : BitVec 32 := Scf.iv c0_i32_1376 c1_i32_1377 k0_t1
  let v3151 : BitVec 32 := Scalar.muli c128_i32_1738 arg40
  v3151
def k0_off16 (k0_t1 : Fin k0_t1_loop.trips) : Fin 3 → Nat :=
  let c13_1739 : Index := 13#32
  let c0_1740 : Index := 0#32
  let c128_i32_1738 : BitVec 32 := 128#32
  let c0_i32_1376 : BitVec 32 := 0#32
  let c1_i32_1377 : BitVec 32 := 1#32
  let arg40 : BitVec 32 := Scf.iv c0_i32_1376 c1_i32_1377 k0_t1
  let v3151 : BitVec 32 := Scalar.muli c128_i32_1738 arg40
  let v3152 : BitVec 32 := v3151
  let v3153 : Index := Scalar.indexCast v3152
  ![13, 0, v3153.toNat]
def k0_mult15 (k0_t1 : Fin k0_t1_loop.trips) : BitVec 32 :=
  let c128_i32_1748 : BitVec 32 := 128#32
  let c0_i32_1376 : BitVec 32 := 0#32
  let c1_i32_1377 : BitVec 32 := 1#32
  let arg40 : BitVec 32 := Scf.iv c0_i32_1376 c1_i32_1377 k0_t1
  let v3175 : BitVec 32 := Scalar.muli c128_i32_1748 arg40
  v3175
def k0_off17 (k0_t1 : Fin k0_t1_loop.trips) : Fin 3 → Nat :=
  let c14_1749 : Index := 14#32
  let c0_1750 : Index := 0#32
  let c128_i32_1748 : BitVec 32 := 128#32
  let c0_i32_1376 : BitVec 32 := 0#32
  let c1_i32_1377 : BitVec 32 := 1#32
  let arg40 : BitVec 32 := Scf.iv c0_i32_1376 c1_i32_1377 k0_t1
  let v3175 : BitVec 32 := Scalar.muli c128_i32_1748 arg40
  let v3176 : BitVec 32 := v3175
  let v3177 : Index := Scalar.indexCast v3176
  ![14, 0, v3177.toNat]
def k0_mult16 (k0_t1 : Fin k0_t1_loop.trips) : BitVec 32 :=
  let c128_i32_1758 : BitVec 32 := 128#32
  let c0_i32_1376 : BitVec 32 := 0#32
  let c1_i32_1377 : BitVec 32 := 1#32
  let arg40 : BitVec 32 := Scf.iv c0_i32_1376 c1_i32_1377 k0_t1
  let v3199 : BitVec 32 := Scalar.muli c128_i32_1758 arg40
  v3199
def k0_off18 (k0_t1 : Fin k0_t1_loop.trips) : Fin 3 → Nat :=
  let c15_1759 : Index := 15#32
  let c0_1760 : Index := 0#32
  let c128_i32_1758 : BitVec 32 := 128#32
  let c0_i32_1376 : BitVec 32 := 0#32
  let c1_i32_1377 : BitVec 32 := 1#32
  let arg40 : BitVec 32 := Scf.iv c0_i32_1376 c1_i32_1377 k0_t1
  let v3199 : BitVec 32 := Scalar.muli c128_i32_1758 arg40
  let v3200 : BitVec 32 := v3199
  let v3201 : Index := Scalar.indexCast v3200
  ![15, 0, v3201.toNat]
def k0_off19 (k0_t1 : Fin k0_t1_loop.trips) : Fin 5 → Nat :=
  let c0_1768 : Index := 0#32
  let c0_1769 : Index := 0#32
  let c0_1770 : Index := 0#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v3226 : Index := Scalar.indexCast v2822
  let c0_1771 : Index := 0#32
  ![0, 0, 0, v3226.toNat, 0]
def k0_off20 (k0_t1 : Fin k0_t1_loop.trips) : Fin 5 → Nat :=
  let c0_1776 : Index := 0#32
  let c0_1777 : Index := 0#32
  let c0_1778 : Index := 0#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v3239 : Index := Scalar.indexCast v2824
  let c0_1779 : Index := 0#32
  ![0, 0, 0, v3239.toNat, 0]
def k0_off21 (k0_t1 : Fin k0_t1_loop.trips) : Fin 5 → Nat :=
  let c0_1784 : Index := 0#32
  let c0_1785 : Index := 0#32
  let c1_1786 : Index := 1#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v3252 : Index := Scalar.indexCast v2822
  let c0_1787 : Index := 0#32
  ![0, 0, 1, v3252.toNat, 0]
def k0_off22 (k0_t1 : Fin k0_t1_loop.trips) : Fin 5 → Nat :=
  let c0_1792 : Index := 0#32
  let c0_1793 : Index := 0#32
  let c1_1794 : Index := 1#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v3265 : Index := Scalar.indexCast v2824
  let c0_1795 : Index := 0#32
  ![0, 0, 1, v3265.toNat, 0]
def k0_off23 (k0_t1 : Fin k0_t1_loop.trips) : Fin 5 → Nat :=
  let c0_1800 : Index := 0#32
  let c0_1801 : Index := 0#32
  let c2_1802 : Index := 2#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v3278 : Index := Scalar.indexCast v2822
  let c0_1803 : Index := 0#32
  ![0, 0, 2, v3278.toNat, 0]
def k0_off24 (k0_t1 : Fin k0_t1_loop.trips) : Fin 5 → Nat :=
  let c0_1808 : Index := 0#32
  let c0_1809 : Index := 0#32
  let c2_1810 : Index := 2#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v3291 : Index := Scalar.indexCast v2824
  let c0_1811 : Index := 0#32
  ![0, 0, 2, v3291.toNat, 0]
def k0_off25 (k0_t1 : Fin k0_t1_loop.trips) : Fin 5 → Nat :=
  let c0_1817 : Index := 0#32
  let c1_1818 : Index := 1#32
  let c0_1819 : Index := 0#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v3310 : Index := Scalar.indexCast v2822
  let c0_1820 : Index := 0#32
  ![0, 1, 0, v3310.toNat, 0]
def k0_off26 (k0_t1 : Fin k0_t1_loop.trips) : Fin 5 → Nat :=
  let c0_1825 : Index := 0#32
  let c1_1826 : Index := 1#32
  let c0_1827 : Index := 0#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v3323 : Index := Scalar.indexCast v2824
  let c0_1828 : Index := 0#32
  ![0, 1, 0, v3323.toNat, 0]
def k0_off27 (k0_t1 : Fin k0_t1_loop.trips) : Fin 5 → Nat :=
  let c0_1833 : Index := 0#32
  let c1_1834 : Index := 1#32
  let c1_1835 : Index := 1#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v3336 : Index := Scalar.indexCast v2822
  let c0_1836 : Index := 0#32
  ![0, 1, 1, v3336.toNat, 0]
def k0_off28 (k0_t1 : Fin k0_t1_loop.trips) : Fin 5 → Nat :=
  let c0_1841 : Index := 0#32
  let c1_1842 : Index := 1#32
  let c1_1843 : Index := 1#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v3349 : Index := Scalar.indexCast v2824
  let c0_1844 : Index := 0#32
  ![0, 1, 1, v3349.toNat, 0]
def k0_off29 (k0_t1 : Fin k0_t1_loop.trips) : Fin 5 → Nat :=
  let c0_1849 : Index := 0#32
  let c1_1850 : Index := 1#32
  let c2_1851 : Index := 2#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v3362 : Index := Scalar.indexCast v2822
  let c0_1852 : Index := 0#32
  ![0, 1, 2, v3362.toNat, 0]
def k0_off30 (k0_t1 : Fin k0_t1_loop.trips) : Fin 5 → Nat :=
  let c0_1857 : Index := 0#32
  let c1_1858 : Index := 1#32
  let c2_1859 : Index := 2#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v3375 : Index := Scalar.indexCast v2824
  let c0_1860 : Index := 0#32
  ![0, 1, 2, v3375.toNat, 0]
def k0_mult17 (k0_t1 : Fin k0_t1_loop.trips) : BitVec 32 :=
  let c128_i32_1876 : BitVec 32 := 128#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v3439 : BitVec 32 := Scalar.muli c128_i32_1876 v2822
  v3439
def k0_off31 (k0_t1 : Fin k0_t1_loop.trips) : Fin 2 → Nat :=
  let c0_1877 : Index := 0#32
  let c128_i32_1876 : BitVec 32 := 128#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v3439 : BitVec 32 := Scalar.muli c128_i32_1876 v2822
  let v3440 : BitVec 32 := v3439
  let v3443 : Index := Scalar.indexCast v3440
  ![0, v3443.toNat]
def k0_mult18 (k0_t1 : Fin k0_t1_loop.trips) : BitVec 32 :=
  let c128_i32_1927 : BitVec 32 := 128#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v3587 : BitVec 32 := Scalar.muli c128_i32_1927 v2824
  v3587
def k0_off32 (k0_t1 : Fin k0_t1_loop.trips) : Fin 2 → Nat :=
  let c0_1928 : Index := 0#32
  let c128_i32_1927 : BitVec 32 := 128#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v3587 : BitVec 32 := Scalar.muli c128_i32_1927 v2824
  let v3588 : BitVec 32 := v3587
  let v3591 : Index := Scalar.indexCast v3588
  ![0, v3591.toNat]
def k0_mult19 (k0_t1 : Fin k0_t1_loop.trips) : BitVec 32 :=
  let c128_i32_1991 : BitVec 32 := 128#32
  let c0_i32_1376 : BitVec 32 := 0#32
  let c1_i32_1377 : BitVec 32 := 1#32
  let arg40 : BitVec 32 := Scf.iv c0_i32_1376 c1_i32_1377 k0_t1
  let v3757 : BitVec 32 := Scalar.muli c128_i32_1991 arg40
  v3757
def k0_off33 (k0_t1 : Fin k0_t1_loop.trips) : Fin 2 → Nat :=
  let c0_1992 : Index := 0#32
  let c128_i32_1991 : BitVec 32 := 128#32
  let c0_i32_1376 : BitVec 32 := 0#32
  let c1_i32_1377 : BitVec 32 := 1#32
  let arg40 : BitVec 32 := Scf.iv c0_i32_1376 c1_i32_1377 k0_t1
  let v3757 : BitVec 32 := Scalar.muli c128_i32_1991 arg40
  let v3758 : BitVec 32 := v3757
  let v3759 : Index := Scalar.indexCast v3758
  ![0, v3759.toNat]
def k0_mult20 (k0_t1 : Fin k0_t1_loop.trips) : BitVec 32 :=
  let c128_i32_1993 : BitVec 32 := 128#32
  let c0_i32_1376 : BitVec 32 := 0#32
  let c1_i32_1377 : BitVec 32 := 1#32
  let arg40 : BitVec 32 := Scf.iv c0_i32_1376 c1_i32_1377 k0_t1
  let v3761 : BitVec 32 := Scalar.muli c128_i32_1993 arg40
  v3761
def k0_off34 (k0_t1 : Fin k0_t1_loop.trips) : Fin 3 → Nat :=
  let c0_1994 : Index := 0#32
  let c32_1995 : Index := 32#32
  let c128_i32_1993 : BitVec 32 := 128#32
  let c0_i32_1376 : BitVec 32 := 0#32
  let c1_i32_1377 : BitVec 32 := 1#32
  let arg40 : BitVec 32 := Scf.iv c0_i32_1376 c1_i32_1377 k0_t1
  let v3761 : BitVec 32 := Scalar.muli c128_i32_1993 arg40
  let v3762 : BitVec 32 := v3761
  let v3763 : Index := Scalar.indexCast v3762
  ![0, 32, v3763.toNat]
def k0_mult21 (k0_t1 : Fin k0_t1_loop.trips) : BitVec 32 :=
  let c128_i32_2003 : BitVec 32 := 128#32
  let c0_i32_1376 : BitVec 32 := 0#32
  let c1_i32_1377 : BitVec 32 := 1#32
  let arg40 : BitVec 32 := Scf.iv c0_i32_1376 c1_i32_1377 k0_t1
  let v3785 : BitVec 32 := Scalar.muli c128_i32_2003 arg40
  v3785
def k0_off35 (k0_t1 : Fin k0_t1_loop.trips) : Fin 3 → Nat :=
  let c1_2004 : Index := 1#32
  let c32_2005 : Index := 32#32
  let c128_i32_2003 : BitVec 32 := 128#32
  let c0_i32_1376 : BitVec 32 := 0#32
  let c1_i32_1377 : BitVec 32 := 1#32
  let arg40 : BitVec 32 := Scf.iv c0_i32_1376 c1_i32_1377 k0_t1
  let v3785 : BitVec 32 := Scalar.muli c128_i32_2003 arg40
  let v3786 : BitVec 32 := v3785
  let v3787 : Index := Scalar.indexCast v3786
  ![1, 32, v3787.toNat]
def k0_mult22 (k0_t1 : Fin k0_t1_loop.trips) : BitVec 32 :=
  let c128_i32_2013 : BitVec 32 := 128#32
  let c0_i32_1376 : BitVec 32 := 0#32
  let c1_i32_1377 : BitVec 32 := 1#32
  let arg40 : BitVec 32 := Scf.iv c0_i32_1376 c1_i32_1377 k0_t1
  let v3809 : BitVec 32 := Scalar.muli c128_i32_2013 arg40
  v3809
def k0_off36 (k0_t1 : Fin k0_t1_loop.trips) : Fin 3 → Nat :=
  let c2_2014 : Index := 2#32
  let c32_2015 : Index := 32#32
  let c128_i32_2013 : BitVec 32 := 128#32
  let c0_i32_1376 : BitVec 32 := 0#32
  let c1_i32_1377 : BitVec 32 := 1#32
  let arg40 : BitVec 32 := Scf.iv c0_i32_1376 c1_i32_1377 k0_t1
  let v3809 : BitVec 32 := Scalar.muli c128_i32_2013 arg40
  let v3810 : BitVec 32 := v3809
  let v3811 : Index := Scalar.indexCast v3810
  ![2, 32, v3811.toNat]
def k0_mult23 (k0_t1 : Fin k0_t1_loop.trips) : BitVec 32 :=
  let c128_i32_2023 : BitVec 32 := 128#32
  let c0_i32_1376 : BitVec 32 := 0#32
  let c1_i32_1377 : BitVec 32 := 1#32
  let arg40 : BitVec 32 := Scf.iv c0_i32_1376 c1_i32_1377 k0_t1
  let v3833 : BitVec 32 := Scalar.muli c128_i32_2023 arg40
  v3833
def k0_off37 (k0_t1 : Fin k0_t1_loop.trips) : Fin 3 → Nat :=
  let c3_2024 : Index := 3#32
  let c32_2025 : Index := 32#32
  let c128_i32_2023 : BitVec 32 := 128#32
  let c0_i32_1376 : BitVec 32 := 0#32
  let c1_i32_1377 : BitVec 32 := 1#32
  let arg40 : BitVec 32 := Scf.iv c0_i32_1376 c1_i32_1377 k0_t1
  let v3833 : BitVec 32 := Scalar.muli c128_i32_2023 arg40
  let v3834 : BitVec 32 := v3833
  let v3835 : Index := Scalar.indexCast v3834
  ![3, 32, v3835.toNat]
def k0_mult24 (k0_t1 : Fin k0_t1_loop.trips) : BitVec 32 :=
  let c128_i32_2033 : BitVec 32 := 128#32
  let c0_i32_1376 : BitVec 32 := 0#32
  let c1_i32_1377 : BitVec 32 := 1#32
  let arg40 : BitVec 32 := Scf.iv c0_i32_1376 c1_i32_1377 k0_t1
  let v3857 : BitVec 32 := Scalar.muli c128_i32_2033 arg40
  v3857
def k0_off38 (k0_t1 : Fin k0_t1_loop.trips) : Fin 3 → Nat :=
  let c4_2034 : Index := 4#32
  let c32_2035 : Index := 32#32
  let c128_i32_2033 : BitVec 32 := 128#32
  let c0_i32_1376 : BitVec 32 := 0#32
  let c1_i32_1377 : BitVec 32 := 1#32
  let arg40 : BitVec 32 := Scf.iv c0_i32_1376 c1_i32_1377 k0_t1
  let v3857 : BitVec 32 := Scalar.muli c128_i32_2033 arg40
  let v3858 : BitVec 32 := v3857
  let v3859 : Index := Scalar.indexCast v3858
  ![4, 32, v3859.toNat]
def k0_mult25 (k0_t1 : Fin k0_t1_loop.trips) : BitVec 32 :=
  let c128_i32_2043 : BitVec 32 := 128#32
  let c0_i32_1376 : BitVec 32 := 0#32
  let c1_i32_1377 : BitVec 32 := 1#32
  let arg40 : BitVec 32 := Scf.iv c0_i32_1376 c1_i32_1377 k0_t1
  let v3881 : BitVec 32 := Scalar.muli c128_i32_2043 arg40
  v3881
def k0_off39 (k0_t1 : Fin k0_t1_loop.trips) : Fin 3 → Nat :=
  let c5_2044 : Index := 5#32
  let c32_2045 : Index := 32#32
  let c128_i32_2043 : BitVec 32 := 128#32
  let c0_i32_1376 : BitVec 32 := 0#32
  let c1_i32_1377 : BitVec 32 := 1#32
  let arg40 : BitVec 32 := Scf.iv c0_i32_1376 c1_i32_1377 k0_t1
  let v3881 : BitVec 32 := Scalar.muli c128_i32_2043 arg40
  let v3882 : BitVec 32 := v3881
  let v3883 : Index := Scalar.indexCast v3882
  ![5, 32, v3883.toNat]
def k0_mult26 (k0_t1 : Fin k0_t1_loop.trips) : BitVec 32 :=
  let c128_i32_2053 : BitVec 32 := 128#32
  let c0_i32_1376 : BitVec 32 := 0#32
  let c1_i32_1377 : BitVec 32 := 1#32
  let arg40 : BitVec 32 := Scf.iv c0_i32_1376 c1_i32_1377 k0_t1
  let v3905 : BitVec 32 := Scalar.muli c128_i32_2053 arg40
  v3905
def k0_off40 (k0_t1 : Fin k0_t1_loop.trips) : Fin 3 → Nat :=
  let c6_2054 : Index := 6#32
  let c32_2055 : Index := 32#32
  let c128_i32_2053 : BitVec 32 := 128#32
  let c0_i32_1376 : BitVec 32 := 0#32
  let c1_i32_1377 : BitVec 32 := 1#32
  let arg40 : BitVec 32 := Scf.iv c0_i32_1376 c1_i32_1377 k0_t1
  let v3905 : BitVec 32 := Scalar.muli c128_i32_2053 arg40
  let v3906 : BitVec 32 := v3905
  let v3907 : Index := Scalar.indexCast v3906
  ![6, 32, v3907.toNat]
def k0_mult27 (k0_t1 : Fin k0_t1_loop.trips) : BitVec 32 :=
  let c128_i32_2063 : BitVec 32 := 128#32
  let c0_i32_1376 : BitVec 32 := 0#32
  let c1_i32_1377 : BitVec 32 := 1#32
  let arg40 : BitVec 32 := Scf.iv c0_i32_1376 c1_i32_1377 k0_t1
  let v3929 : BitVec 32 := Scalar.muli c128_i32_2063 arg40
  v3929
def k0_off41 (k0_t1 : Fin k0_t1_loop.trips) : Fin 3 → Nat :=
  let c7_2064 : Index := 7#32
  let c32_2065 : Index := 32#32
  let c128_i32_2063 : BitVec 32 := 128#32
  let c0_i32_1376 : BitVec 32 := 0#32
  let c1_i32_1377 : BitVec 32 := 1#32
  let arg40 : BitVec 32 := Scf.iv c0_i32_1376 c1_i32_1377 k0_t1
  let v3929 : BitVec 32 := Scalar.muli c128_i32_2063 arg40
  let v3930 : BitVec 32 := v3929
  let v3931 : Index := Scalar.indexCast v3930
  ![7, 32, v3931.toNat]
def k0_mult28 (k0_t1 : Fin k0_t1_loop.trips) : BitVec 32 :=
  let c128_i32_2073 : BitVec 32 := 128#32
  let c0_i32_1376 : BitVec 32 := 0#32
  let c1_i32_1377 : BitVec 32 := 1#32
  let arg40 : BitVec 32 := Scf.iv c0_i32_1376 c1_i32_1377 k0_t1
  let v3953 : BitVec 32 := Scalar.muli c128_i32_2073 arg40
  v3953
def k0_off42 (k0_t1 : Fin k0_t1_loop.trips) : Fin 3 → Nat :=
  let c8_2074 : Index := 8#32
  let c32_2075 : Index := 32#32
  let c128_i32_2073 : BitVec 32 := 128#32
  let c0_i32_1376 : BitVec 32 := 0#32
  let c1_i32_1377 : BitVec 32 := 1#32
  let arg40 : BitVec 32 := Scf.iv c0_i32_1376 c1_i32_1377 k0_t1
  let v3953 : BitVec 32 := Scalar.muli c128_i32_2073 arg40
  let v3954 : BitVec 32 := v3953
  let v3955 : Index := Scalar.indexCast v3954
  ![8, 32, v3955.toNat]
def k0_mult29 (k0_t1 : Fin k0_t1_loop.trips) : BitVec 32 :=
  let c128_i32_2083 : BitVec 32 := 128#32
  let c0_i32_1376 : BitVec 32 := 0#32
  let c1_i32_1377 : BitVec 32 := 1#32
  let arg40 : BitVec 32 := Scf.iv c0_i32_1376 c1_i32_1377 k0_t1
  let v3977 : BitVec 32 := Scalar.muli c128_i32_2083 arg40
  v3977
def k0_off43 (k0_t1 : Fin k0_t1_loop.trips) : Fin 3 → Nat :=
  let c9_2084 : Index := 9#32
  let c32_2085 : Index := 32#32
  let c128_i32_2083 : BitVec 32 := 128#32
  let c0_i32_1376 : BitVec 32 := 0#32
  let c1_i32_1377 : BitVec 32 := 1#32
  let arg40 : BitVec 32 := Scf.iv c0_i32_1376 c1_i32_1377 k0_t1
  let v3977 : BitVec 32 := Scalar.muli c128_i32_2083 arg40
  let v3978 : BitVec 32 := v3977
  let v3979 : Index := Scalar.indexCast v3978
  ![9, 32, v3979.toNat]
def k0_mult30 (k0_t1 : Fin k0_t1_loop.trips) : BitVec 32 :=
  let c128_i32_2093 : BitVec 32 := 128#32
  let c0_i32_1376 : BitVec 32 := 0#32
  let c1_i32_1377 : BitVec 32 := 1#32
  let arg40 : BitVec 32 := Scf.iv c0_i32_1376 c1_i32_1377 k0_t1
  let v4001 : BitVec 32 := Scalar.muli c128_i32_2093 arg40
  v4001
def k0_off44 (k0_t1 : Fin k0_t1_loop.trips) : Fin 3 → Nat :=
  let c10_2094 : Index := 10#32
  let c32_2095 : Index := 32#32
  let c128_i32_2093 : BitVec 32 := 128#32
  let c0_i32_1376 : BitVec 32 := 0#32
  let c1_i32_1377 : BitVec 32 := 1#32
  let arg40 : BitVec 32 := Scf.iv c0_i32_1376 c1_i32_1377 k0_t1
  let v4001 : BitVec 32 := Scalar.muli c128_i32_2093 arg40
  let v4002 : BitVec 32 := v4001
  let v4003 : Index := Scalar.indexCast v4002
  ![10, 32, v4003.toNat]
def k0_mult31 (k0_t1 : Fin k0_t1_loop.trips) : BitVec 32 :=
  let c128_i32_2103 : BitVec 32 := 128#32
  let c0_i32_1376 : BitVec 32 := 0#32
  let c1_i32_1377 : BitVec 32 := 1#32
  let arg40 : BitVec 32 := Scf.iv c0_i32_1376 c1_i32_1377 k0_t1
  let v4025 : BitVec 32 := Scalar.muli c128_i32_2103 arg40
  v4025
def k0_off45 (k0_t1 : Fin k0_t1_loop.trips) : Fin 3 → Nat :=
  let c11_2104 : Index := 11#32
  let c32_2105 : Index := 32#32
  let c128_i32_2103 : BitVec 32 := 128#32
  let c0_i32_1376 : BitVec 32 := 0#32
  let c1_i32_1377 : BitVec 32 := 1#32
  let arg40 : BitVec 32 := Scf.iv c0_i32_1376 c1_i32_1377 k0_t1
  let v4025 : BitVec 32 := Scalar.muli c128_i32_2103 arg40
  let v4026 : BitVec 32 := v4025
  let v4027 : Index := Scalar.indexCast v4026
  ![11, 32, v4027.toNat]
def k0_mult32 (k0_t1 : Fin k0_t1_loop.trips) : BitVec 32 :=
  let c128_i32_2113 : BitVec 32 := 128#32
  let c0_i32_1376 : BitVec 32 := 0#32
  let c1_i32_1377 : BitVec 32 := 1#32
  let arg40 : BitVec 32 := Scf.iv c0_i32_1376 c1_i32_1377 k0_t1
  let v4049 : BitVec 32 := Scalar.muli c128_i32_2113 arg40
  v4049
def k0_off46 (k0_t1 : Fin k0_t1_loop.trips) : Fin 3 → Nat :=
  let c12_2114 : Index := 12#32
  let c32_2115 : Index := 32#32
  let c128_i32_2113 : BitVec 32 := 128#32
  let c0_i32_1376 : BitVec 32 := 0#32
  let c1_i32_1377 : BitVec 32 := 1#32
  let arg40 : BitVec 32 := Scf.iv c0_i32_1376 c1_i32_1377 k0_t1
  let v4049 : BitVec 32 := Scalar.muli c128_i32_2113 arg40
  let v4050 : BitVec 32 := v4049
  let v4051 : Index := Scalar.indexCast v4050
  ![12, 32, v4051.toNat]
def k0_mult33 (k0_t1 : Fin k0_t1_loop.trips) : BitVec 32 :=
  let c128_i32_2123 : BitVec 32 := 128#32
  let c0_i32_1376 : BitVec 32 := 0#32
  let c1_i32_1377 : BitVec 32 := 1#32
  let arg40 : BitVec 32 := Scf.iv c0_i32_1376 c1_i32_1377 k0_t1
  let v4073 : BitVec 32 := Scalar.muli c128_i32_2123 arg40
  v4073
def k0_off47 (k0_t1 : Fin k0_t1_loop.trips) : Fin 3 → Nat :=
  let c13_2124 : Index := 13#32
  let c32_2125 : Index := 32#32
  let c128_i32_2123 : BitVec 32 := 128#32
  let c0_i32_1376 : BitVec 32 := 0#32
  let c1_i32_1377 : BitVec 32 := 1#32
  let arg40 : BitVec 32 := Scf.iv c0_i32_1376 c1_i32_1377 k0_t1
  let v4073 : BitVec 32 := Scalar.muli c128_i32_2123 arg40
  let v4074 : BitVec 32 := v4073
  let v4075 : Index := Scalar.indexCast v4074
  ![13, 32, v4075.toNat]
def k0_mult34 (k0_t1 : Fin k0_t1_loop.trips) : BitVec 32 :=
  let c128_i32_2133 : BitVec 32 := 128#32
  let c0_i32_1376 : BitVec 32 := 0#32
  let c1_i32_1377 : BitVec 32 := 1#32
  let arg40 : BitVec 32 := Scf.iv c0_i32_1376 c1_i32_1377 k0_t1
  let v4097 : BitVec 32 := Scalar.muli c128_i32_2133 arg40
  v4097
def k0_off48 (k0_t1 : Fin k0_t1_loop.trips) : Fin 3 → Nat :=
  let c14_2134 : Index := 14#32
  let c32_2135 : Index := 32#32
  let c128_i32_2133 : BitVec 32 := 128#32
  let c0_i32_1376 : BitVec 32 := 0#32
  let c1_i32_1377 : BitVec 32 := 1#32
  let arg40 : BitVec 32 := Scf.iv c0_i32_1376 c1_i32_1377 k0_t1
  let v4097 : BitVec 32 := Scalar.muli c128_i32_2133 arg40
  let v4098 : BitVec 32 := v4097
  let v4099 : Index := Scalar.indexCast v4098
  ![14, 32, v4099.toNat]
def k0_mult35 (k0_t1 : Fin k0_t1_loop.trips) : BitVec 32 :=
  let c128_i32_2143 : BitVec 32 := 128#32
  let c0_i32_1376 : BitVec 32 := 0#32
  let c1_i32_1377 : BitVec 32 := 1#32
  let arg40 : BitVec 32 := Scf.iv c0_i32_1376 c1_i32_1377 k0_t1
  let v4121 : BitVec 32 := Scalar.muli c128_i32_2143 arg40
  v4121
def k0_off49 (k0_t1 : Fin k0_t1_loop.trips) : Fin 3 → Nat :=
  let c15_2144 : Index := 15#32
  let c32_2145 : Index := 32#32
  let c128_i32_2143 : BitVec 32 := 128#32
  let c0_i32_1376 : BitVec 32 := 0#32
  let c1_i32_1377 : BitVec 32 := 1#32
  let arg40 : BitVec 32 := Scf.iv c0_i32_1376 c1_i32_1377 k0_t1
  let v4121 : BitVec 32 := Scalar.muli c128_i32_2143 arg40
  let v4122 : BitVec 32 := v4121
  let v4123 : Index := Scalar.indexCast v4122
  ![15, 32, v4123.toNat]
def k0_off50 (k0_t1 : Fin k0_t1_loop.trips) : Fin 5 → Nat :=
  let c1_2153 : Index := 1#32
  let c0_2154 : Index := 0#32
  let c0_2155 : Index := 0#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v4148 : Index := Scalar.indexCast v2822
  let c0_2156 : Index := 0#32
  ![1, 0, 0, v4148.toNat, 0]
def k0_off51 (k0_t1 : Fin k0_t1_loop.trips) : Fin 5 → Nat :=
  let c1_2161 : Index := 1#32
  let c0_2162 : Index := 0#32
  let c0_2163 : Index := 0#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v4161 : Index := Scalar.indexCast v2824
  let c0_2164 : Index := 0#32
  ![1, 0, 0, v4161.toNat, 0]
def k0_off52 (k0_t1 : Fin k0_t1_loop.trips) : Fin 5 → Nat :=
  let c1_2169 : Index := 1#32
  let c0_2170 : Index := 0#32
  let c1_2171 : Index := 1#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v4174 : Index := Scalar.indexCast v2822
  let c0_2172 : Index := 0#32
  ![1, 0, 1, v4174.toNat, 0]
def k0_off53 (k0_t1 : Fin k0_t1_loop.trips) : Fin 5 → Nat :=
  let c1_2177 : Index := 1#32
  let c0_2178 : Index := 0#32
  let c1_2179 : Index := 1#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v4187 : Index := Scalar.indexCast v2824
  let c0_2180 : Index := 0#32
  ![1, 0, 1, v4187.toNat, 0]
def k0_off54 (k0_t1 : Fin k0_t1_loop.trips) : Fin 5 → Nat :=
  let c1_2185 : Index := 1#32
  let c0_2186 : Index := 0#32
  let c2_2187 : Index := 2#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v4200 : Index := Scalar.indexCast v2822
  let c0_2188 : Index := 0#32
  ![1, 0, 2, v4200.toNat, 0]
def k0_off55 (k0_t1 : Fin k0_t1_loop.trips) : Fin 5 → Nat :=
  let c1_2193 : Index := 1#32
  let c0_2194 : Index := 0#32
  let c2_2195 : Index := 2#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v4213 : Index := Scalar.indexCast v2824
  let c0_2196 : Index := 0#32
  ![1, 0, 2, v4213.toNat, 0]
def k0_off56 (k0_t1 : Fin k0_t1_loop.trips) : Fin 5 → Nat :=
  let c1_2202 : Index := 1#32
  let c1_2203 : Index := 1#32
  let c0_2204 : Index := 0#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v4232 : Index := Scalar.indexCast v2822
  let c0_2205 : Index := 0#32
  ![1, 1, 0, v4232.toNat, 0]
def k0_off57 (k0_t1 : Fin k0_t1_loop.trips) : Fin 5 → Nat :=
  let c1_2210 : Index := 1#32
  let c1_2211 : Index := 1#32
  let c0_2212 : Index := 0#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v4245 : Index := Scalar.indexCast v2824
  let c0_2213 : Index := 0#32
  ![1, 1, 0, v4245.toNat, 0]
def k0_off58 (k0_t1 : Fin k0_t1_loop.trips) : Fin 5 → Nat :=
  let c1_2218 : Index := 1#32
  let c1_2219 : Index := 1#32
  let c1_2220 : Index := 1#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v4258 : Index := Scalar.indexCast v2822
  let c0_2221 : Index := 0#32
  ![1, 1, 1, v4258.toNat, 0]
def k0_off59 (k0_t1 : Fin k0_t1_loop.trips) : Fin 5 → Nat :=
  let c1_2226 : Index := 1#32
  let c1_2227 : Index := 1#32
  let c1_2228 : Index := 1#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v4271 : Index := Scalar.indexCast v2824
  let c0_2229 : Index := 0#32
  ![1, 1, 1, v4271.toNat, 0]
def k0_off60 (k0_t1 : Fin k0_t1_loop.trips) : Fin 5 → Nat :=
  let c1_2234 : Index := 1#32
  let c1_2235 : Index := 1#32
  let c2_2236 : Index := 2#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v4284 : Index := Scalar.indexCast v2822
  let c0_2237 : Index := 0#32
  ![1, 1, 2, v4284.toNat, 0]
def k0_off61 (k0_t1 : Fin k0_t1_loop.trips) : Fin 5 → Nat :=
  let c1_2242 : Index := 1#32
  let c1_2243 : Index := 1#32
  let c2_2244 : Index := 2#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v4297 : Index := Scalar.indexCast v2824
  let c0_2245 : Index := 0#32
  ![1, 1, 2, v4297.toNat, 0]
def k0_mult36 (k0_t1 : Fin k0_t1_loop.trips) : BitVec 32 :=
  let c128_i32_2261 : BitVec 32 := 128#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v4361 : BitVec 32 := Scalar.muli c128_i32_2261 v2822
  v4361
def k0_off62 (k0_t1 : Fin k0_t1_loop.trips) : Fin 2 → Nat :=
  let c32_2262 : Index := 32#32
  let c128_i32_2261 : BitVec 32 := 128#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v4361 : BitVec 32 := Scalar.muli c128_i32_2261 v2822
  let v4362 : BitVec 32 := v4361
  let v4365 : Index := Scalar.indexCast v4362
  ![32, v4365.toNat]
def k0_mult37 (k0_t1 : Fin k0_t1_loop.trips) : BitVec 32 :=
  let c128_i32_2312 : BitVec 32 := 128#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v4509 : BitVec 32 := Scalar.muli c128_i32_2312 v2824
  v4509
def k0_off63 (k0_t1 : Fin k0_t1_loop.trips) : Fin 2 → Nat :=
  let c32_2313 : Index := 32#32
  let c128_i32_2312 : BitVec 32 := 128#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v4509 : BitVec 32 := Scalar.muli c128_i32_2312 v2824
  let v4510 : BitVec 32 := v4509
  let v4513 : Index := Scalar.indexCast v4510
  ![32, v4513.toNat]
def k0_mult38 (k0_t1 : Fin k0_t1_loop.trips) : BitVec 32 :=
  let c128_i32_2376 : BitVec 32 := 128#32
  let c0_i32_1376 : BitVec 32 := 0#32
  let c1_i32_1377 : BitVec 32 := 1#32
  let arg40 : BitVec 32 := Scf.iv c0_i32_1376 c1_i32_1377 k0_t1
  let v4679 : BitVec 32 := Scalar.muli c128_i32_2376 arg40
  v4679
def k0_off64 (k0_t1 : Fin k0_t1_loop.trips) : Fin 2 → Nat :=
  let c32_2377 : Index := 32#32
  let c128_i32_2376 : BitVec 32 := 128#32
  let c0_i32_1376 : BitVec 32 := 0#32
  let c1_i32_1377 : BitVec 32 := 1#32
  let arg40 : BitVec 32 := Scf.iv c0_i32_1376 c1_i32_1377 k0_t1
  let v4679 : BitVec 32 := Scalar.muli c128_i32_2376 arg40
  let v4680 : BitVec 32 := v4679
  let v4681 : Index := Scalar.indexCast v4680
  ![32, v4681.toNat]
def k0_mult39 (k0_t1 : Fin k0_t1_loop.trips) : BitVec 32 :=
  let c128_i32_2378 : BitVec 32 := 128#32
  let c0_i32_1376 : BitVec 32 := 0#32
  let c1_i32_1377 : BitVec 32 := 1#32
  let arg40 : BitVec 32 := Scf.iv c0_i32_1376 c1_i32_1377 k0_t1
  let v4683 : BitVec 32 := Scalar.muli c128_i32_2378 arg40
  v4683
def k0_off65 (k0_t1 : Fin k0_t1_loop.trips) : Fin 3 → Nat :=
  let c0_2379 : Index := 0#32
  let c64_2380 : Index := 64#32
  let c128_i32_2378 : BitVec 32 := 128#32
  let c0_i32_1376 : BitVec 32 := 0#32
  let c1_i32_1377 : BitVec 32 := 1#32
  let arg40 : BitVec 32 := Scf.iv c0_i32_1376 c1_i32_1377 k0_t1
  let v4683 : BitVec 32 := Scalar.muli c128_i32_2378 arg40
  let v4684 : BitVec 32 := v4683
  let v4685 : Index := Scalar.indexCast v4684
  ![0, 64, v4685.toNat]
def k0_mult40 (k0_t1 : Fin k0_t1_loop.trips) : BitVec 32 :=
  let c128_i32_2388 : BitVec 32 := 128#32
  let c0_i32_1376 : BitVec 32 := 0#32
  let c1_i32_1377 : BitVec 32 := 1#32
  let arg40 : BitVec 32 := Scf.iv c0_i32_1376 c1_i32_1377 k0_t1
  let v4707 : BitVec 32 := Scalar.muli c128_i32_2388 arg40
  v4707
def k0_off66 (k0_t1 : Fin k0_t1_loop.trips) : Fin 3 → Nat :=
  let c1_2389 : Index := 1#32
  let c64_2390 : Index := 64#32
  let c128_i32_2388 : BitVec 32 := 128#32
  let c0_i32_1376 : BitVec 32 := 0#32
  let c1_i32_1377 : BitVec 32 := 1#32
  let arg40 : BitVec 32 := Scf.iv c0_i32_1376 c1_i32_1377 k0_t1
  let v4707 : BitVec 32 := Scalar.muli c128_i32_2388 arg40
  let v4708 : BitVec 32 := v4707
  let v4709 : Index := Scalar.indexCast v4708
  ![1, 64, v4709.toNat]
def k0_mult41 (k0_t1 : Fin k0_t1_loop.trips) : BitVec 32 :=
  let c128_i32_2398 : BitVec 32 := 128#32
  let c0_i32_1376 : BitVec 32 := 0#32
  let c1_i32_1377 : BitVec 32 := 1#32
  let arg40 : BitVec 32 := Scf.iv c0_i32_1376 c1_i32_1377 k0_t1
  let v4731 : BitVec 32 := Scalar.muli c128_i32_2398 arg40
  v4731
def k0_off67 (k0_t1 : Fin k0_t1_loop.trips) : Fin 3 → Nat :=
  let c2_2399 : Index := 2#32
  let c64_2400 : Index := 64#32
  let c128_i32_2398 : BitVec 32 := 128#32
  let c0_i32_1376 : BitVec 32 := 0#32
  let c1_i32_1377 : BitVec 32 := 1#32
  let arg40 : BitVec 32 := Scf.iv c0_i32_1376 c1_i32_1377 k0_t1
  let v4731 : BitVec 32 := Scalar.muli c128_i32_2398 arg40
  let v4732 : BitVec 32 := v4731
  let v4733 : Index := Scalar.indexCast v4732
  ![2, 64, v4733.toNat]
def k0_mult42 (k0_t1 : Fin k0_t1_loop.trips) : BitVec 32 :=
  let c128_i32_2408 : BitVec 32 := 128#32
  let c0_i32_1376 : BitVec 32 := 0#32
  let c1_i32_1377 : BitVec 32 := 1#32
  let arg40 : BitVec 32 := Scf.iv c0_i32_1376 c1_i32_1377 k0_t1
  let v4755 : BitVec 32 := Scalar.muli c128_i32_2408 arg40
  v4755
def k0_off68 (k0_t1 : Fin k0_t1_loop.trips) : Fin 3 → Nat :=
  let c3_2409 : Index := 3#32
  let c64_2410 : Index := 64#32
  let c128_i32_2408 : BitVec 32 := 128#32
  let c0_i32_1376 : BitVec 32 := 0#32
  let c1_i32_1377 : BitVec 32 := 1#32
  let arg40 : BitVec 32 := Scf.iv c0_i32_1376 c1_i32_1377 k0_t1
  let v4755 : BitVec 32 := Scalar.muli c128_i32_2408 arg40
  let v4756 : BitVec 32 := v4755
  let v4757 : Index := Scalar.indexCast v4756
  ![3, 64, v4757.toNat]
def k0_mult43 (k0_t1 : Fin k0_t1_loop.trips) : BitVec 32 :=
  let c128_i32_2418 : BitVec 32 := 128#32
  let c0_i32_1376 : BitVec 32 := 0#32
  let c1_i32_1377 : BitVec 32 := 1#32
  let arg40 : BitVec 32 := Scf.iv c0_i32_1376 c1_i32_1377 k0_t1
  let v4779 : BitVec 32 := Scalar.muli c128_i32_2418 arg40
  v4779
def k0_off69 (k0_t1 : Fin k0_t1_loop.trips) : Fin 3 → Nat :=
  let c4_2419 : Index := 4#32
  let c64_2420 : Index := 64#32
  let c128_i32_2418 : BitVec 32 := 128#32
  let c0_i32_1376 : BitVec 32 := 0#32
  let c1_i32_1377 : BitVec 32 := 1#32
  let arg40 : BitVec 32 := Scf.iv c0_i32_1376 c1_i32_1377 k0_t1
  let v4779 : BitVec 32 := Scalar.muli c128_i32_2418 arg40
  let v4780 : BitVec 32 := v4779
  let v4781 : Index := Scalar.indexCast v4780
  ![4, 64, v4781.toNat]
def k0_mult44 (k0_t1 : Fin k0_t1_loop.trips) : BitVec 32 :=
  let c128_i32_2428 : BitVec 32 := 128#32
  let c0_i32_1376 : BitVec 32 := 0#32
  let c1_i32_1377 : BitVec 32 := 1#32
  let arg40 : BitVec 32 := Scf.iv c0_i32_1376 c1_i32_1377 k0_t1
  let v4803 : BitVec 32 := Scalar.muli c128_i32_2428 arg40
  v4803
def k0_off70 (k0_t1 : Fin k0_t1_loop.trips) : Fin 3 → Nat :=
  let c5_2429 : Index := 5#32
  let c64_2430 : Index := 64#32
  let c128_i32_2428 : BitVec 32 := 128#32
  let c0_i32_1376 : BitVec 32 := 0#32
  let c1_i32_1377 : BitVec 32 := 1#32
  let arg40 : BitVec 32 := Scf.iv c0_i32_1376 c1_i32_1377 k0_t1
  let v4803 : BitVec 32 := Scalar.muli c128_i32_2428 arg40
  let v4804 : BitVec 32 := v4803
  let v4805 : Index := Scalar.indexCast v4804
  ![5, 64, v4805.toNat]
def k0_mult45 (k0_t1 : Fin k0_t1_loop.trips) : BitVec 32 :=
  let c128_i32_2438 : BitVec 32 := 128#32
  let c0_i32_1376 : BitVec 32 := 0#32
  let c1_i32_1377 : BitVec 32 := 1#32
  let arg40 : BitVec 32 := Scf.iv c0_i32_1376 c1_i32_1377 k0_t1
  let v4827 : BitVec 32 := Scalar.muli c128_i32_2438 arg40
  v4827
def k0_off71 (k0_t1 : Fin k0_t1_loop.trips) : Fin 3 → Nat :=
  let c6_2439 : Index := 6#32
  let c64_2440 : Index := 64#32
  let c128_i32_2438 : BitVec 32 := 128#32
  let c0_i32_1376 : BitVec 32 := 0#32
  let c1_i32_1377 : BitVec 32 := 1#32
  let arg40 : BitVec 32 := Scf.iv c0_i32_1376 c1_i32_1377 k0_t1
  let v4827 : BitVec 32 := Scalar.muli c128_i32_2438 arg40
  let v4828 : BitVec 32 := v4827
  let v4829 : Index := Scalar.indexCast v4828
  ![6, 64, v4829.toNat]
def k0_mult46 (k0_t1 : Fin k0_t1_loop.trips) : BitVec 32 :=
  let c128_i32_2448 : BitVec 32 := 128#32
  let c0_i32_1376 : BitVec 32 := 0#32
  let c1_i32_1377 : BitVec 32 := 1#32
  let arg40 : BitVec 32 := Scf.iv c0_i32_1376 c1_i32_1377 k0_t1
  let v4851 : BitVec 32 := Scalar.muli c128_i32_2448 arg40
  v4851
def k0_off72 (k0_t1 : Fin k0_t1_loop.trips) : Fin 3 → Nat :=
  let c7_2449 : Index := 7#32
  let c64_2450 : Index := 64#32
  let c128_i32_2448 : BitVec 32 := 128#32
  let c0_i32_1376 : BitVec 32 := 0#32
  let c1_i32_1377 : BitVec 32 := 1#32
  let arg40 : BitVec 32 := Scf.iv c0_i32_1376 c1_i32_1377 k0_t1
  let v4851 : BitVec 32 := Scalar.muli c128_i32_2448 arg40
  let v4852 : BitVec 32 := v4851
  let v4853 : Index := Scalar.indexCast v4852
  ![7, 64, v4853.toNat]
def k0_mult47 (k0_t1 : Fin k0_t1_loop.trips) : BitVec 32 :=
  let c128_i32_2458 : BitVec 32 := 128#32
  let c0_i32_1376 : BitVec 32 := 0#32
  let c1_i32_1377 : BitVec 32 := 1#32
  let arg40 : BitVec 32 := Scf.iv c0_i32_1376 c1_i32_1377 k0_t1
  let v4875 : BitVec 32 := Scalar.muli c128_i32_2458 arg40
  v4875
def k0_off73 (k0_t1 : Fin k0_t1_loop.trips) : Fin 3 → Nat :=
  let c8_2459 : Index := 8#32
  let c64_2460 : Index := 64#32
  let c128_i32_2458 : BitVec 32 := 128#32
  let c0_i32_1376 : BitVec 32 := 0#32
  let c1_i32_1377 : BitVec 32 := 1#32
  let arg40 : BitVec 32 := Scf.iv c0_i32_1376 c1_i32_1377 k0_t1
  let v4875 : BitVec 32 := Scalar.muli c128_i32_2458 arg40
  let v4876 : BitVec 32 := v4875
  let v4877 : Index := Scalar.indexCast v4876
  ![8, 64, v4877.toNat]
def k0_mult48 (k0_t1 : Fin k0_t1_loop.trips) : BitVec 32 :=
  let c128_i32_2468 : BitVec 32 := 128#32
  let c0_i32_1376 : BitVec 32 := 0#32
  let c1_i32_1377 : BitVec 32 := 1#32
  let arg40 : BitVec 32 := Scf.iv c0_i32_1376 c1_i32_1377 k0_t1
  let v4899 : BitVec 32 := Scalar.muli c128_i32_2468 arg40
  v4899
def k0_off74 (k0_t1 : Fin k0_t1_loop.trips) : Fin 3 → Nat :=
  let c9_2469 : Index := 9#32
  let c64_2470 : Index := 64#32
  let c128_i32_2468 : BitVec 32 := 128#32
  let c0_i32_1376 : BitVec 32 := 0#32
  let c1_i32_1377 : BitVec 32 := 1#32
  let arg40 : BitVec 32 := Scf.iv c0_i32_1376 c1_i32_1377 k0_t1
  let v4899 : BitVec 32 := Scalar.muli c128_i32_2468 arg40
  let v4900 : BitVec 32 := v4899
  let v4901 : Index := Scalar.indexCast v4900
  ![9, 64, v4901.toNat]
def k0_mult49 (k0_t1 : Fin k0_t1_loop.trips) : BitVec 32 :=
  let c128_i32_2478 : BitVec 32 := 128#32
  let c0_i32_1376 : BitVec 32 := 0#32
  let c1_i32_1377 : BitVec 32 := 1#32
  let arg40 : BitVec 32 := Scf.iv c0_i32_1376 c1_i32_1377 k0_t1
  let v4923 : BitVec 32 := Scalar.muli c128_i32_2478 arg40
  v4923
def k0_off75 (k0_t1 : Fin k0_t1_loop.trips) : Fin 3 → Nat :=
  let c10_2479 : Index := 10#32
  let c64_2480 : Index := 64#32
  let c128_i32_2478 : BitVec 32 := 128#32
  let c0_i32_1376 : BitVec 32 := 0#32
  let c1_i32_1377 : BitVec 32 := 1#32
  let arg40 : BitVec 32 := Scf.iv c0_i32_1376 c1_i32_1377 k0_t1
  let v4923 : BitVec 32 := Scalar.muli c128_i32_2478 arg40
  let v4924 : BitVec 32 := v4923
  let v4925 : Index := Scalar.indexCast v4924
  ![10, 64, v4925.toNat]
def k0_mult50 (k0_t1 : Fin k0_t1_loop.trips) : BitVec 32 :=
  let c128_i32_2488 : BitVec 32 := 128#32
  let c0_i32_1376 : BitVec 32 := 0#32
  let c1_i32_1377 : BitVec 32 := 1#32
  let arg40 : BitVec 32 := Scf.iv c0_i32_1376 c1_i32_1377 k0_t1
  let v4947 : BitVec 32 := Scalar.muli c128_i32_2488 arg40
  v4947
def k0_off76 (k0_t1 : Fin k0_t1_loop.trips) : Fin 3 → Nat :=
  let c11_2489 : Index := 11#32
  let c64_2490 : Index := 64#32
  let c128_i32_2488 : BitVec 32 := 128#32
  let c0_i32_1376 : BitVec 32 := 0#32
  let c1_i32_1377 : BitVec 32 := 1#32
  let arg40 : BitVec 32 := Scf.iv c0_i32_1376 c1_i32_1377 k0_t1
  let v4947 : BitVec 32 := Scalar.muli c128_i32_2488 arg40
  let v4948 : BitVec 32 := v4947
  let v4949 : Index := Scalar.indexCast v4948
  ![11, 64, v4949.toNat]
def k0_mult51 (k0_t1 : Fin k0_t1_loop.trips) : BitVec 32 :=
  let c128_i32_2498 : BitVec 32 := 128#32
  let c0_i32_1376 : BitVec 32 := 0#32
  let c1_i32_1377 : BitVec 32 := 1#32
  let arg40 : BitVec 32 := Scf.iv c0_i32_1376 c1_i32_1377 k0_t1
  let v4971 : BitVec 32 := Scalar.muli c128_i32_2498 arg40
  v4971
def k0_off77 (k0_t1 : Fin k0_t1_loop.trips) : Fin 3 → Nat :=
  let c12_2499 : Index := 12#32
  let c64_2500 : Index := 64#32
  let c128_i32_2498 : BitVec 32 := 128#32
  let c0_i32_1376 : BitVec 32 := 0#32
  let c1_i32_1377 : BitVec 32 := 1#32
  let arg40 : BitVec 32 := Scf.iv c0_i32_1376 c1_i32_1377 k0_t1
  let v4971 : BitVec 32 := Scalar.muli c128_i32_2498 arg40
  let v4972 : BitVec 32 := v4971
  let v4973 : Index := Scalar.indexCast v4972
  ![12, 64, v4973.toNat]
def k0_mult52 (k0_t1 : Fin k0_t1_loop.trips) : BitVec 32 :=
  let c128_i32_2508 : BitVec 32 := 128#32
  let c0_i32_1376 : BitVec 32 := 0#32
  let c1_i32_1377 : BitVec 32 := 1#32
  let arg40 : BitVec 32 := Scf.iv c0_i32_1376 c1_i32_1377 k0_t1
  let v4995 : BitVec 32 := Scalar.muli c128_i32_2508 arg40
  v4995
def k0_off78 (k0_t1 : Fin k0_t1_loop.trips) : Fin 3 → Nat :=
  let c13_2509 : Index := 13#32
  let c64_2510 : Index := 64#32
  let c128_i32_2508 : BitVec 32 := 128#32
  let c0_i32_1376 : BitVec 32 := 0#32
  let c1_i32_1377 : BitVec 32 := 1#32
  let arg40 : BitVec 32 := Scf.iv c0_i32_1376 c1_i32_1377 k0_t1
  let v4995 : BitVec 32 := Scalar.muli c128_i32_2508 arg40
  let v4996 : BitVec 32 := v4995
  let v4997 : Index := Scalar.indexCast v4996
  ![13, 64, v4997.toNat]
def k0_mult53 (k0_t1 : Fin k0_t1_loop.trips) : BitVec 32 :=
  let c128_i32_2518 : BitVec 32 := 128#32
  let c0_i32_1376 : BitVec 32 := 0#32
  let c1_i32_1377 : BitVec 32 := 1#32
  let arg40 : BitVec 32 := Scf.iv c0_i32_1376 c1_i32_1377 k0_t1
  let v5019 : BitVec 32 := Scalar.muli c128_i32_2518 arg40
  v5019
def k0_off79 (k0_t1 : Fin k0_t1_loop.trips) : Fin 3 → Nat :=
  let c14_2519 : Index := 14#32
  let c64_2520 : Index := 64#32
  let c128_i32_2518 : BitVec 32 := 128#32
  let c0_i32_1376 : BitVec 32 := 0#32
  let c1_i32_1377 : BitVec 32 := 1#32
  let arg40 : BitVec 32 := Scf.iv c0_i32_1376 c1_i32_1377 k0_t1
  let v5019 : BitVec 32 := Scalar.muli c128_i32_2518 arg40
  let v5020 : BitVec 32 := v5019
  let v5021 : Index := Scalar.indexCast v5020
  ![14, 64, v5021.toNat]
def k0_mult54 (k0_t1 : Fin k0_t1_loop.trips) : BitVec 32 :=
  let c128_i32_2528 : BitVec 32 := 128#32
  let c0_i32_1376 : BitVec 32 := 0#32
  let c1_i32_1377 : BitVec 32 := 1#32
  let arg40 : BitVec 32 := Scf.iv c0_i32_1376 c1_i32_1377 k0_t1
  let v5043 : BitVec 32 := Scalar.muli c128_i32_2528 arg40
  v5043
def k0_off80 (k0_t1 : Fin k0_t1_loop.trips) : Fin 3 → Nat :=
  let c15_2529 : Index := 15#32
  let c64_2530 : Index := 64#32
  let c128_i32_2528 : BitVec 32 := 128#32
  let c0_i32_1376 : BitVec 32 := 0#32
  let c1_i32_1377 : BitVec 32 := 1#32
  let arg40 : BitVec 32 := Scf.iv c0_i32_1376 c1_i32_1377 k0_t1
  let v5043 : BitVec 32 := Scalar.muli c128_i32_2528 arg40
  let v5044 : BitVec 32 := v5043
  let v5045 : Index := Scalar.indexCast v5044
  ![15, 64, v5045.toNat]
def k0_off81 (k0_t1 : Fin k0_t1_loop.trips) : Fin 5 → Nat :=
  let c2_2538 : Index := 2#32
  let c0_2539 : Index := 0#32
  let c0_2540 : Index := 0#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v5070 : Index := Scalar.indexCast v2822
  let c0_2541 : Index := 0#32
  ![2, 0, 0, v5070.toNat, 0]
def k0_off82 (k0_t1 : Fin k0_t1_loop.trips) : Fin 5 → Nat :=
  let c2_2546 : Index := 2#32
  let c0_2547 : Index := 0#32
  let c0_2548 : Index := 0#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v5083 : Index := Scalar.indexCast v2824
  let c0_2549 : Index := 0#32
  ![2, 0, 0, v5083.toNat, 0]
def k0_off83 (k0_t1 : Fin k0_t1_loop.trips) : Fin 5 → Nat :=
  let c2_2554 : Index := 2#32
  let c0_2555 : Index := 0#32
  let c1_2556 : Index := 1#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v5096 : Index := Scalar.indexCast v2822
  let c0_2557 : Index := 0#32
  ![2, 0, 1, v5096.toNat, 0]
def k0_off84 (k0_t1 : Fin k0_t1_loop.trips) : Fin 5 → Nat :=
  let c2_2562 : Index := 2#32
  let c0_2563 : Index := 0#32
  let c1_2564 : Index := 1#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v5109 : Index := Scalar.indexCast v2824
  let c0_2565 : Index := 0#32
  ![2, 0, 1, v5109.toNat, 0]
def k0_off85 (k0_t1 : Fin k0_t1_loop.trips) : Fin 5 → Nat :=
  let c2_2570 : Index := 2#32
  let c0_2571 : Index := 0#32
  let c2_2572 : Index := 2#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v5122 : Index := Scalar.indexCast v2822
  let c0_2573 : Index := 0#32
  ![2, 0, 2, v5122.toNat, 0]
def k0_off86 (k0_t1 : Fin k0_t1_loop.trips) : Fin 5 → Nat :=
  let c2_2578 : Index := 2#32
  let c0_2579 : Index := 0#32
  let c2_2580 : Index := 2#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v5135 : Index := Scalar.indexCast v2824
  let c0_2581 : Index := 0#32
  ![2, 0, 2, v5135.toNat, 0]
def k0_off87 (k0_t1 : Fin k0_t1_loop.trips) : Fin 5 → Nat :=
  let c2_2587 : Index := 2#32
  let c1_2588 : Index := 1#32
  let c0_2589 : Index := 0#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v5154 : Index := Scalar.indexCast v2822
  let c0_2590 : Index := 0#32
  ![2, 1, 0, v5154.toNat, 0]
def k0_off88 (k0_t1 : Fin k0_t1_loop.trips) : Fin 5 → Nat :=
  let c2_2595 : Index := 2#32
  let c1_2596 : Index := 1#32
  let c0_2597 : Index := 0#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v5167 : Index := Scalar.indexCast v2824
  let c0_2598 : Index := 0#32
  ![2, 1, 0, v5167.toNat, 0]
def k0_off89 (k0_t1 : Fin k0_t1_loop.trips) : Fin 5 → Nat :=
  let c2_2603 : Index := 2#32
  let c1_2604 : Index := 1#32
  let c1_2605 : Index := 1#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v5180 : Index := Scalar.indexCast v2822
  let c0_2606 : Index := 0#32
  ![2, 1, 1, v5180.toNat, 0]
def k0_off90 (k0_t1 : Fin k0_t1_loop.trips) : Fin 5 → Nat :=
  let c2_2611 : Index := 2#32
  let c1_2612 : Index := 1#32
  let c1_2613 : Index := 1#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v5193 : Index := Scalar.indexCast v2824
  let c0_2614 : Index := 0#32
  ![2, 1, 1, v5193.toNat, 0]
def k0_off91 (k0_t1 : Fin k0_t1_loop.trips) : Fin 5 → Nat :=
  let c2_2619 : Index := 2#32
  let c1_2620 : Index := 1#32
  let c2_2621 : Index := 2#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v5206 : Index := Scalar.indexCast v2822
  let c0_2622 : Index := 0#32
  ![2, 1, 2, v5206.toNat, 0]
def k0_off92 (k0_t1 : Fin k0_t1_loop.trips) : Fin 5 → Nat :=
  let c2_2627 : Index := 2#32
  let c1_2628 : Index := 1#32
  let c2_2629 : Index := 2#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v5219 : Index := Scalar.indexCast v2824
  let c0_2630 : Index := 0#32
  ![2, 1, 2, v5219.toNat, 0]
def k0_mult55 (k0_t1 : Fin k0_t1_loop.trips) : BitVec 32 :=
  let c128_i32_2646 : BitVec 32 := 128#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v5283 : BitVec 32 := Scalar.muli c128_i32_2646 v2822
  v5283
def k0_off93 (k0_t1 : Fin k0_t1_loop.trips) : Fin 2 → Nat :=
  let c64_2647 : Index := 64#32
  let c128_i32_2646 : BitVec 32 := 128#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v5283 : BitVec 32 := Scalar.muli c128_i32_2646 v2822
  let v5284 : BitVec 32 := v5283
  let v5287 : Index := Scalar.indexCast v5284
  ![64, v5287.toNat]
def k0_mult56 (k0_t1 : Fin k0_t1_loop.trips) : BitVec 32 :=
  let c128_i32_2697 : BitVec 32 := 128#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v5431 : BitVec 32 := Scalar.muli c128_i32_2697 v2824
  v5431
def k0_off94 (k0_t1 : Fin k0_t1_loop.trips) : Fin 2 → Nat :=
  let c64_2698 : Index := 64#32
  let c128_i32_2697 : BitVec 32 := 128#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v5431 : BitVec 32 := Scalar.muli c128_i32_2697 v2824
  let v5432 : BitVec 32 := v5431
  let v5435 : Index := Scalar.indexCast v5432
  ![64, v5435.toNat]
def k0_mult57 (k0_t1 : Fin k0_t1_loop.trips) : BitVec 32 :=
  let c128_i32_2761 : BitVec 32 := 128#32
  let c0_i32_1376 : BitVec 32 := 0#32
  let c1_i32_1377 : BitVec 32 := 1#32
  let arg40 : BitVec 32 := Scf.iv c0_i32_1376 c1_i32_1377 k0_t1
  let v5601 : BitVec 32 := Scalar.muli c128_i32_2761 arg40
  v5601
def k0_off95 (k0_t1 : Fin k0_t1_loop.trips) : Fin 2 → Nat :=
  let c64_2762 : Index := 64#32
  let c128_i32_2761 : BitVec 32 := 128#32
  let c0_i32_1376 : BitVec 32 := 0#32
  let c1_i32_1377 : BitVec 32 := 1#32
  let arg40 : BitVec 32 := Scf.iv c0_i32_1376 c1_i32_1377 k0_t1
  let v5601 : BitVec 32 := Scalar.muli c128_i32_2761 arg40
  let v5602 : BitVec 32 := v5601
  let v5603 : Index := Scalar.indexCast v5602
  ![64, v5603.toNat]
def k0_mult58 (k0_t1 : Fin k0_t1_loop.trips) : BitVec 32 :=
  let c128_i32_2763 : BitVec 32 := 128#32
  let c0_i32_1376 : BitVec 32 := 0#32
  let c1_i32_1377 : BitVec 32 := 1#32
  let arg40 : BitVec 32 := Scf.iv c0_i32_1376 c1_i32_1377 k0_t1
  let v5605 : BitVec 32 := Scalar.muli c128_i32_2763 arg40
  v5605
def k0_off96 (k0_t1 : Fin k0_t1_loop.trips) : Fin 3 → Nat :=
  let c0_2764 : Index := 0#32
  let c96_2765 : Index := 96#32
  let c128_i32_2763 : BitVec 32 := 128#32
  let c0_i32_1376 : BitVec 32 := 0#32
  let c1_i32_1377 : BitVec 32 := 1#32
  let arg40 : BitVec 32 := Scf.iv c0_i32_1376 c1_i32_1377 k0_t1
  let v5605 : BitVec 32 := Scalar.muli c128_i32_2763 arg40
  let v5606 : BitVec 32 := v5605
  let v5607 : Index := Scalar.indexCast v5606
  ![0, 96, v5607.toNat]
def k0_mult59 (k0_t1 : Fin k0_t1_loop.trips) : BitVec 32 :=
  let c128_i32_2773 : BitVec 32 := 128#32
  let c0_i32_1376 : BitVec 32 := 0#32
  let c1_i32_1377 : BitVec 32 := 1#32
  let arg40 : BitVec 32 := Scf.iv c0_i32_1376 c1_i32_1377 k0_t1
  let v5629 : BitVec 32 := Scalar.muli c128_i32_2773 arg40
  v5629
def k0_off97 (k0_t1 : Fin k0_t1_loop.trips) : Fin 3 → Nat :=
  let c1_2774 : Index := 1#32
  let c96_2775 : Index := 96#32
  let c128_i32_2773 : BitVec 32 := 128#32
  let c0_i32_1376 : BitVec 32 := 0#32
  let c1_i32_1377 : BitVec 32 := 1#32
  let arg40 : BitVec 32 := Scf.iv c0_i32_1376 c1_i32_1377 k0_t1
  let v5629 : BitVec 32 := Scalar.muli c128_i32_2773 arg40
  let v5630 : BitVec 32 := v5629
  let v5631 : Index := Scalar.indexCast v5630
  ![1, 96, v5631.toNat]
def k0_mult60 (k0_t1 : Fin k0_t1_loop.trips) : BitVec 32 :=
  let c128_i32_2783 : BitVec 32 := 128#32
  let c0_i32_1376 : BitVec 32 := 0#32
  let c1_i32_1377 : BitVec 32 := 1#32
  let arg40 : BitVec 32 := Scf.iv c0_i32_1376 c1_i32_1377 k0_t1
  let v5653 : BitVec 32 := Scalar.muli c128_i32_2783 arg40
  v5653
def k0_off98 (k0_t1 : Fin k0_t1_loop.trips) : Fin 3 → Nat :=
  let c2_2784 : Index := 2#32
  let c96_2785 : Index := 96#32
  let c128_i32_2783 : BitVec 32 := 128#32
  let c0_i32_1376 : BitVec 32 := 0#32
  let c1_i32_1377 : BitVec 32 := 1#32
  let arg40 : BitVec 32 := Scf.iv c0_i32_1376 c1_i32_1377 k0_t1
  let v5653 : BitVec 32 := Scalar.muli c128_i32_2783 arg40
  let v5654 : BitVec 32 := v5653
  let v5655 : Index := Scalar.indexCast v5654
  ![2, 96, v5655.toNat]
def k0_mult61 (k0_t1 : Fin k0_t1_loop.trips) : BitVec 32 :=
  let c128_i32_2793 : BitVec 32 := 128#32
  let c0_i32_1376 : BitVec 32 := 0#32
  let c1_i32_1377 : BitVec 32 := 1#32
  let arg40 : BitVec 32 := Scf.iv c0_i32_1376 c1_i32_1377 k0_t1
  let v5677 : BitVec 32 := Scalar.muli c128_i32_2793 arg40
  v5677
def k0_off99 (k0_t1 : Fin k0_t1_loop.trips) : Fin 3 → Nat :=
  let c3_2794 : Index := 3#32
  let c96_2795 : Index := 96#32
  let c128_i32_2793 : BitVec 32 := 128#32
  let c0_i32_1376 : BitVec 32 := 0#32
  let c1_i32_1377 : BitVec 32 := 1#32
  let arg40 : BitVec 32 := Scf.iv c0_i32_1376 c1_i32_1377 k0_t1
  let v5677 : BitVec 32 := Scalar.muli c128_i32_2793 arg40
  let v5678 : BitVec 32 := v5677
  let v5679 : Index := Scalar.indexCast v5678
  ![3, 96, v5679.toNat]
def k0_mult62 (k0_t1 : Fin k0_t1_loop.trips) : BitVec 32 :=
  let c128_i32_2803 : BitVec 32 := 128#32
  let c0_i32_1376 : BitVec 32 := 0#32
  let c1_i32_1377 : BitVec 32 := 1#32
  let arg40 : BitVec 32 := Scf.iv c0_i32_1376 c1_i32_1377 k0_t1
  let v5701 : BitVec 32 := Scalar.muli c128_i32_2803 arg40
  v5701
def k0_off100 (k0_t1 : Fin k0_t1_loop.trips) : Fin 3 → Nat :=
  let c4_2804 : Index := 4#32
  let c96_2805 : Index := 96#32
  let c128_i32_2803 : BitVec 32 := 128#32
  let c0_i32_1376 : BitVec 32 := 0#32
  let c1_i32_1377 : BitVec 32 := 1#32
  let arg40 : BitVec 32 := Scf.iv c0_i32_1376 c1_i32_1377 k0_t1
  let v5701 : BitVec 32 := Scalar.muli c128_i32_2803 arg40
  let v5702 : BitVec 32 := v5701
  let v5703 : Index := Scalar.indexCast v5702
  ![4, 96, v5703.toNat]
def k0_mult63 (k0_t1 : Fin k0_t1_loop.trips) : BitVec 32 :=
  let c128_i32_2813 : BitVec 32 := 128#32
  let c0_i32_1376 : BitVec 32 := 0#32
  let c1_i32_1377 : BitVec 32 := 1#32
  let arg40 : BitVec 32 := Scf.iv c0_i32_1376 c1_i32_1377 k0_t1
  let v5725 : BitVec 32 := Scalar.muli c128_i32_2813 arg40
  v5725
def k0_off101 (k0_t1 : Fin k0_t1_loop.trips) : Fin 3 → Nat :=
  let c5_2814 : Index := 5#32
  let c96_2815 : Index := 96#32
  let c128_i32_2813 : BitVec 32 := 128#32
  let c0_i32_1376 : BitVec 32 := 0#32
  let c1_i32_1377 : BitVec 32 := 1#32
  let arg40 : BitVec 32 := Scf.iv c0_i32_1376 c1_i32_1377 k0_t1
  let v5725 : BitVec 32 := Scalar.muli c128_i32_2813 arg40
  let v5726 : BitVec 32 := v5725
  let v5727 : Index := Scalar.indexCast v5726
  ![5, 96, v5727.toNat]
def k0_mult64 (k0_t1 : Fin k0_t1_loop.trips) : BitVec 32 :=
  let c128_i32_2823 : BitVec 32 := 128#32
  let c0_i32_1376 : BitVec 32 := 0#32
  let c1_i32_1377 : BitVec 32 := 1#32
  let arg40 : BitVec 32 := Scf.iv c0_i32_1376 c1_i32_1377 k0_t1
  let v5749 : BitVec 32 := Scalar.muli c128_i32_2823 arg40
  v5749
def k0_off102 (k0_t1 : Fin k0_t1_loop.trips) : Fin 3 → Nat :=
  let c6_2824 : Index := 6#32
  let c96_2825 : Index := 96#32
  let c128_i32_2823 : BitVec 32 := 128#32
  let c0_i32_1376 : BitVec 32 := 0#32
  let c1_i32_1377 : BitVec 32 := 1#32
  let arg40 : BitVec 32 := Scf.iv c0_i32_1376 c1_i32_1377 k0_t1
  let v5749 : BitVec 32 := Scalar.muli c128_i32_2823 arg40
  let v5750 : BitVec 32 := v5749
  let v5751 : Index := Scalar.indexCast v5750
  ![6, 96, v5751.toNat]
def k0_mult65 (k0_t1 : Fin k0_t1_loop.trips) : BitVec 32 :=
  let c128_i32_2833 : BitVec 32 := 128#32
  let c0_i32_1376 : BitVec 32 := 0#32
  let c1_i32_1377 : BitVec 32 := 1#32
  let arg40 : BitVec 32 := Scf.iv c0_i32_1376 c1_i32_1377 k0_t1
  let v5773 : BitVec 32 := Scalar.muli c128_i32_2833 arg40
  v5773
def k0_off103 (k0_t1 : Fin k0_t1_loop.trips) : Fin 3 → Nat :=
  let c7_2834 : Index := 7#32
  let c96_2835 : Index := 96#32
  let c128_i32_2833 : BitVec 32 := 128#32
  let c0_i32_1376 : BitVec 32 := 0#32
  let c1_i32_1377 : BitVec 32 := 1#32
  let arg40 : BitVec 32 := Scf.iv c0_i32_1376 c1_i32_1377 k0_t1
  let v5773 : BitVec 32 := Scalar.muli c128_i32_2833 arg40
  let v5774 : BitVec 32 := v5773
  let v5775 : Index := Scalar.indexCast v5774
  ![7, 96, v5775.toNat]
def k0_mult66 (k0_t1 : Fin k0_t1_loop.trips) : BitVec 32 :=
  let c128_i32_2843 : BitVec 32 := 128#32
  let c0_i32_1376 : BitVec 32 := 0#32
  let c1_i32_1377 : BitVec 32 := 1#32
  let arg40 : BitVec 32 := Scf.iv c0_i32_1376 c1_i32_1377 k0_t1
  let v5797 : BitVec 32 := Scalar.muli c128_i32_2843 arg40
  v5797
def k0_off104 (k0_t1 : Fin k0_t1_loop.trips) : Fin 3 → Nat :=
  let c8_2844 : Index := 8#32
  let c96_2845 : Index := 96#32
  let c128_i32_2843 : BitVec 32 := 128#32
  let c0_i32_1376 : BitVec 32 := 0#32
  let c1_i32_1377 : BitVec 32 := 1#32
  let arg40 : BitVec 32 := Scf.iv c0_i32_1376 c1_i32_1377 k0_t1
  let v5797 : BitVec 32 := Scalar.muli c128_i32_2843 arg40
  let v5798 : BitVec 32 := v5797
  let v5799 : Index := Scalar.indexCast v5798
  ![8, 96, v5799.toNat]
def k0_mult67 (k0_t1 : Fin k0_t1_loop.trips) : BitVec 32 :=
  let c128_i32_2853 : BitVec 32 := 128#32
  let c0_i32_1376 : BitVec 32 := 0#32
  let c1_i32_1377 : BitVec 32 := 1#32
  let arg40 : BitVec 32 := Scf.iv c0_i32_1376 c1_i32_1377 k0_t1
  let v5821 : BitVec 32 := Scalar.muli c128_i32_2853 arg40
  v5821
def k0_off105 (k0_t1 : Fin k0_t1_loop.trips) : Fin 3 → Nat :=
  let c9_2854 : Index := 9#32
  let c96_2855 : Index := 96#32
  let c128_i32_2853 : BitVec 32 := 128#32
  let c0_i32_1376 : BitVec 32 := 0#32
  let c1_i32_1377 : BitVec 32 := 1#32
  let arg40 : BitVec 32 := Scf.iv c0_i32_1376 c1_i32_1377 k0_t1
  let v5821 : BitVec 32 := Scalar.muli c128_i32_2853 arg40
  let v5822 : BitVec 32 := v5821
  let v5823 : Index := Scalar.indexCast v5822
  ![9, 96, v5823.toNat]
def k0_mult68 (k0_t1 : Fin k0_t1_loop.trips) : BitVec 32 :=
  let c128_i32_2863 : BitVec 32 := 128#32
  let c0_i32_1376 : BitVec 32 := 0#32
  let c1_i32_1377 : BitVec 32 := 1#32
  let arg40 : BitVec 32 := Scf.iv c0_i32_1376 c1_i32_1377 k0_t1
  let v5845 : BitVec 32 := Scalar.muli c128_i32_2863 arg40
  v5845
def k0_off106 (k0_t1 : Fin k0_t1_loop.trips) : Fin 3 → Nat :=
  let c10_2864 : Index := 10#32
  let c96_2865 : Index := 96#32
  let c128_i32_2863 : BitVec 32 := 128#32
  let c0_i32_1376 : BitVec 32 := 0#32
  let c1_i32_1377 : BitVec 32 := 1#32
  let arg40 : BitVec 32 := Scf.iv c0_i32_1376 c1_i32_1377 k0_t1
  let v5845 : BitVec 32 := Scalar.muli c128_i32_2863 arg40
  let v5846 : BitVec 32 := v5845
  let v5847 : Index := Scalar.indexCast v5846
  ![10, 96, v5847.toNat]
def k0_mult69 (k0_t1 : Fin k0_t1_loop.trips) : BitVec 32 :=
  let c128_i32_2873 : BitVec 32 := 128#32
  let c0_i32_1376 : BitVec 32 := 0#32
  let c1_i32_1377 : BitVec 32 := 1#32
  let arg40 : BitVec 32 := Scf.iv c0_i32_1376 c1_i32_1377 k0_t1
  let v5869 : BitVec 32 := Scalar.muli c128_i32_2873 arg40
  v5869
def k0_off107 (k0_t1 : Fin k0_t1_loop.trips) : Fin 3 → Nat :=
  let c11_2874 : Index := 11#32
  let c96_2875 : Index := 96#32
  let c128_i32_2873 : BitVec 32 := 128#32
  let c0_i32_1376 : BitVec 32 := 0#32
  let c1_i32_1377 : BitVec 32 := 1#32
  let arg40 : BitVec 32 := Scf.iv c0_i32_1376 c1_i32_1377 k0_t1
  let v5869 : BitVec 32 := Scalar.muli c128_i32_2873 arg40
  let v5870 : BitVec 32 := v5869
  let v5871 : Index := Scalar.indexCast v5870
  ![11, 96, v5871.toNat]
def k0_mult70 (k0_t1 : Fin k0_t1_loop.trips) : BitVec 32 :=
  let c128_i32_2883 : BitVec 32 := 128#32
  let c0_i32_1376 : BitVec 32 := 0#32
  let c1_i32_1377 : BitVec 32 := 1#32
  let arg40 : BitVec 32 := Scf.iv c0_i32_1376 c1_i32_1377 k0_t1
  let v5893 : BitVec 32 := Scalar.muli c128_i32_2883 arg40
  v5893
def k0_off108 (k0_t1 : Fin k0_t1_loop.trips) : Fin 3 → Nat :=
  let c12_2884 : Index := 12#32
  let c96_2885 : Index := 96#32
  let c128_i32_2883 : BitVec 32 := 128#32
  let c0_i32_1376 : BitVec 32 := 0#32
  let c1_i32_1377 : BitVec 32 := 1#32
  let arg40 : BitVec 32 := Scf.iv c0_i32_1376 c1_i32_1377 k0_t1
  let v5893 : BitVec 32 := Scalar.muli c128_i32_2883 arg40
  let v5894 : BitVec 32 := v5893
  let v5895 : Index := Scalar.indexCast v5894
  ![12, 96, v5895.toNat]
def k0_mult71 (k0_t1 : Fin k0_t1_loop.trips) : BitVec 32 :=
  let c128_i32_2893 : BitVec 32 := 128#32
  let c0_i32_1376 : BitVec 32 := 0#32
  let c1_i32_1377 : BitVec 32 := 1#32
  let arg40 : BitVec 32 := Scf.iv c0_i32_1376 c1_i32_1377 k0_t1
  let v5917 : BitVec 32 := Scalar.muli c128_i32_2893 arg40
  v5917
def k0_off109 (k0_t1 : Fin k0_t1_loop.trips) : Fin 3 → Nat :=
  let c13_2894 : Index := 13#32
  let c96_2895 : Index := 96#32
  let c128_i32_2893 : BitVec 32 := 128#32
  let c0_i32_1376 : BitVec 32 := 0#32
  let c1_i32_1377 : BitVec 32 := 1#32
  let arg40 : BitVec 32 := Scf.iv c0_i32_1376 c1_i32_1377 k0_t1
  let v5917 : BitVec 32 := Scalar.muli c128_i32_2893 arg40
  let v5918 : BitVec 32 := v5917
  let v5919 : Index := Scalar.indexCast v5918
  ![13, 96, v5919.toNat]
def k0_mult72 (k0_t1 : Fin k0_t1_loop.trips) : BitVec 32 :=
  let c128_i32_2903 : BitVec 32 := 128#32
  let c0_i32_1376 : BitVec 32 := 0#32
  let c1_i32_1377 : BitVec 32 := 1#32
  let arg40 : BitVec 32 := Scf.iv c0_i32_1376 c1_i32_1377 k0_t1
  let v5941 : BitVec 32 := Scalar.muli c128_i32_2903 arg40
  v5941
def k0_off110 (k0_t1 : Fin k0_t1_loop.trips) : Fin 3 → Nat :=
  let c14_2904 : Index := 14#32
  let c96_2905 : Index := 96#32
  let c128_i32_2903 : BitVec 32 := 128#32
  let c0_i32_1376 : BitVec 32 := 0#32
  let c1_i32_1377 : BitVec 32 := 1#32
  let arg40 : BitVec 32 := Scf.iv c0_i32_1376 c1_i32_1377 k0_t1
  let v5941 : BitVec 32 := Scalar.muli c128_i32_2903 arg40
  let v5942 : BitVec 32 := v5941
  let v5943 : Index := Scalar.indexCast v5942
  ![14, 96, v5943.toNat]
def k0_mult73 (k0_t1 : Fin k0_t1_loop.trips) : BitVec 32 :=
  let c128_i32_2913 : BitVec 32 := 128#32
  let c0_i32_1376 : BitVec 32 := 0#32
  let c1_i32_1377 : BitVec 32 := 1#32
  let arg40 : BitVec 32 := Scf.iv c0_i32_1376 c1_i32_1377 k0_t1
  let v5965 : BitVec 32 := Scalar.muli c128_i32_2913 arg40
  v5965
def k0_off111 (k0_t1 : Fin k0_t1_loop.trips) : Fin 3 → Nat :=
  let c15_2914 : Index := 15#32
  let c96_2915 : Index := 96#32
  let c128_i32_2913 : BitVec 32 := 128#32
  let c0_i32_1376 : BitVec 32 := 0#32
  let c1_i32_1377 : BitVec 32 := 1#32
  let arg40 : BitVec 32 := Scf.iv c0_i32_1376 c1_i32_1377 k0_t1
  let v5965 : BitVec 32 := Scalar.muli c128_i32_2913 arg40
  let v5966 : BitVec 32 := v5965
  let v5967 : Index := Scalar.indexCast v5966
  ![15, 96, v5967.toNat]
def k0_off112 (k0_t1 : Fin k0_t1_loop.trips) : Fin 5 → Nat :=
  let c3_2923 : Index := 3#32
  let c0_2924 : Index := 0#32
  let c0_2925 : Index := 0#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v5992 : Index := Scalar.indexCast v2822
  let c0_2926 : Index := 0#32
  ![3, 0, 0, v5992.toNat, 0]
def k0_off113 (k0_t1 : Fin k0_t1_loop.trips) : Fin 5 → Nat :=
  let c3_2931 : Index := 3#32
  let c0_2932 : Index := 0#32
  let c0_2933 : Index := 0#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v6005 : Index := Scalar.indexCast v2824
  let c0_2934 : Index := 0#32
  ![3, 0, 0, v6005.toNat, 0]
def k0_off114 (k0_t1 : Fin k0_t1_loop.trips) : Fin 5 → Nat :=
  let c3_2939 : Index := 3#32
  let c0_2940 : Index := 0#32
  let c1_2941 : Index := 1#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v6018 : Index := Scalar.indexCast v2822
  let c0_2942 : Index := 0#32
  ![3, 0, 1, v6018.toNat, 0]
def k0_off115 (k0_t1 : Fin k0_t1_loop.trips) : Fin 5 → Nat :=
  let c3_2947 : Index := 3#32
  let c0_2948 : Index := 0#32
  let c1_2949 : Index := 1#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v6031 : Index := Scalar.indexCast v2824
  let c0_2950 : Index := 0#32
  ![3, 0, 1, v6031.toNat, 0]
def k0_off116 (k0_t1 : Fin k0_t1_loop.trips) : Fin 5 → Nat :=
  let c3_2955 : Index := 3#32
  let c0_2956 : Index := 0#32
  let c2_2957 : Index := 2#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v6044 : Index := Scalar.indexCast v2822
  let c0_2958 : Index := 0#32
  ![3, 0, 2, v6044.toNat, 0]
def k0_off117 (k0_t1 : Fin k0_t1_loop.trips) : Fin 5 → Nat :=
  let c3_2963 : Index := 3#32
  let c0_2964 : Index := 0#32
  let c2_2965 : Index := 2#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v6057 : Index := Scalar.indexCast v2824
  let c0_2966 : Index := 0#32
  ![3, 0, 2, v6057.toNat, 0]
def k0_off118 (k0_t1 : Fin k0_t1_loop.trips) : Fin 5 → Nat :=
  let c3_2972 : Index := 3#32
  let c1_2973 : Index := 1#32
  let c0_2974 : Index := 0#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v6076 : Index := Scalar.indexCast v2822
  let c0_2975 : Index := 0#32
  ![3, 1, 0, v6076.toNat, 0]
def k0_off119 (k0_t1 : Fin k0_t1_loop.trips) : Fin 5 → Nat :=
  let c3_2980 : Index := 3#32
  let c1_2981 : Index := 1#32
  let c0_2982 : Index := 0#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v6089 : Index := Scalar.indexCast v2824
  let c0_2983 : Index := 0#32
  ![3, 1, 0, v6089.toNat, 0]
def k0_off120 (k0_t1 : Fin k0_t1_loop.trips) : Fin 5 → Nat :=
  let c3_2988 : Index := 3#32
  let c1_2989 : Index := 1#32
  let c1_2990 : Index := 1#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v6102 : Index := Scalar.indexCast v2822
  let c0_2991 : Index := 0#32
  ![3, 1, 1, v6102.toNat, 0]
def k0_off121 (k0_t1 : Fin k0_t1_loop.trips) : Fin 5 → Nat :=
  let c3_2996 : Index := 3#32
  let c1_2997 : Index := 1#32
  let c1_2998 : Index := 1#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v6115 : Index := Scalar.indexCast v2824
  let c0_2999 : Index := 0#32
  ![3, 1, 1, v6115.toNat, 0]
def k0_off122 (k0_t1 : Fin k0_t1_loop.trips) : Fin 5 → Nat :=
  let c3_3004 : Index := 3#32
  let c1_3005 : Index := 1#32
  let c2_3006 : Index := 2#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v6128 : Index := Scalar.indexCast v2822
  let c0_3007 : Index := 0#32
  ![3, 1, 2, v6128.toNat, 0]
def k0_off123 (k0_t1 : Fin k0_t1_loop.trips) : Fin 5 → Nat :=
  let c3_3012 : Index := 3#32
  let c1_3013 : Index := 1#32
  let c2_3014 : Index := 2#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v6141 : Index := Scalar.indexCast v2824
  let c0_3015 : Index := 0#32
  ![3, 1, 2, v6141.toNat, 0]
def k0_mult74 (k0_t1 : Fin k0_t1_loop.trips) : BitVec 32 :=
  let c128_i32_3031 : BitVec 32 := 128#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v6205 : BitVec 32 := Scalar.muli c128_i32_3031 v2822
  v6205
def k0_off124 (k0_t1 : Fin k0_t1_loop.trips) : Fin 2 → Nat :=
  let c96_3032 : Index := 96#32
  let c128_i32_3031 : BitVec 32 := 128#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v6205 : BitVec 32 := Scalar.muli c128_i32_3031 v2822
  let v6206 : BitVec 32 := v6205
  let v6209 : Index := Scalar.indexCast v6206
  ![96, v6209.toNat]
def k0_mult75 (k0_t1 : Fin k0_t1_loop.trips) : BitVec 32 :=
  let c128_i32_3082 : BitVec 32 := 128#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v6353 : BitVec 32 := Scalar.muli c128_i32_3082 v2824
  v6353
def k0_off125 (k0_t1 : Fin k0_t1_loop.trips) : Fin 2 → Nat :=
  let c96_3083 : Index := 96#32
  let c128_i32_3082 : BitVec 32 := 128#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v6353 : BitVec 32 := Scalar.muli c128_i32_3082 v2824
  let v6354 : BitVec 32 := v6353
  let v6357 : Index := Scalar.indexCast v6354
  ![96, v6357.toNat]
def k0_mult76 (k0_t1 : Fin k0_t1_loop.trips) : BitVec 32 :=
  let c128_i32_3146 : BitVec 32 := 128#32
  let c0_i32_1376 : BitVec 32 := 0#32
  let c1_i32_1377 : BitVec 32 := 1#32
  let arg40 : BitVec 32 := Scf.iv c0_i32_1376 c1_i32_1377 k0_t1
  let v6523 : BitVec 32 := Scalar.muli c128_i32_3146 arg40
  v6523
def k0_off126 (k0_t1 : Fin k0_t1_loop.trips) : Fin 2 → Nat :=
  let c96_3147 : Index := 96#32
  let c128_i32_3146 : BitVec 32 := 128#32
  let c0_i32_1376 : BitVec 32 := 0#32
  let c1_i32_1377 : BitVec 32 := 1#32
  let arg40 : BitVec 32 := Scf.iv c0_i32_1376 c1_i32_1377 k0_t1
  let v6523 : BitVec 32 := Scalar.muli c128_i32_3146 arg40
  let v6524 : BitVec 32 := v6523
  let v6525 : Index := Scalar.indexCast v6524
  ![96, v6525.toNat]
def k0_mult77 (k0_t1 : Fin k0_t1_loop.trips) : BitVec 32 :=
  let c128_i32_3148 : BitVec 32 := 128#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v6527 : BitVec 32 := Scalar.muli c128_i32_3148 v2822
  v6527
def k0_off127 (i : grid0.Coords) : Fin 2 → Nat :=
  let arg0 : BitVec 32 := BitVec.ofNat 32 (i 0).val
  let v6568 : Index := Scalar.indexCast arg0
  let c0_3161 : Index := 0#32
  ![v6568.toNat, 0]
def k0_off128 (k0_t1 : Fin k0_t1_loop.trips) : Fin 2 → Nat :=
  let c0_3162 : Index := 0#32
  let c128_i32_3148 : BitVec 32 := 128#32
  let c2_i32_1604 : BitVec 32 := 2#32
  let c0_i32_1376 : BitVec 32 := 0#32
  let c1_i32_1377 : BitVec 32 := 1#32
  let arg40 : BitVec 32 := Scf.iv c0_i32_1376 c1_i32_1377 k0_t1
  let v2822 : BitVec 32 := Scalar.muli c2_i32_1604 arg40
  let v6527 : BitVec 32 := Scalar.muli c128_i32_3148 v2822
  let v6528 : BitVec 32 := v6527
  let v6573 : Index := Scalar.indexCast v6528
  ![0, v6573.toNat]
def k0_mult78 (k0_t1 : Fin k0_t1_loop.trips) : BitVec 32 :=
  let c128_i32_3166 : BitVec 32 := 128#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v6585 : BitVec 32 := Scalar.muli c128_i32_3166 v2824
  v6585
def k0_off129 (k0_t1 : Fin k0_t1_loop.trips) : Fin 2 → Nat :=
  let c0_3182 : Index := 0#32
  let c128_i32_3166 : BitVec 32 := 128#32
  let c2_i32_1605 : BitVec 32 := 2#32
  let c0_i32_1376 : BitVec 32 := 0#32
  let c1_i32_1377 : BitVec 32 := 1#32
  let arg40 : BitVec 32 := Scf.iv c0_i32_1376 c1_i32_1377 k0_t1
  let v2823 : BitVec 32 := Scalar.muli c2_i32_1605 arg40
  let c1_i32_1606 : BitVec 32 := 1#32
  let v2824 : BitVec 32 := Scalar.addi v2823 c1_i32_1606
  let v6585 : BitVec 32 := Scalar.muli c128_i32_3166 v2824
  let v6586 : BitVec 32 := v6585
  let v6631 : Index := Scalar.indexCast v6586
  ![0, v6631.toNat]
@[reducible] def k0_t2_loop : Scf.Loop 32 :=
  let c0_i32_1379 : BitVec 32 := 0#32
  let c11_i32 : BitVec 32 := 11#32
  let v2361 : BitVec 32 := Scalar.addi c0_i32_1379 c11_i32
  let c1_i32_1380 : BitVec 32 := 1#32
  ⟨c0_i32_1379, v2361, c1_i32_1380⟩
def k0_mult79 (k0_t2 : Fin k0_t2_loop.trips) : BitVec 32 :=
  let c128_i32_1607 : BitVec 32 := 128#32
  let c2_i32_1604 : BitVec 32 := 2#32
  let c0_i32_1379 : BitVec 32 := 0#32
  let c1_i32_1380 : BitVec 32 := 1#32
  let arg40 : BitVec 32 := Scf.iv c0_i32_1379 c1_i32_1380 k0_t2
  let v2822 : BitVec 32 := Scalar.muli c2_i32_1604 arg40
  let v2825 : BitVec 32 := Scalar.muli c128_i32_1607 v2822
  v2825
def k0_off130 (k0_t2 : Fin k0_t2_loop.trips) : Fin 2 → Nat :=
  let c0_1608 : Index := 0#32
  let c128_i32_1607 : BitVec 32 := 128#32
  let c2_i32_1604 : BitVec 32 := 2#32
  let c0_i32_1379 : BitVec 32 := 0#32
  let c1_i32_1380 : BitVec 32 := 1#32
  let arg40 : BitVec 32 := Scf.iv c0_i32_1379 c1_i32_1380 k0_t2
  let v2822 : BitVec 32 := Scalar.muli c2_i32_1604 arg40
  let v2825 : BitVec 32 := Scalar.muli c128_i32_1607 v2822
  let v2826 : BitVec 32 := v2825
  let v2829 : Index := Scalar.indexCast v2826
  ![0, v2829.toNat]
def k0_mult80 (k0_t2 : Fin k0_t2_loop.trips) : BitVec 32 :=
  let c128_i32_1646 : BitVec 32 := 128#32
  let c2_i32_1605 : BitVec 32 := 2#32
  let c0_i32_1379 : BitVec 32 := 0#32
  let c1_i32_1380 : BitVec 32 := 1#32
  let arg40 : BitVec 32 := Scf.iv c0_i32_1379 c1_i32_1380 k0_t2
  let v2823 : BitVec 32 := Scalar.muli c2_i32_1605 arg40
  let c1_i32_1606 : BitVec 32 := 1#32
  let v2824 : BitVec 32 := Scalar.addi v2823 c1_i32_1606
  let v2914 : BitVec 32 := Scalar.muli c128_i32_1646 v2824
  v2914
def k0_off131 (k0_t2 : Fin k0_t2_loop.trips) : Fin 2 → Nat :=
  let c0_1647 : Index := 0#32
  let c128_i32_1646 : BitVec 32 := 128#32
  let c2_i32_1605 : BitVec 32 := 2#32
  let c0_i32_1379 : BitVec 32 := 0#32
  let c1_i32_1380 : BitVec 32 := 1#32
  let arg40 : BitVec 32 := Scf.iv c0_i32_1379 c1_i32_1380 k0_t2
  let v2823 : BitVec 32 := Scalar.muli c2_i32_1605 arg40
  let c1_i32_1606 : BitVec 32 := 1#32
  let v2824 : BitVec 32 := Scalar.addi v2823 c1_i32_1606
  let v2914 : BitVec 32 := Scalar.muli c128_i32_1646 v2824
  let v2915 : BitVec 32 := v2914
  let v2918 : Index := Scalar.indexCast v2915
  ![0, v2918.toNat]
def k0_mult81 (k0_t2 : Fin k0_t2_loop.trips) : BitVec 32 :=
  let c128_i32_1686 : BitVec 32 := 128#32
  let c0_i32_1379 : BitVec 32 := 0#32
  let c1_i32_1380 : BitVec 32 := 1#32
  let arg40 : BitVec 32 := Scf.iv c0_i32_1379 c1_i32_1380 k0_t2
  let v3007 : BitVec 32 := Scalar.muli c128_i32_1686 arg40
  v3007
def k0_off132 (k0_t2 : Fin k0_t2_loop.trips) : Fin 2 → Nat :=
  let c0_1687 : Index := 0#32
  let c128_i32_1686 : BitVec 32 := 128#32
  let c0_i32_1379 : BitVec 32 := 0#32
  let c1_i32_1380 : BitVec 32 := 1#32
  let arg40 : BitVec 32 := Scf.iv c0_i32_1379 c1_i32_1380 k0_t2
  let v3007 : BitVec 32 := Scalar.muli c128_i32_1686 arg40
  let v3008 : BitVec 32 := v3007
  let v3009 : Index := Scalar.indexCast v3008
  ![0, v3009.toNat]
def k0_mult82 (k0_t2 : Fin k0_t2_loop.trips) : BitVec 32 :=
  let c128_i32_1691 : BitVec 32 := 128#32
  let c2_i32_1688 : BitVec 32 := 2#32
  let c0_i32_1379 : BitVec 32 := 0#32
  let c1_i32_1380 : BitVec 32 := 1#32
  let arg40 : BitVec 32 := Scf.iv c0_i32_1379 c1_i32_1380 k0_t2
  let v3011 : BitVec 32 := Scalar.muli c2_i32_1688 arg40
  let v3014 : BitVec 32 := Scalar.muli c128_i32_1691 v3011
  v3014
def k0_off133 (k0_t2 : Fin k0_t2_loop.trips) : Fin 2 → Nat :=
  let c32_1692 : Index := 32#32
  let c128_i32_1691 : BitVec 32 := 128#32
  let c2_i32_1688 : BitVec 32 := 2#32
  let c0_i32_1379 : BitVec 32 := 0#32
  let c1_i32_1380 : BitVec 32 := 1#32
  let arg40 : BitVec 32 := Scf.iv c0_i32_1379 c1_i32_1380 k0_t2
  let v3011 : BitVec 32 := Scalar.muli c2_i32_1688 arg40
  let v3014 : BitVec 32 := Scalar.muli c128_i32_1691 v3011
  let v3015 : BitVec 32 := v3014
  let v3018 : Index := Scalar.indexCast v3015
  ![32, v3018.toNat]
def k0_mult83 (k0_t2 : Fin k0_t2_loop.trips) : BitVec 32 :=
  let c128_i32_1730 : BitVec 32 := 128#32
  let c2_i32_1689 : BitVec 32 := 2#32
  let c0_i32_1379 : BitVec 32 := 0#32
  let c1_i32_1380 : BitVec 32 := 1#32
  let arg40 : BitVec 32 := Scf.iv c0_i32_1379 c1_i32_1380 k0_t2
  let v3012 : BitVec 32 := Scalar.muli c2_i32_1689 arg40
  let c1_i32_1690 : BitVec 32 := 1#32
  let v3013 : BitVec 32 := Scalar.addi v3012 c1_i32_1690
  let v3103 : BitVec 32 := Scalar.muli c128_i32_1730 v3013
  v3103
def k0_off134 (k0_t2 : Fin k0_t2_loop.trips) : Fin 2 → Nat :=
  let c32_1731 : Index := 32#32
  let c128_i32_1730 : BitVec 32 := 128#32
  let c2_i32_1689 : BitVec 32 := 2#32
  let c0_i32_1379 : BitVec 32 := 0#32
  let c1_i32_1380 : BitVec 32 := 1#32
  let arg40 : BitVec 32 := Scf.iv c0_i32_1379 c1_i32_1380 k0_t2
  let v3012 : BitVec 32 := Scalar.muli c2_i32_1689 arg40
  let c1_i32_1690 : BitVec 32 := 1#32
  let v3013 : BitVec 32 := Scalar.addi v3012 c1_i32_1690
  let v3103 : BitVec 32 := Scalar.muli c128_i32_1730 v3013
  let v3104 : BitVec 32 := v3103
  let v3107 : Index := Scalar.indexCast v3104
  ![32, v3107.toNat]
def k0_mult84 (k0_t2 : Fin k0_t2_loop.trips) : BitVec 32 :=
  let c128_i32_1770 : BitVec 32 := 128#32
  let c0_i32_1379 : BitVec 32 := 0#32
  let c1_i32_1380 : BitVec 32 := 1#32
  let arg40 : BitVec 32 := Scf.iv c0_i32_1379 c1_i32_1380 k0_t2
  let v3196 : BitVec 32 := Scalar.muli c128_i32_1770 arg40
  v3196
def k0_off135 (k0_t2 : Fin k0_t2_loop.trips) : Fin 2 → Nat :=
  let c32_1771 : Index := 32#32
  let c128_i32_1770 : BitVec 32 := 128#32
  let c0_i32_1379 : BitVec 32 := 0#32
  let c1_i32_1380 : BitVec 32 := 1#32
  let arg40 : BitVec 32 := Scf.iv c0_i32_1379 c1_i32_1380 k0_t2
  let v3196 : BitVec 32 := Scalar.muli c128_i32_1770 arg40
  let v3197 : BitVec 32 := v3196
  let v3198 : Index := Scalar.indexCast v3197
  ![32, v3198.toNat]
def k0_mult85 (k0_t2 : Fin k0_t2_loop.trips) : BitVec 32 :=
  let c128_i32_1775 : BitVec 32 := 128#32
  let c2_i32_1772 : BitVec 32 := 2#32
  let c0_i32_1379 : BitVec 32 := 0#32
  let c1_i32_1380 : BitVec 32 := 1#32
  let arg40 : BitVec 32 := Scf.iv c0_i32_1379 c1_i32_1380 k0_t2
  let v3200 : BitVec 32 := Scalar.muli c2_i32_1772 arg40
  let v3203 : BitVec 32 := Scalar.muli c128_i32_1775 v3200
  v3203
def k0_off136 (k0_t2 : Fin k0_t2_loop.trips) : Fin 2 → Nat :=
  let c64_1776 : Index := 64#32
  let c128_i32_1775 : BitVec 32 := 128#32
  let c2_i32_1772 : BitVec 32 := 2#32
  let c0_i32_1379 : BitVec 32 := 0#32
  let c1_i32_1380 : BitVec 32 := 1#32
  let arg40 : BitVec 32 := Scf.iv c0_i32_1379 c1_i32_1380 k0_t2
  let v3200 : BitVec 32 := Scalar.muli c2_i32_1772 arg40
  let v3203 : BitVec 32 := Scalar.muli c128_i32_1775 v3200
  let v3204 : BitVec 32 := v3203
  let v3207 : Index := Scalar.indexCast v3204
  ![64, v3207.toNat]
def k0_mult86 (k0_t2 : Fin k0_t2_loop.trips) : BitVec 32 :=
  let c128_i32_1814 : BitVec 32 := 128#32
  let c2_i32_1773 : BitVec 32 := 2#32
  let c0_i32_1379 : BitVec 32 := 0#32
  let c1_i32_1380 : BitVec 32 := 1#32
  let arg40 : BitVec 32 := Scf.iv c0_i32_1379 c1_i32_1380 k0_t2
  let v3201 : BitVec 32 := Scalar.muli c2_i32_1773 arg40
  let c1_i32_1774 : BitVec 32 := 1#32
  let v3202 : BitVec 32 := Scalar.addi v3201 c1_i32_1774
  let v3292 : BitVec 32 := Scalar.muli c128_i32_1814 v3202
  v3292
def k0_off137 (k0_t2 : Fin k0_t2_loop.trips) : Fin 2 → Nat :=
  let c64_1815 : Index := 64#32
  let c128_i32_1814 : BitVec 32 := 128#32
  let c2_i32_1773 : BitVec 32 := 2#32
  let c0_i32_1379 : BitVec 32 := 0#32
  let c1_i32_1380 : BitVec 32 := 1#32
  let arg40 : BitVec 32 := Scf.iv c0_i32_1379 c1_i32_1380 k0_t2
  let v3201 : BitVec 32 := Scalar.muli c2_i32_1773 arg40
  let c1_i32_1774 : BitVec 32 := 1#32
  let v3202 : BitVec 32 := Scalar.addi v3201 c1_i32_1774
  let v3292 : BitVec 32 := Scalar.muli c128_i32_1814 v3202
  let v3293 : BitVec 32 := v3292
  let v3296 : Index := Scalar.indexCast v3293
  ![64, v3296.toNat]
def k0_mult87 (k0_t2 : Fin k0_t2_loop.trips) : BitVec 32 :=
  let c128_i32_1854 : BitVec 32 := 128#32
  let c0_i32_1379 : BitVec 32 := 0#32
  let c1_i32_1380 : BitVec 32 := 1#32
  let arg40 : BitVec 32 := Scf.iv c0_i32_1379 c1_i32_1380 k0_t2
  let v3385 : BitVec 32 := Scalar.muli c128_i32_1854 arg40
  v3385
def k0_off138 (k0_t2 : Fin k0_t2_loop.trips) : Fin 2 → Nat :=
  let c64_1855 : Index := 64#32
  let c128_i32_1854 : BitVec 32 := 128#32
  let c0_i32_1379 : BitVec 32 := 0#32
  let c1_i32_1380 : BitVec 32 := 1#32
  let arg40 : BitVec 32 := Scf.iv c0_i32_1379 c1_i32_1380 k0_t2
  let v3385 : BitVec 32 := Scalar.muli c128_i32_1854 arg40
  let v3386 : BitVec 32 := v3385
  let v3387 : Index := Scalar.indexCast v3386
  ![64, v3387.toNat]
def k0_mult88 (k0_t2 : Fin k0_t2_loop.trips) : BitVec 32 :=
  let c128_i32_1859 : BitVec 32 := 128#32
  let c2_i32_1856 : BitVec 32 := 2#32
  let c0_i32_1379 : BitVec 32 := 0#32
  let c1_i32_1380 : BitVec 32 := 1#32
  let arg40 : BitVec 32 := Scf.iv c0_i32_1379 c1_i32_1380 k0_t2
  let v3389 : BitVec 32 := Scalar.muli c2_i32_1856 arg40
  let v3392 : BitVec 32 := Scalar.muli c128_i32_1859 v3389
  v3392
def k0_off139 (k0_t2 : Fin k0_t2_loop.trips) : Fin 2 → Nat :=
  let c96_1860 : Index := 96#32
  let c128_i32_1859 : BitVec 32 := 128#32
  let c2_i32_1856 : BitVec 32 := 2#32
  let c0_i32_1379 : BitVec 32 := 0#32
  let c1_i32_1380 : BitVec 32 := 1#32
  let arg40 : BitVec 32 := Scf.iv c0_i32_1379 c1_i32_1380 k0_t2
  let v3389 : BitVec 32 := Scalar.muli c2_i32_1856 arg40
  let v3392 : BitVec 32 := Scalar.muli c128_i32_1859 v3389
  let v3393 : BitVec 32 := v3392
  let v3396 : Index := Scalar.indexCast v3393
  ![96, v3396.toNat]
def k0_mult89 (k0_t2 : Fin k0_t2_loop.trips) : BitVec 32 :=
  let c128_i32_1898 : BitVec 32 := 128#32
  let c2_i32_1857 : BitVec 32 := 2#32
  let c0_i32_1379 : BitVec 32 := 0#32
  let c1_i32_1380 : BitVec 32 := 1#32
  let arg40 : BitVec 32 := Scf.iv c0_i32_1379 c1_i32_1380 k0_t2
  let v3390 : BitVec 32 := Scalar.muli c2_i32_1857 arg40
  let c1_i32_1858 : BitVec 32 := 1#32
  let v3391 : BitVec 32 := Scalar.addi v3390 c1_i32_1858
  let v3481 : BitVec 32 := Scalar.muli c128_i32_1898 v3391
  v3481
def k0_off140 (k0_t2 : Fin k0_t2_loop.trips) : Fin 2 → Nat :=
  let c96_1899 : Index := 96#32
  let c128_i32_1898 : BitVec 32 := 128#32
  let c2_i32_1857 : BitVec 32 := 2#32
  let c0_i32_1379 : BitVec 32 := 0#32
  let c1_i32_1380 : BitVec 32 := 1#32
  let arg40 : BitVec 32 := Scf.iv c0_i32_1379 c1_i32_1380 k0_t2
  let v3390 : BitVec 32 := Scalar.muli c2_i32_1857 arg40
  let c1_i32_1858 : BitVec 32 := 1#32
  let v3391 : BitVec 32 := Scalar.addi v3390 c1_i32_1858
  let v3481 : BitVec 32 := Scalar.muli c128_i32_1898 v3391
  let v3482 : BitVec 32 := v3481
  let v3485 : Index := Scalar.indexCast v3482
  ![96, v3485.toNat]
def k0_mult90 (k0_t2 : Fin k0_t2_loop.trips) : BitVec 32 :=
  let c128_i32_1938 : BitVec 32 := 128#32
  let c0_i32_1379 : BitVec 32 := 0#32
  let c1_i32_1380 : BitVec 32 := 1#32
  let arg40 : BitVec 32 := Scf.iv c0_i32_1379 c1_i32_1380 k0_t2
  let v3574 : BitVec 32 := Scalar.muli c128_i32_1938 arg40
  v3574
def k0_off141 (k0_t2 : Fin k0_t2_loop.trips) : Fin 2 → Nat :=
  let c96_1939 : Index := 96#32
  let c128_i32_1938 : BitVec 32 := 128#32
  let c0_i32_1379 : BitVec 32 := 0#32
  let c1_i32_1380 : BitVec 32 := 1#32
  let arg40 : BitVec 32 := Scf.iv c0_i32_1379 c1_i32_1380 k0_t2
  let v3574 : BitVec 32 := Scalar.muli c128_i32_1938 arg40
  let v3575 : BitVec 32 := v3574
  let v3576 : Index := Scalar.indexCast v3575
  ![96, v3576.toNat]
def k0_mult91 (i : grid0.Coords) : BitVec 32 :=
  let arg0 : BitVec 32 := BitVec.ofNat 32 (i 0).val
  let c128_i32 : BitVec 32 := 128#32
  let v2734 : BitVec 32 := Scalar.muli arg0 c128_i32
  v2734
def k0_off142 (i : grid0.Coords) : Fin 1 → Nat :=
  let arg0 : BitVec 32 := BitVec.ofNat 32 (i 0).val
  let c128_i32 : BitVec 32 := 128#32
  let v2734 : BitVec 32 := Scalar.muli arg0 c128_i32
  let v2735 : BitVec 32 := v2734
  let v2736 : Index := Scalar.indexCast v2735
  ![v2736.toNat]
def k0_cond2 (i : grid0.Coords) : BitVec 1 :=
  let arg0 : BitVec 32 := BitVec.ofNat 32 (i 0).val
  let c60_i32 : BitVec 32 := 60#32
  let v2819 : BitVec 1 := Scalar.cmpi .eq arg0 c60_i32
  let v2820 : BitVec 32 := Scalar.extui v2819
  let c0_i32_1603 : BitVec 32 := 0#32
  let v2821 : BitVec 1 := Scalar.cmpi .ne v2820 c0_i32_1603
  v2821

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x128x1536 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x24x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S24x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S7808 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2944 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2944 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S7808 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x3072 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S9 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S9 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S9 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S6 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S7808 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S7808 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S7808 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S7808 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S128x1536 .i8 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S24x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S128x3072 .i8 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S24x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S128x3072 .fp8e4m3 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 1 → Memref sig .tc .vmem S61x24 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 2 → Memref sig .tc .vmem S128x1472 .i8 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S23x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== KernelIdeal.lean ====
variable {F : FTy → Type} [FloatOps F]
-- ==== ReferenceIdeal.lean ====
abbrev S16x7808x1536 : Shape := ⟨3, ![16, 7808, 1536]⟩
abbrev S16x7808x24 : Shape := ⟨3, ![16, 7808, 24]⟩
abbrev S16 : Shape := ⟨1, ![16]⟩
abbrev S7808x3072 : Shape := ⟨2, ![7808, 3072]⟩
abbrev S7808x24 : Shape := ⟨2, ![7808, 24]⟩
abbrev S_ : Shape := ⟨0, ![]⟩
abbrev S7808 : Shape := ⟨1, ![7808]⟩
abbrev S7808x2944 : Shape := ⟨2, ![7808, 2944]⟩
abbrev S16x7808x24x64 : Shape := ⟨4, ![16, 7808, 24, 64]⟩
abbrev S16x1x1 : Shape := ⟨3, ![16, 1, 1]⟩
abbrev S16x7808x24x1 : Shape := ⟨4, ![16, 7808, 24, 1]⟩
abbrev S7808x24x64 : Shape := ⟨3, ![7808, 24, 64]⟩
abbrev S7808x24x64x1 : Shape := ⟨4, ![7808, 24, 64, 1]⟩
abbrev S7808x24x64x2 : Shape := ⟨4, ![7808, 24, 64, 2]⟩
abbrev S7808x24x128 : Shape := ⟨3, ![7808, 24, 128]⟩
abbrev S7808x24x1 : Shape := ⟨3, ![7808, 24, 1]⟩
abbrev S24x7808 : Shape := ⟨2, ![24, 7808]⟩

abbrev nBuf : Space → Nat
  | .hbm => 127
  | .vmem => 0
  | .smem => 0
  | _ => 0

abbrev bufTy : (tb : Table) → Fin (tcTables nBuf tb) → BufTy
  | .hbm, ⟨0, _⟩ => ⟨S16x7808x1536, .i8⟩
  | .hbm, ⟨1, _⟩ => ⟨S16x7808x24, .f32⟩
  | .hbm, ⟨2, _⟩ => ⟨S16, .f32⟩
  | .hbm, ⟨3, _⟩ => ⟨S7808x3072, .f32⟩
  | .hbm, ⟨4, _⟩ => ⟨S7808x3072, .bf16⟩
  | .hbm, ⟨5, _⟩ => ⟨S7808x3072, .i8⟩
  | .hbm, ⟨6, _⟩ => ⟨S7808x24, .f32⟩
  | .hbm, ⟨7, _⟩ => ⟨S_, .f32⟩
  | .hbm, ⟨8, _⟩ => ⟨S7808, .i32⟩
  | .hbm, ⟨9, _⟩ => ⟨S7808x2944, .f32⟩
  | .hbm, ⟨10, _⟩ => ⟨S7808x2944, .bf16⟩
  | .hbm, ⟨11, _⟩ => ⟨S7808, .i32⟩
  | .hbm, ⟨12, _⟩ => ⟨S16x7808x1536, .i32⟩
  | .hbm, ⟨13, _⟩ => ⟨S16x7808x24x64, .i32⟩
  | .hbm, ⟨14, _⟩ => ⟨S16x1x1, .f32⟩
  | .hbm, ⟨15, _⟩ => ⟨S16x7808x24, .f32⟩
  | .hbm, ⟨16, _⟩ => ⟨S16x7808x24, .f32⟩
  | .hbm, ⟨17, _⟩ => ⟨S_, .f32⟩
  | .hbm, ⟨18, _⟩ => ⟨S16x7808x24, .f32⟩
  | .hbm, ⟨19, _⟩ => ⟨S16x7808x24, .f32⟩
  | .hbm, ⟨20, _⟩ => ⟨S16x7808x24x1, .f32⟩
  | .hbm, ⟨21, _⟩ => ⟨S_, .i32⟩
  | .hbm, ⟨22, _⟩ => ⟨S16x7808x24x64, .i32⟩
  | .hbm, ⟨23, _⟩ => ⟨S16x7808x24x64, .i32⟩
  | .hbm, ⟨24, _⟩ => ⟨S_, .i32⟩
  | .hbm, ⟨25, _⟩ => ⟨S16x7808x24x64, .i32⟩
  | .hbm, ⟨26, _⟩ => ⟨S16x7808x24x64, .i32⟩
  | .hbm, ⟨27, _⟩ => ⟨S_, .i32⟩
  | .hbm, ⟨28, _⟩ => ⟨S16x7808x24x64, .i32⟩
  | .hbm, ⟨29, _⟩ => ⟨S16x7808x24x64, .i32⟩
  | .hbm, ⟨30, _⟩ => ⟨S16x7808x24x64, .f32⟩
  | .hbm, ⟨31, _⟩ => ⟨S16x7808x24x64, .f32⟩
  | .hbm, ⟨32, _⟩ => ⟨S16x7808x24x64, .f32⟩
  | .hbm, ⟨33, _⟩ => ⟨S_, .f32⟩
  | .hbm, ⟨34, _⟩ => ⟨S7808x24x64, .f32⟩
  | .hbm, ⟨35, _⟩ => ⟨S_, .i32⟩
  | .hbm, ⟨36, _⟩ => ⟨S16x7808x24x64, .i32⟩
  | .hbm, ⟨37, _⟩ => ⟨S16x7808x24x64, .i32⟩
  | .hbm, ⟨38, _⟩ => ⟨S_, .i32⟩
  | .hbm, ⟨39, _⟩ => ⟨S16x7808x24x64, .i32⟩
  | .hbm, ⟨40, _⟩ => ⟨S16x7808x24x64, .i32⟩
  | .hbm, ⟨41, _⟩ => ⟨S_, .i32⟩
  | .hbm, ⟨42, _⟩ => ⟨S16x7808x24x64, .i32⟩
  | .hbm, ⟨43, _⟩ => ⟨S16x7808x24x64, .i32⟩
  | .hbm, ⟨44, _⟩ => ⟨S16x7808x24x64, .f32⟩
  | .hbm, ⟨45, _⟩ => ⟨S16x7808x24x64, .f32⟩
  | .hbm, ⟨46, _⟩ => ⟨S16x7808x24x64, .f32⟩
  | .hbm, ⟨47, _⟩ => ⟨S_, .f32⟩
  | .hbm, ⟨48, _⟩ => ⟨S7808x24x64, .f32⟩
  | .hbm, ⟨49, _⟩ => ⟨S_, .f32⟩
  | .hbm, ⟨50, _⟩ => ⟨S7808x24x64, .f32⟩
  | .hbm, ⟨51, _⟩ => ⟨S7808x24x64, .f32⟩
  | .hbm, ⟨52, _⟩ => ⟨S_, .f32⟩
  | .hbm, ⟨53, _⟩ => ⟨S7808x24x64, .f32⟩
  | .hbm, ⟨54, _⟩ => ⟨S7808x24x64, .f32⟩
  | .hbm, ⟨55, _⟩ => ⟨S7808x24x64x1, .f32⟩
  | .hbm, ⟨56, _⟩ => ⟨S7808x24x64x1, .f32⟩
  | .hbm, ⟨57, _⟩ => ⟨S7808x24x64x2, .f32⟩
  | .hbm, ⟨58, _⟩ => ⟨S7808x3072, .f32⟩
  | .hbm, ⟨59, _⟩ => ⟨S7808x3072, .i32⟩
  | .hbm, ⟨60, _⟩ => ⟨S7808x3072, .f32⟩
  | .hbm, ⟨61, _⟩ => ⟨S7808x24x128, .f32⟩
  | .hbm, ⟨62, _⟩ => ⟨S7808x24x1, .f32⟩
  | .hbm, ⟨63, _⟩ => ⟨S7808x24x128, .f32⟩
  | .hbm, ⟨64, _⟩ => ⟨S7808x24x128, .f32⟩
  | .hbm, ⟨65, _⟩ => ⟨S7808x3072, .f32⟩
  | .hbm, ⟨66, _⟩ => ⟨S_, .f32⟩
  | .hbm, ⟨67, _⟩ => ⟨S7808x3072, .f32⟩
  | .hbm, ⟨68, _⟩ => ⟨S7808x3072, .f32⟩
  | .hbm, ⟨69, _⟩ => ⟨S7808x3072, .f32⟩
  | .hbm, ⟨70, _⟩ => ⟨S_, .f32⟩
  | .hbm, ⟨71, _⟩ => ⟨S7808x3072, .f32⟩
  | .hbm, ⟨72, _⟩ => ⟨S7808x3072, .f32⟩
  | .hbm, ⟨73, _⟩ => ⟨S7808x3072, .f32⟩
  | .hbm, ⟨74, _⟩ => ⟨S7808x3072, .f32⟩
  | .hbm, ⟨75, _⟩ => ⟨S7808x3072, .f32⟩
  | .hbm, ⟨76, _⟩ => ⟨S7808x3072, .f32⟩
  | .hbm, ⟨77, _⟩ => ⟨S7808x3072, .f32⟩
  | .hbm, ⟨78, _⟩ => ⟨S_, .f32⟩
  | .hbm, ⟨79, _⟩ => ⟨S7808x3072, .f32⟩
  | .hbm, ⟨80, _⟩ => ⟨S7808x3072, .f32⟩
  | .hbm, ⟨81, _⟩ => ⟨S_, .f32⟩
  | .hbm, ⟨82, _⟩ => ⟨S7808x3072, .f32⟩
  | .hbm, ⟨83, _⟩ => ⟨S7808x3072, .f32⟩
  | .hbm, ⟨84, _⟩ => ⟨S7808x3072, .f32⟩
  | .hbm, ⟨85, _⟩ => ⟨S7808x24x128, .f32⟩
  | .hbm, ⟨86, _⟩ => ⟨S7808x24x128, .f32⟩
  | .hbm, ⟨87, _⟩ => ⟨S_, .f32⟩
  | .hbm, ⟨88, _⟩ => ⟨S7808x24, .f32⟩
  | .hbm, ⟨89, _⟩ => ⟨S_, .f32⟩
  | .hbm, ⟨90, _⟩ => ⟨S7808x24, .f32⟩
  | .hbm, ⟨91, _⟩ => ⟨S7808x24, .i1⟩
  | .hbm, ⟨92, _⟩ => ⟨S_, .f32⟩
  | .hbm, ⟨93, _⟩ => ⟨S_, .f32⟩
  | .hbm, ⟨94, _⟩ => ⟨S7808x24, .f32⟩
  | .hbm, ⟨95, _⟩ => ⟨S7808x24, .f32⟩
  | .hbm, ⟨96, _⟩ => ⟨S7808x24x128, .f32⟩
  | .hbm, ⟨97, _⟩ => ⟨S7808x24x128, .f32⟩
  | .hbm, ⟨98, _⟩ => ⟨S_, .f32⟩
  | .hbm, ⟨99, _⟩ => ⟨S7808x24, .f32⟩
  | .hbm, ⟨100, _⟩ => ⟨S_, .f32⟩
  | .hbm, ⟨101, _⟩ => ⟨S7808x24, .f32⟩
  | .hbm, ⟨102, _⟩ => ⟨S7808x24, .i1⟩
  | .hbm, ⟨103, _⟩ => ⟨S_, .f32⟩
  | .hbm, ⟨104, _⟩ => ⟨S7808x24, .f32⟩
  | .hbm, ⟨105, _⟩ => ⟨S7808x24, .f32⟩
  | .hbm, ⟨106, _⟩ => ⟨S_, .f32⟩
  | .hbm, ⟨107, _⟩ => ⟨S_, .f32⟩
  | .hbm, ⟨108, _⟩ => ⟨S7808x24, .f32⟩
  | .hbm, ⟨109, _⟩ => ⟨S7808x24, .f32⟩
  | .hbm, ⟨110, _⟩ => ⟨S7808x24x1, .f32⟩
  | .hbm, ⟨111, _⟩ => ⟨S7808x24x128, .f32⟩
  | .hbm, ⟨112, _⟩ => ⟨S7808x24x128, .f32⟩
  | .hbm, ⟨113, _⟩ => ⟨S7808x24x128, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S7808x24x128, .f32⟩
  | .hbm, ⟨118, _⟩ => ⟨S7808x24x128, .f32⟩
  | .hbm, ⟨119, _⟩ => ⟨S_, .f32⟩
  | .hbm, ⟨120, _⟩ => ⟨S7808x24x128, .f32⟩
  | .hbm, ⟨121, _⟩ => ⟨S7808x24x128, .f32⟩
  | .hbm, ⟨122, _⟩ => ⟨S7808x24x128, .i32⟩
  | .hbm, ⟨123, _⟩ => ⟨S7808x24x128, .i8⟩
  | .hbm, ⟨124, _⟩ => ⟨S7808x3072, .i8⟩
  | .hbm, ⟨125, _⟩ => ⟨S24x7808, .f32⟩
  | .hbm, ⟨126, _⟩ => ⟨S24x7808, .f32⟩
  | _, _ => ⟨S16x7808x1536, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_cst_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_cst_15 : Ref sig .tc := ⟨.hbm, 92, rfl⟩
abbrev main_call0_v0 : Ref sig .tc := ⟨.hbm, 93, rfl⟩
abbrev main_call0_v1 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_16 : Ref sig .tc := ⟨.hbm, 98, rfl⟩
abbrev main_v66 : Ref sig .tc := ⟨.hbm, 99, rfl⟩
abbrev main_cst_17 : Ref sig .tc := ⟨.hbm, 100, rfl⟩
abbrev main_v67 : Ref sig .tc := ⟨.hbm, 101, rfl⟩
abbrev main_v68 : Ref sig .tc := ⟨.hbm, 102, rfl⟩
abbrev main_cst_18 : Ref sig .tc := ⟨.hbm, 103, rfl⟩
abbrev main_v69 : Ref sig .tc := ⟨.hbm, 104, rfl⟩
abbrev main_v70 : Ref sig .tc := ⟨.hbm, 105, rfl⟩
abbrev main_cst_19 : Ref sig .tc := ⟨.hbm, 106, rfl⟩
abbrev main_call1_v0 : Ref sig .tc := ⟨.hbm, 107, rfl⟩
abbrev main_call1_v1 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_20 : Ref sig .tc := ⟨.hbm, 114, rfl⟩
abbrev main_cst_21 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩

abbrev nD : Nat := 1
abbrev τ : Topo := Topo.v7x

variable {F : FTy → Type} [FloatOps F]
-- ==== Proof.KernelLoops.lean ====
/-
  The two counted loops of the kernel body, for its frame: over the column pairs of the A matrices and over
  those of the B matrices. Each invariant keeps what the loop reads and forgets what it writes.
-/
module

public import proofs.«01_k».proof.Proof.Gen.Kernel.Loops
public import proofs.«01_k».proof.Proof.Gen.Kernel.Frame
public import proofs.«01_k».proof.Proof.Gen.Kernel.Skeleton

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- Loop `t1`: what the loop only reads keeps its contents, what it writes holds something. -/
@[sl_loop] def loopInv_k0_t1 (c : Dev nD) (i : grid0.Coords) (arg1 : Memref sig .tc .smem S16 .f32) (harg1 : arg1.IsWhole) (arg2 : Memref sig .tc .smem S1 .f32) (harg2 : arg2.IsWhole) (arg3 : Memref sig .tc .vmem S16x128x1536 .i8) (harg3 : arg3.IsWhole) (arg4 : Memref sig .tc .vmem S16x24x128 .f32) (harg4 : arg4.IsWhole) (arg5 : Memref sig .tc .vmem S128x3072 .f32) (harg5 : arg5.IsWhole) (arg6 : Memref sig .tc .vmem S128x3072 .bf16) (harg6 : arg6.IsWhole) (arg7 : Memref sig .tc .vmem S128x3072 .i8) (harg7 : arg7.IsWhole) (arg8 : Memref sig .tc .vmem S24x128 .f32) (harg8 : arg8.IsWhole) (arg9 : Memref sig .tc .vmem S7808 .i32) (harg9 : arg9.IsWhole) (arg10 : Memref sig .tc .vmem S128x2944 .f32) (harg10 : arg10.IsWhole) (arg11 : Memref sig .tc .vmem S128x2944 .bf16) (harg11 : arg11.IsWhole) (arg12 : Memref sig .tc .vmem S7808 .i32) (harg12 : arg12.IsWhole) (arg13 : Memref sig .tc .vmem S128x3072 .f32) (harg13 : arg13.IsWhole) (arg14 : Memref sig .tc .vmem S128x3072 .f32) (harg14 : arg14.IsWhole) (arg15 : Memref sig .tc .vmem S9 .f32) (harg15 : arg15.IsWhole) (arg16 : Memref sig .tc .vmem S9 .f32) (harg16 : arg16.IsWhole) (arg17 : Memref sig .tc .vmem S9 .f32) (harg17 : arg17.IsWhole) (arg18 : Memref sig .tc .vmem S6 .f32) (harg18 : arg18.IsWhole) (arg19 : Memref sig .tc .vmem S7808 .f32) (harg19 : arg19.IsWhole) (arg20 : Memref sig .tc .vmem S7808 .f32) (harg20 : arg20.IsWhole) (arg21 : Memref sig .tc .vmem S7808 .f32) (harg21 : arg21.IsWhole) (arg22 : Memref sig .tc .vmem S7808 .f32) (harg22 : arg22.IsWhole) (arg23 : Memref sig .tc .vmem S128x1536 .i8) (harg23 : arg23.IsWhole) (arg24 : Memref sig .tc .vmem S24x128 .f32) (harg24 : arg24.IsWhole) (arg25 : Memref sig .tc .vmem S128x3072 .i8) (harg25 : arg25.IsWhole) (arg26 : Memref sig .tc .vmem S24x128 .f32) (harg26 : arg26.IsWhole) (arg27 : Memref sig .tc .vmem S128x3072 .fp8e4m3) (harg27 : arg27.IsWhole) (arg28 : Memref sig .tc .vmem S61x24 .f32) (harg28 : arg28.IsWhole) (arg29 : Memref sig .tc .vmem S128x1472 .i8) (harg29 : arg29.IsWhole) (arg30 : Memref sig .tc .vmem S23x128 .f32) (harg30 : arg30.IsWhole) (arg31 : Memref sig .tc .vmem S4x2x3x24x256 .f32) (harg31 : arg31.IsWhole) (arg32 : Memref sig .tc .vmem S128x128 .f32) (harg32 : arg32.IsWhole) (arg33 : Memref sig .tc .vmem S128x128 .f32) (harg33 : arg33.IsWhole) (arg34 : Memref sig .tc .vmem S128x128 .f32) (harg34 : arg34.IsWhole) (arg35 : Memref sig .tc .vmem S128x128 .f32) (harg35 : arg35.IsWhole) (arg36 : Memref sig .tc .vmem S128x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S4x16x128 .f32) (harg39 : arg39.IsWhole) (arg0 : BitVec 32) (v0 : IVec S1x128 32) (v1 : Elt F .f32) (v2283 : IVec S16x256 32) (v2284 : IVec S16x256 32) (v2309 : IVec S32x128 32) (v2327 : IVec S32x128 1) (v2343 : FVec F S256x128 .bf16) (v2344 : IVec S128x128 32) (v2345 : IVec S128x128 32) (v2348 : IVec S128x128 1) (v2349 : IVec S128x128 32)
    (f3 : Buf (Elt F) (arg3.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f31 : Buf (Elt F) (arg31.view.loc (c : Thread nD τ))) :
    Gen.LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg0 v0 v1 v2283 v2284 v2309 v2327 v2343 v2344 v2345 v2348 v2349 where
  inv := fun _ _ => iprop((arg3.view.loc (c : Thread nD τ) ↦[arg3.view.set]{fullShare} f3) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg31.view.loc (c : Thread nD τ) ↦[arg31.view.set]{fullShare} f31) ∗ (∃ f, (arg13.view.loc (c : Thread nD τ) ↦[arg13.view.set]{fullShare} f)) ∗ (∃ f, (arg14.view.loc (c : Thread nD τ) ↦[arg14.view.set]{fullShare} f)) ∗ (∃ f, (arg23.view.loc (c : Thread nD τ) ↦[arg23.view.set]{fullShare} f)) ∗ (∃ f, (arg25.view.loc (c : Thread nD τ) ↦[arg25.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg32.view.loc (c : Thread nD τ) ↦[arg32.view.set]{fullShare} f)) ∗ (∃ f, (arg33.view.loc (c : Thread nD τ) ↦[arg33.view.set]{fullShare} f)) ∗ (∃ f, (arg35.view.loc (c : Thread nD τ) ↦[arg35.view.set]{fullShare} f)) ∗ (∃ f, (arg36.view.loc (c : Thread nD τ) ↦[arg36.view.set]{fullShare} f)) ∗ (∃ f, (arg37.view.loc (c : Thread nD τ) ↦[arg37.view.set]{fullShare} f)))
  step := fun k acc => by
    unfold Gen.k0_t1_body
    iintro ⟨H3, H5, H6, H7, H8, H31, ⟨%f13, H13⟩, ⟨%f14, H14⟩, ⟨%f23, H23⟩, ⟨%f25, H25⟩, ⟨%f27, H27⟩, ⟨%f28, H28⟩, ⟨%f32, H32⟩, ⟨%f33, H33⟩, ⟨%f35, H35⟩, ⟨%f36, H36⟩, ⟨%f37, H37⟩⟩
    sl_exec_parts
    sl_step
    isplitl [H3]; · iexact H3
    isplitl [H5]; · iexact H5
    isplitl [H6]; · iexact H6
    isplitl [H7]; · iexact H7
    isplitl [H8]; · iexact H8
    isplitl [H31]; · iexact H31
    isplitl [H13]; · iexists _; iexact H13
    isplitl [H14]; · iexists _; iexact H14
    isplitl [H23]; · iexists _; iexact H23
    isplitl [H25]; · iexists _; iexact H25
    isplitl [H27]; · iexists _; iexact H27
    isplitl [H28]; · iexists _; iexact H28
    isplitl [H32]; · iexists _; iexact H32
    isplitl [H33]; · iexists _; iexact H33
    isplitl [H35]; · iexists _; iexact H35
    isplitl [H36]; · iexists _; iexact H36
    iexists _; iexact H37

/-- Loop `t2`: what the loop only reads keeps its contents, what it writes holds something. -/
@[sl_loop] def loopInv_k0_t2 (c : Dev nD) (i : grid0.Coords) (arg1 : Memref sig .tc .smem S16 .f32) (harg1 : arg1.IsWhole) (arg2 : Memref sig .tc .smem S1 .f32) (harg2 : arg2.IsWhole) (arg3 : Memref sig .tc .vmem S16x128x1536 .i8) (harg3 : arg3.IsWhole) (arg4 : Memref sig .tc .vmem S16x24x128 .f32) (harg4 : arg4.IsWhole) (arg5 : Memref sig .tc .vmem S128x3072 .f32) (harg5 : arg5.IsWhole) (arg6 : Memref sig .tc .vmem S128x3072 .bf16) (harg6 : arg6.IsWhole) (arg7 : Memref sig .tc .vmem S128x3072 .i8) (harg7 : arg7.IsWhole) (arg8 : Memref sig .tc .vmem S24x128 .f32) (harg8 : arg8.IsWhole) (arg9 : Memref sig .tc .vmem S7808 .i32) (harg9 : arg9.IsWhole) (arg10 : Memref sig .tc .vmem S128x2944 .f32) (harg10 : arg10.IsWhole) (arg11 : Memref sig .tc .vmem S128x2944 .bf16) (harg11 : arg11.IsWhole) (arg12 : Memref sig .tc .vmem S7808 .i32) (harg12 : arg12.IsWhole) (arg13 : Memref sig .tc .vmem S128x3072 .f32) (harg13 : arg13.IsWhole) (arg14 : Memref sig .tc .vmem S128x3072 .f32) (harg14 : arg14.IsWhole) (arg15 : Memref sig .tc .vmem S9 .f32) (harg15 : arg15.IsWhole) (arg16 : Memref sig .tc .vmem S9 .f32) (harg16 : arg16.IsWhole) (arg17 : Memref sig .tc .vmem S9 .f32) (harg17 : arg17.IsWhole) (arg18 : Memref sig .tc .vmem S6 .f32) (harg18 : arg18.IsWhole) (arg19 : Memref sig .tc .vmem S7808 .f32) (harg19 : arg19.IsWhole) (arg20 : Memref sig .tc .vmem S7808 .f32) (harg20 : arg20.IsWhole) (arg21 : Memref sig .tc .vmem S7808 .f32) (harg21 : arg21.IsWhole) (arg22 : Memref sig .tc .vmem S7808 .f32) (harg22 : arg22.IsWhole) (arg23 : Memref sig .tc .vmem S128x1536 .i8) (harg23 : arg23.IsWhole) (arg24 : Memref sig .tc .vmem S24x128 .f32) (harg24 : arg24.IsWhole) (arg25 : Memref sig .tc .vmem S128x3072 .i8) (harg25 : arg25.IsWhole) (arg26 : Memref sig .tc .vmem S24x128 .f32) (harg26 : arg26.IsWhole) (arg27 : Memref sig .tc .vmem S128x3072 .fp8e4m3) (harg27 : arg27.IsWhole) (arg28 : Memref sig .tc .vmem S61x24 .f32) (harg28 : arg28.IsWhole) (arg29 : Memref sig .tc .vmem S128x1472 .i8) (harg29 : arg29.IsWhole) (arg30 : Memref sig .tc .vmem S23x128 .f32) (harg30 : arg30.IsWhole) (arg31 : Memref sig .tc .vmem S4x2x3x24x256 .f32) (harg31 : arg31.IsWhole) (arg32 : Memref sig .tc .vmem S128x128 .f32) (harg32 : arg32.IsWhole) (arg33 : Memref sig .tc .vmem S128x128 .f32) (harg33 : arg33.IsWhole) (arg34 : Memref sig .tc .vmem S128x128 .f32) (harg34 : arg34.IsWhole) (arg35 : Memref sig .tc .vmem S128x128 .f32) (harg35 : arg35.IsWhole) (arg36 : Memref sig .tc .vmem S128x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S4x16x128 .f32) (harg39 : arg39.IsWhole) (arg0 : BitVec 32) (v0 : IVec S1x128 32) (v1 : Elt F .f32) (v2283 : IVec S16x256 32) (v2284 : IVec S16x256 32) (v2309 : IVec S32x128 32) (v2327 : IVec S32x128 1) (v2343 : FVec F S256x128 .bf16) (v2344 : IVec S128x128 32) (v2345 : IVec S128x128 32) (v2348 : IVec S128x128 1) (v2349 : IVec S128x128 32)
    (f10 : Buf (Elt F) (arg10.view.loc (c : Thread nD τ))) (f11 : Buf (Elt F) (arg11.view.loc (c : Thread nD τ))) :
    Gen.LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg0 v0 v1 v2283 v2284 v2309 v2327 v2343 v2344 v2345 v2348 v2349 where
  inv := fun _ _ => iprop((arg10.view.loc (c : Thread nD τ) ↦[arg10.view.set]{fullShare} f10) ∗ (arg11.view.loc (c : Thread nD τ) ↦[arg11.view.set]{fullShare} f11) ∗ (∃ f, (arg29.view.loc (c : Thread nD τ) ↦[arg29.view.set]{fullShare} f)) ∗ (∃ f, (arg34.view.loc (c : Thread nD τ) ↦[arg34.view.set]{fullShare} f)) ∗ (∃ f, (arg38.view.loc (c : Thread nD τ) ↦[arg38.view.set]{fullShare} f)))
  step := fun k acc => by
    unfold Gen.k0_t2_body
    iintro ⟨H10, H11, ⟨%f29, H29⟩, ⟨%f34, H34⟩, ⟨%f38, H38⟩⟩
    sl_exec_parts
    sl_step
    isplitl [H10]; · iexact H10
    isplitl [H11]; · iexact H11
    isplitl [H29]; · iexists _; iexact H29
    isplitl [H34]; · iexists _; iexact H34
    iexists _; iexact H38

end Cert.Kernel.Hand

end
-- ==== Proof.KernelRun.lean ====
/-
  The kernel body run once at symbolic operands: the inputs are handed back as they were, the outputs and the
  scratch buffers at some contents.
-/
module

public import proofs.«01_k».proof.Proof.KernelLoops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- The body runs to its end from whole buffers, the inputs handed back as they were. -/
theorem kernelRun0_A (c : Dev nD) (i : grid0.Coords) (arg1 : Memref sig .tc .smem S16 .f32) (harg1 : arg1.IsWhole) (arg2 : Memref sig .tc .smem S1 .f32) (harg2 : arg2.IsWhole) (arg3 : Memref sig .tc .vmem S16x128x1536 .i8) (harg3 : arg3.IsWhole) (arg4 : Memref sig .tc .vmem S16x24x128 .f32) (harg4 : arg4.IsWhole) (arg5 : Memref sig .tc .vmem S128x3072 .f32) (harg5 : arg5.IsWhole) (arg6 : Memref sig .tc .vmem S128x3072 .bf16) (harg6 : arg6.IsWhole) (arg7 : Memref sig .tc .vmem S128x3072 .i8) (harg7 : arg7.IsWhole) (arg8 : Memref sig .tc .vmem S24x128 .f32) (harg8 : arg8.IsWhole) (arg9 : Memref sig .tc .vmem S7808 .i32) (harg9 : arg9.IsWhole) (arg10 : Memref sig .tc .vmem S128x2944 .f32) (harg10 : arg10.IsWhole) (arg11 : Memref sig .tc .vmem S128x2944 .bf16) (harg11 : arg11.IsWhole) (arg12 : Memref sig .tc .vmem S7808 .i32) (harg12 : arg12.IsWhole) (arg13 : Memref sig .tc .vmem S128x3072 .f32) (harg13 : arg13.IsWhole) (arg14 : Memref sig .tc .vmem S128x3072 .f32) (harg14 : arg14.IsWhole) (arg15 : Memref sig .tc .vmem S9 .f32) (harg15 : arg15.IsWhole) (arg16 : Memref sig .tc .vmem S9 .f32) (harg16 : arg16.IsWhole) (arg17 : Memref sig .tc .vmem S9 .f32) (harg17 : arg17.IsWhole) (arg18 : Memref sig .tc .vmem S6 .f32) (harg18 : arg18.IsWhole) (arg19 : Memref sig .tc .vmem S7808 .f32) (harg19 : arg19.IsWhole) (arg20 : Memref sig .tc .vmem S7808 .f32) (harg20 : arg20.IsWhole) (arg21 : Memref sig .tc .vmem S7808 .f32) (harg21 : arg21.IsWhole) (arg22 : Memref sig .tc .vmem S7808 .f32) (harg22 : arg22.IsWhole) (arg23 : Memref sig .tc .vmem S128x1536 .i8) (harg23 : arg23.IsWhole) (arg24 : Memref sig .tc .vmem S24x128 .f32) (harg24 : arg24.IsWhole) (arg25 : Memref sig .tc .vmem S128x3072 .i8) (harg25 : arg25.IsWhole) (arg26 : Memref sig .tc .vmem S24x128 .f32) (harg26 : arg26.IsWhole) (arg27 : Memref sig .tc .vmem S128x3072 .fp8e4m3) (harg27 : arg27.IsWhole) (arg28 : Memref sig .tc .vmem S61x24 .f32) (harg28 : arg28.IsWhole) (arg29 : Memref sig .tc .vmem S128x1472 .i8) (harg29 : arg29.IsWhole) (arg30 : Memref sig .tc .vmem S23x128 .f32) (harg30 : arg30.IsWhole) (arg31 : Memref sig .tc .vmem S4x2x3x24x256 .f32) (harg31 : arg31.IsWhole) (arg32 : Memref sig .tc .vmem S128x128 .f32) (harg32 : arg32.IsWhole) (arg33 : Memref sig .tc .vmem S128x128 .f32) (harg33 : arg33.IsWhole) (arg34 : Memref sig .tc .vmem S128x128 .f32) (harg34 : arg34.IsWhole) (arg35 : Memref sig .tc .vmem S128x128 .f32) (harg35 : arg35.IsWhole) (arg36 : Memref sig .tc .vmem S128x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S4x16x128 .f32) (harg39 : arg39.IsWhole)
    (x0 : Vec F S16 .f32) (x1 : Vec F S1 .f32) (x2 : Vec F S16x128x1536 .i8) (x3 : Vec F S16x24x128 .f32) (x4 : Vec F S128x3072 .f32) (x5 : Vec F S128x3072 .bf16) (x6 : Vec F S128x3072 .i8) (x7 : Vec F S24x128 .f32) (x8 : Vec F S7808 .i32) (x9 : Vec F S128x2944 .f32) (x10 : Vec F S128x2944 .bf16) (x11 : Vec F S7808 .i32) :
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d)) -∗ K ⟨⟩))
          ⊢ wp frame (wpE (defs₀ (F := F)) Variants.none c none) Set.univ (cc0_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
    intro K
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.Kernel.Hand

end
-- ==== Proof.KernelFrame.lean ====
/-
  The launch of the kernel over its grid, with every output window forgotten, and the frame claim from it.
-/
module

public import proofs.«01_k».proof.Proof.KernelRun
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

set_option maxHeartbeats 1800000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 2 rfl).trans ((hA c 2).trans (V_main_arg0 m c)),
      ((h c).2 main_arg1 (Pipeline.mem_restRefs_of main_arg1 (by decide) (by decide))).trans (V_main_arg1 m c),
      (Pipeline.RDat.FramePost.arr_in h c 0 rfl).trans ((hA c 0).trans (V_main_arg2 m c)),
      (Pipeline.RDat.FramePost.arr_in h c 4 rfl).trans ((hA c 4).trans (V_main_arg3 m c)),
      (Pipeline.RDat.FramePost.arr_in h c 5 rfl).trans ((hA c 5).trans (V_main_arg4 m c)),
      (Pipeline.RDat.FramePost.arr_in h c 6 rfl).trans ((hA c 6).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c))⟩) h

/-! ## The staging memrefs and the scratch operands -/

/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128x1536 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x24x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x3072 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x3072 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x3072 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S24x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S7808 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x2944 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x2944 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S7808 .i32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x3072 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x3072 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S9 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S9 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S9 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S6 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S7808 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S7808 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S7808 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S7808 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S128x1536 .i8 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S24x128 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S128x3072 .i8 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S24x128 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S128x3072 .fp8e4m3 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S61x24 .f32 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S128x1472 .i8 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S23x128 .f32 := win0_29.stage (cfg0.slots t 29)
abbrev hs0_29 (t : Fin cfg0.N) : (ms0_29 t).IsWhole := hstage0_29 ((cfg0.slots t 29).cast nbuf0_29)
/-- The scratch operands: whole scoped buffers of the kernel's own, passed beside the windows. -/
abbrev scM0_0 : Memref sig .tc .vmem S4x2x3x24x256 .f32 := Memref.whole cc0_scratch0
abbrev scM0_1 : Memref sig .tc .vmem S128x128 .f32 := Memref.whole cc0_scratch1
abbrev scM0_2 : Memref sig .tc .vmem S128x128 .f32 := Memref.whole cc0_scratch2
abbrev scM0_3 : Memref sig .tc .vmem S128x128 .f32 := Memref.whole cc0_scratch3
abbrev scM0_4 : Memref sig .tc .vmem S128x128 .f32 := Memref.whole cc0_scratch4
abbrev scM0_5 : Memref sig .tc .vmem S128x128 .f32 := Memref.whole cc0_scratch5
abbrev scM0_6 : Memref sig .tc .vmem S128x128 .f32 := Memref.whole cc0_scratch6
abbrev scM0_7 : Memref sig .tc .vmem S128x128 .f32 := Memref.whole cc0_scratch7
abbrev scM0_8 : Memref sig .tc .vmem S4x16x128 .f32 := Memref.whole cc0_scratch8

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-! ## The pipeline's proof data -/

/-- The output windows this certificate FORGETS (12, 13, 14, 15, 16, 17, 18, 19, 20, 21, 22, 23, 24, 25, 26, 27, 28, 29): nothing reads what the kernel leaves in them, so nothing
    of it is named (Lib/Pipeline/Dat.lean `Dat.toRForget`). -/
def forgets0 : Fin 30 → Bool := fun w => w.val == 12 || w.val == 13 || w.val == 14 || w.val == 15 || w.val == 16 || w.val == 17 || w.val == 18 || w.val == 19 || w.val == 20 || w.val == 21 || w.val == 22 || w.val == 23 || w.val == 24 || w.val == 25 || w.val == 26 || w.val == 27 || w.val == 28 || w.val == 29

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨29, h⟩ => Pipeline.Dat.unnamed (cfg := cfg0) ⟨29, h⟩ t
    | ⟨_ + 30, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d))

set_option maxHeartbeats 3600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, H12, H13, H14, H15, H16, H17, H18, H19, H20, H21, H22, H23, H24, H25, H26, H27, H28, H29, HS0, HS1, HS2, HS3, HS4, HS5, HS6, HS7, HS8⟩
  isplitl [HS0 HS1 HS2 HS3 HS4 HS5 HS6 HS7 HS8 Hg]
  · isplitl [HS0 HS1 HS2 HS3 HS4 HS5 HS6 HS7 HS8]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      iexact HS8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 12, 13, 14, 15, 16, 17, 18, 19, 20, 21, 22, 23, 24, 25, 26, 27, 28, 29) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_ofR m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel.Hand

end
-- ==== Proof.Block.lean ====
module

public import proofs.«01_k».proof.Proof.Gen.KernelIdeal.Skeleton
public import Idealize.ShloMosaic.Lib.VecWindow

@[expose] public section

set_option maxRecDepth 16384

noncomputable section

namespace Cert.KernelIdeal.Hand

open Cert.KernelIdeal Cert.KernelIdeal.Gen
open Idealize.ShloMosaic

variable {F : FTy → Type} [FloatOps F]

/-- The loop's trip count, spelled as the offsets' parameter. -/
abbrev Trip := Fin k0_t1_loop.trips

/-- The rows of a coefficient row's block that the mask `m` selects, zero elsewhere. -/
def maskRows (m : IVec S16x256 32) (x : Vec F S1x1x1x1x256 .f32) : FVec F S16x256 .f32 :=
  select (cmpi .eq m (broadcast S16x256 1#32)) (k0_pay85 x) (broadcast S16x256 (Scalar.ofBits .f32 0x00000000#32))

/-- The left operand: for each limb and each of the pair's two blocks, the coefficient row spread on a diagonal. -/
def lhsMat (m0 m1 : IVec S16x256 32) (c : Fin 3 → Fin 2 → Vec F S1x1x1x1x256 .f32) : FVec F S192x256 .bf16 :=
  truncf .bf16 (concatenate S192x256 0 [⟨S16x256, maskRows m0 (c 0 0)⟩, ⟨S16x256, maskRows m1 (c 0 0)⟩, ⟨S16x256, maskRows m0 (c 0 1)⟩, ⟨S16x256, maskRows m1 (c 0 1)⟩, ⟨S16x256, maskRows m0 (c 1 0)⟩, ⟨S16x256, maskRows m1 (c 1 0)⟩, ⟨S16x256, maskRows m0 (c 1 1)⟩, ⟨S16x256, maskRows m1 (c 1 1)⟩, ⟨S16x256, maskRows m0 (c 2 0)⟩, ⟨S16x256, maskRows m1 (c 2 0)⟩, ⟨S16x256, maskRows m0 (c 2 1)⟩, ⟨S16x256, maskRows m1 (c 2 1)⟩] concatenates_S16x256_S16x256_S16x256_S16x256_S16x256_S16x256_S16x256_S16x256_S16x256_S16x256_S16x256_S16x256_S192x256_d0) bitsLt_bf16_f32

/-- The right operand: eight workers' even nibbles beside their odd nibbles. -/
def rhsMat (x : Fin 8 → Vec F S1x32x128 .i8) : FVec F S256x256 .fp8e4m3 :=
  k0_pay84 (k0_pay10 (x 0)) (k0_pay11 (x 0)) (k0_pay10 (x 1)) (k0_pay11 (x 1)) (k0_pay10 (x 2)) (k0_pay11 (x 2)) (k0_pay10 (x 3)) (k0_pay11 (x 3)) (k0_pay10 (x 4)) (k0_pay11 (x 4)) (k0_pay10 (x 5)) (k0_pay11 (x 5)) (k0_pay10 (x 6)) (k0_pay11 (x 6)) (k0_pay10 (x 7)) (k0_pay11 (x 7))

/-- One half's product. -/
def halfDot (m0 m1 : IVec S16x256 32) (c : Fin 3 → Fin 2 → Vec F S1x1x1x1x256 .f32) (x : Fin 8 → Vec F S1x32x128 .i8) :
    FVec F S192x256 .f32 :=
  matmul dot_S192x256_S256x256_S192x256_1_0_0_1_n_n none (lhsMat m0 m1 c) (rhsMat x) (constant S192x256 .f32 0x00000000#32)

/-- Both halves' products added, -/
def bothHalves (m0 m1 : IVec S16x256 32) (c : Fin 2 → Fin 3 → Fin 2 → Vec F S1x1x1x1x256 .f32)
    (x : Fin 2 → Fin 8 → Vec F S1x32x128 .i8) : FVec F S192x256 .f32 :=
  addf (halfDot m0 m1 (c 0) (x 0)) (halfDot m0 m1 (c 1) (x 1))

/-- and block `b`'s aggregate, its even and odd columns interleaved: the three limbs' rows added. -/
def aggBlk (m0 m1 : IVec S16x256 32) (src : IVec S32x128 32) (odd : IVec S32x128 1)
    (c : Fin 2 → Fin 3 → Fin 2 → Vec F S1x1x1x1x256 .f32) (x : Fin 2 → Fin 8 → Vec F S1x32x128 .i8) (b : Fin 2) :
    FVec F S32x128 .f32 :=
  let t := bothHalves m0 m1 c x
  let lo := addf (extractStridedSlice S64x256 ![0, 0] t slices_S192x256_o0_0_S64x256) (extractStridedSlice S64x256 ![64, 0] t slices_S192x256_o64_0_S64x256)
  let hi := extractStridedSlice S64x256 ![128, 0] t slices_S192x256_o128_0_S64x256
  (![k0_pay100 src odd lo hi, k0_pay101 src odd lo hi] : Fin 2 → FVec F S32x128 .f32) b

/-- The 32 rows of group `g` of a momentum scale's column spread over the lanes. -/
def scaleRows (g : Fin 4) (row : Vec F S1x128 .f32) : FVec F S32x128 .f32 :=
  (![extractStridedSlice S32x128 ![0, 0] (k0_pay5 row) slices_S128x128_o0_0_S32x128, extractStridedSlice S32x128 ![32, 0] (k0_pay5 row) slices_S128x128_o32_0_S32x128, extractStridedSlice S32x128 ![64, 0] (k0_pay5 row) slices_S128x128_o64_0_S32x128, extractStridedSlice S32x128 ![96, 0] (k0_pay5 row) slices_S128x128_o96_0_S32x128] : Fin 4 → FVec F S32x128 .f32) g

/-- The new momentum of one block, -/
def momBlk (d : FVec F S32x128 .f32) (s : FVec F S32x128 .f32) (mc : Vec F S32x128 .i8) : FVec F S32x128 .f32 :=
  addf (mulf (broadcast S32x128 (Scalar.ofBits .f32 0x3F666666#32)) (mulf (sitofp .f32 mc) s)) d

/-- the outer step, -/
def outBlk (v1 : Elt F .f32) (d s : FVec F S32x128 .f32) (mc : Vec F S32x128 .i8) (ga : Vec F S32x128 .f32) : FVec F S32x128 .f32 :=
  subf ga (mulf (broadcast S32x128 v1) (addf d (mulf (broadcast S32x128 (Scalar.ofBits .f32 0x3F666666#32)) (momBlk d s mc))))

/-- and the merge. -/
def mrgBlk (v1 : Elt F .f32) (d s : FVec F S32x128 .f32) (mc : Vec F S32x128 .i8) (ga : Vec F S32x128 .f32) (la : Vec F S32x128 .bf16) :
    FVec F S32x128 .f32 :=
  addf (mulf (broadcast S32x128 (Scalar.ofBits .f32 0x3F000000#32)) (extf .f32 la bitsLt_bf16_f32))
    (mulf (broadcast S32x128 (Scalar.ofBits .f32 0x3F000000#32)) (outBlk v1 d s mc ga))

/-- The scale of each row of a momentum block: its greatest magnitude over 127, or one. -/
def mscBlk (bn : FVec F S32x128 .f32) : FVec F S32x1 .f32 :=
  let amax : FVec F S32x1 .f32 := shapeCast S32x1 (multiReduction .maximumf [1] S32 (absf bn) 0xFF800000#32 reduces_S32x128_S32 (.inl rfl) rfl) shapeCasts_S32_S32x1
  select (cmpf .oeq amax (broadcast S32x1 (Scalar.ofBits .f32 0x00000000#32))) (broadcast S32x1 (Scalar.ofBits .f32 0x3F800000#32)) (divf amax (broadcast S32x1 (Scalar.ofBits .f32 0x42FE0000#32)))
/-- The block's codes: rounded over its rows' scales and clipped. -/
def mcnBlk (bn : FVec F S32x128 .f32) : IVec S32x128 8 :=
  fptosi 8 (minimumf (broadcast S32x128 (Scalar.ofBits .f32 0x42FE0000#32)) (maximumf (broadcast S32x128 (Scalar.ofBits .f32 0xC2FE0000#32)) (roundeven (divf bn (broadcastTo S32x128 (mscBlk bn) broadcasts_S32x1_S32x128)))))

/-! ## Where the trip reads -/

/-- The nibble bytes of group `g` and worker `8 h + w`. -/
def offByte (g : Fin 4) (h : Fin 2) (w : Fin 8) : Trip → Fin 3 → ℕ :=
  (![![![k0_off3, k0_off4, k0_off5, k0_off6, k0_off7, k0_off8, k0_off9, k0_off10], ![k0_off11, k0_off12, k0_off13, k0_off14, k0_off15, k0_off16, k0_off17, k0_off18]], ![![k0_off34, k0_off35, k0_off36, k0_off37, k0_off38, k0_off39, k0_off40, k0_off41], ![k0_off42, k0_off43, k0_off44, k0_off45, k0_off46, k0_off47, k0_off48, k0_off49]], ![![k0_off65, k0_off66, k0_off67, k0_off68, k0_off69, k0_off70, k0_off71, k0_off72], ![k0_off73, k0_off74, k0_off75, k0_off76, k0_off77, k0_off78, k0_off79, k0_off80]], ![![k0_off96, k0_off97, k0_off98, k0_off99, k0_off100, k0_off101, k0_off102, k0_off103], ![k0_off104, k0_off105, k0_off106, k0_off107, k0_off108, k0_off109, k0_off110, k0_off111]]] : Fin 4 → Fin 2 → Fin 8 → Trip → Fin 3 → ℕ) g h w
/-- The coefficient row of group `g`, half `h`, limb `l` and block `b` of the pair. -/
def offCoef (g : Fin 4) (h : Fin 2) (l : Fin 3) (b : Fin 2) : Trip → Fin 5 → ℕ :=
  (![![![![k0_off19, k0_off20], ![k0_off21, k0_off22], ![k0_off23, k0_off24]], ![![k0_off25, k0_off26], ![k0_off27, k0_off28], ![k0_off29, k0_off30]]], ![![![k0_off50, k0_off51], ![k0_off52, k0_off53], ![k0_off54, k0_off55]], ![![k0_off56, k0_off57], ![k0_off58, k0_off59], ![k0_off60, k0_off61]]], ![![![k0_off81, k0_off82], ![k0_off83, k0_off84], ![k0_off85, k0_off86]], ![![k0_off87, k0_off88], ![k0_off89, k0_off90], ![k0_off91, k0_off92]]], ![![![k0_off112, k0_off113], ![k0_off114, k0_off115], ![k0_off116, k0_off117]], ![![k0_off118, k0_off119], ![k0_off120, k0_off121], ![k0_off122, k0_off123]]]] : Fin 4 → Fin 2 → Fin 3 → Fin 2 → Trip → Fin 5 → ℕ) g h l b
/-- The element block of group `g` and block `b` of the pair. -/
def offElt (g : Fin 4) (b : Fin 2) : Trip → Fin 2 → ℕ :=
  (![![k0_off31, k0_off32], ![k0_off62, k0_off63], ![k0_off93, k0_off94], ![k0_off124, k0_off125]] : Fin 4 → Fin 2 → Trip → Fin 2 → ℕ) g b
/-- The momentum scale row of block `b` of the pair. -/
def offScale (b : Fin 2) : Trip → Fin 2 → ℕ := (![k0_off1, k0_off2] : Fin 2 → Trip → Fin 2 → ℕ) b

theorem offByte_eq (g : Fin 4) (h : Fin 2) (w : Fin 8) (k : Trip) : offByte g h w k = ![8 * h.val + w.val, 32 * g.val, 128 * k.val] := by
  revert k g h w; decide +kernel
theorem offCoef_eq (g : Fin 4) (h : Fin 2) (l : Fin 3) (b : Fin 2) (k : Trip) :
    offCoef g h l b k = ![g.val, h.val, l.val, 2 * k.val + b.val, 0] := by
  revert k g h l b; decide +kernel
theorem offElt_eq (g : Fin 4) (b : Fin 2) (k : Trip) : offElt g b k = ![32 * g.val, 256 * k.val + 128 * b.val] := by
  revert k g b; decide +kernel
theorem offScale_eq (b : Fin 2) (k : Trip) : offScale b k = ![2 * k.val + b.val, 0] := by
  revert k b; decide +kernel

theorem offByte_inb (g : Fin 4) (h : Fin 2) (w : Fin 8) (k : Trip) : ∀ a, offByte g h w k a + S1x32x128.size a ≤ S16x128x1536.size a := by
  revert k g h w; decide +kernel
theorem offCoef_inb (g : Fin 4) (h : Fin 2) (l : Fin 3) (b : Fin 2) (k : Trip) :
    ∀ a, offCoef g h l b k a + S1x1x1x1x256.size a ≤ S4x2x3x24x256.size a := by
  revert k g h l b; decide +kernel
theorem offElt_inb (g : Fin 4) (b : Fin 2) (k : Trip) : ∀ a, offElt g b k a + S32x128.size a ≤ S128x3072.size a := by
  revert k g b; decide +kernel
theorem offScale_inb (b : Fin 2) (k : Trip) : ∀ a, offScale b k a + S1x128.size a ≤ S24x128.size a := by
  revert k b; decide +kernel

/-! ## What one trip leaves in a block -/

section
variable (v1 : Elt F .f32) (m0 m1 : IVec S16x256 32) (src : IVec S32x128 32) (odd : IVec S32x128 1)
  (X3 : Vec F S16x128x1536 .i8) (X5 : Vec F S128x3072 .f32) (X6 : Vec F S128x3072 .bf16) (X7 : Vec F S128x3072 .i8)
  (X8 : Vec F S24x128 .f32) (X31 : Vec F S4x2x3x24x256 .f32)

/-- Trip `k`'s aggregate of group `g`, block `b`, -/
def aggT (k : Trip) (g : Fin 4) (b : Fin 2) : FVec F S32x128 .f32 :=
  aggBlk m0 m1 src odd (fun h l b => VecWindow.window X31 (offCoef g h l b k) S1x1x1x1x256.size (offCoef_inb g h l b k))
    (fun h w => VecWindow.window X3 (offByte g h w k) S1x32x128.size (offByte_inb g h w k)) b
/-- the momentum scale's rows, -/
def sclT (k : Trip) (g : Fin 4) (b : Fin 2) : FVec F S32x128 .f32 :=
  scaleRows g (VecWindow.window X8 (offScale b k) S1x128.size (offScale_inb b k))
/-- the outer step, -/
def outT (k : Trip) (g : Fin 4) (b : Fin 2) : FVec F S32x128 .f32 :=
  outBlk v1 (aggT m0 m1 src odd X3 X31 k g b) (sclT X8 k g b) (VecWindow.window X7 (offElt g b k) S32x128.size (offElt_inb g b k))
    (VecWindow.window X5 (offElt g b k) S32x128.size (offElt_inb g b k))
/-- the new momentum, -/
def momT (k : Trip) (g : Fin 4) (b : Fin 2) : FVec F S32x128 .f32 :=
  momBlk (aggT m0 m1 src odd X3 X31 k g b) (sclT X8 k g b) (VecWindow.window X7 (offElt g b k) S32x128.size (offElt_inb g b k))
/-- its codes, -/
def mcnT (k : Trip) (g : Fin 4) (b : Fin 2) : IVec S32x128 8 := mcnBlk (momT m0 m1 src odd X3 X7 X8 X31 k g b)
/-- and the merge. -/
def mrgT (k : Trip) (g : Fin 4) (b : Fin 2) : FVec F S32x128 .f32 :=
  mrgBlk v1 (aggT m0 m1 src odd X3 X31 k g b) (sclT X8 k g b) (VecWindow.window X7 (offElt g b k) S32x128.size (offElt_inb g b k))
    (VecWindow.window X5 (offElt g b k) S32x128.size (offElt_inb g b k)) (VecWindow.window X6 (offElt g b k) S32x128.size (offElt_inb g b k))
end

end Cert.KernelIdeal.Hand

end
-- ==== Proof.Pieces.lean ====
module

public import proofs.«01_k».proof.Proof.Block
public import Idealize.ShloMosaic.Lib.Writes
public import Idealize.ShloMosaic.Lib.WritesUnit

@[expose] public section

set_option maxRecDepth 16384

noncomputable section

namespace Cert.KernelIdeal.Hand

open Cert.KernelIdeal Cert.KernelIdeal.Gen
open Idealize.ShloMosaic

/-- The rectangle of group `g` and block `b` that trip `k` writes. -/
abbrev eltRect (g : Fin 4) (b : Fin 2) (k : Trip) : Rect S128x3072 := Rect.unit (offElt g b k) S32x128.size (offElt_inb g b k)

theorem eltRect_emb (g : Fin 4) (b : Fin 2) (k : Trip) (i : S32x128.Idx) (a : Fin 2) :
    ((eltRect g b k).emb i a).val = ![32 * g.val, 256 * k.val + 128 * b.val] a + (i a).val := by
  show offElt g b k a + 1 * (i a).val = _
  rw [offElt_eq, Nat.one_mul]

theorem eltRect_emb_0 (g : Fin 4) (b : Fin 2) (k : Trip) (i : S32x128.Idx) :
    ((eltRect g b k).emb i 0).val = 32 * g.val + (i 0).val := eltRect_emb g b k i 0
theorem eltRect_emb_1 (g : Fin 4) (b : Fin 2) (k : Trip) (i : S32x128.Idx) :
    ((eltRect g b k).emb i 1).val = 256 * k.val + 128 * b.val + (i 1).val := eltRect_emb g b k i 1

theorem mem_eltRect (g : Fin 4) (b : Fin 2) (k : Trip) (y : S128x3072.Idx) :
    y ∈ (eltRect g b k).set ↔ (32 * g.val ≤ (y 0).val ∧ (y 0).val < 32 * g.val + 32) ∧
      (256 * k.val + 128 * b.val ≤ (y 1).val ∧ (y 1).val < 256 * k.val + 128 * b.val + 128) := by
  have h : y ∈ (eltRect g b k).set ↔ ∀ a : Fin 2, offElt g b k a ≤ (y a).val ∧ (y a).val < offElt g b k a + S32x128.size a := Rect.mem_set_unit ..
  rw [h, offElt_eq, Fin.forall_fin_two]
  exact Iff.rfl

variable {Val : EltTy → Type} {e : EltTy}

/-- The eight pieces a trip writes, the last written first. -/
def tripPieces (k : Trip) (P : Fin 4 → Fin 2 → S32x128.Idx → Val e) : List (View.Piece Val S128x3072 e) :=
  [⟨eltRect 3 1 k, P 3 1⟩, ⟨eltRect 3 0 k, P 3 0⟩, ⟨eltRect 2 1 k, P 2 1⟩, ⟨eltRect 2 0 k, P 2 0⟩,
   ⟨eltRect 1 1 k, P 1 1⟩, ⟨eltRect 1 0 k, P 1 0⟩, ⟨eltRect 0 1 k, P 0 1⟩, ⟨eltRect 0 0 k, P 0 0⟩]

/-- The tensor whose block `(g, b)` of trip `k` is `P g b`. -/
def ofBlocks (P : Fin 4 → Fin 2 → S32x128.Idx → Val e) (y : S128x3072.Idx) : Val e :=
  P ⟨(y 0).val / 32 % 4, Nat.mod_lt _ (by decide)⟩ ⟨(y 1).val / 128 % 2, Nat.mod_lt _ (by decide)⟩
    (Fin.cons (⟨(y 0).val % 32, Nat.mod_lt _ (by decide)⟩ : Fin 32)
      (Fin.cons (⟨(y 1).val % 128, Nat.mod_lt _ (by decide)⟩ : Fin 128) fun a => a.elim0) : S32x128.Idx)

theorem ofBlocks_emb (P : Fin 4 → Fin 2 → S32x128.Idx → Val e) (g : Fin 4) (b : Fin 2) (k : Trip) (i : S32x128.Idx) :
    ofBlocks P ((eltRect g b k).emb i) = P g b i := by
  have h0 : ((eltRect g b k).emb i 0).val = 32 * g.val + (i 0).val := eltRect_emb g b k i 0
  have h1 : ((eltRect g b k).emb i 1).val = 256 * k.val + 128 * b.val + (i 1).val := eltRect_emb g b k i 1
  have l0 : (i 0).val < 32 := (i 0).isLt
  have l1 : (i 1).val < 128 := (i 1).isLt
  have hg := g.isLt; have hb := b.isLt
  unfold ofBlocks
  have e1 : (⟨((eltRect g b k).emb i 0).val / 32 % 4, Nat.mod_lt _ (by decide)⟩ : Fin 4) = g := Fin.ext (by show ((eltRect g b k).emb i 0).val / 32 % 4 = g.val; omega)
  have e2 : (⟨((eltRect g b k).emb i 1).val / 128 % 2, Nat.mod_lt _ (by decide)⟩ : Fin 2) = b := Fin.ext (by show ((eltRect g b k).emb i 1).val / 128 % 2 = b.val; omega)
  rw [e1, e2]
  congr 1
  funext a
  refine Fin.cases ?_ (fun a => ?_) a
  · apply Fin.ext; show ((eltRect g b k).emb i 0).val % 32 = (i 0).val; omega
  · have : a = 0 := Subsingleton.elim _ _
    subst this
    apply Fin.ext; show ((eltRect g b k).emb i 1).val % 128 = (i 1).val; omega

variable {sig' : RefSig} {κ : Kind} {sp : Space}

/-- After the trip's writes its own blocks hold what it wrote, -/
theorem read_tripPieces_self (v : View sig' κ sp S128x3072 e) (f : v.ty.Contents Val) (k : Trip)
    (P : Fin 4 → Fin 2 → S32x128.Idx → Val e) (g : Fin 4) (b : Fin 2) (i : S32x128.Idx) :
    v.read Val (v.writes Val f (tripPieces k P)) ((eltRect g b k).emb i) = P g b i := by
  rw [View.read_writes_apply_of_pieces v f (ofBlocks P) (tripPieces k P) ?_ _ ?_, ofBlocks_emb]
  · intro p hp x
    simp only [tripPieces, List.mem_cons, List.not_mem_nil, or_false] at hp
    rcases hp with rfl | rfl | rfl | rfl | rfl | rfl | rfl | rfl <;> exact (ofBlocks_emb P _ _ k x).symm
  · have hm : (eltRect g b k).emb i ∈ (eltRect g b k).set := by
      rw [mem_eltRect, eltRect_emb_0, eltRect_emb_1]
      have l0 : (i 0).val < 32 := (i 0).isLt
      have l1 : (i 1).val < 128 := (i 1).isLt
      omega
    refine ⟨⟨eltRect g b k, P g b⟩, ?_, hm⟩
    simp only [tripPieces]
    fin_cases g <;> fin_cases b <;> simp

/-- and the blocks of the other trips are as they were. -/
theorem read_tripPieces_other (v : View sig' κ sp S128x3072 e) (f : v.ty.Contents Val) (k : Trip)
    (P : Fin 4 → Fin 2 → S32x128.Idx → Val e) (j : Trip) (hj : j ≠ k) (g : Fin 4) (b : Fin 2) (i : S32x128.Idx) :
    v.read Val (v.writes Val f (tripPieces k P)) ((eltRect g b j).emb i) = v.read Val f ((eltRect g b j).emb i) := by
  refine View.read_writes_apply_of_forall_not_mem v f _ _ fun p hp => ?_
  have key : ∀ (g' : Fin 4) (b' : Fin 2), (eltRect g b j).emb i ∉ (eltRect g' b' k).set := by
    intro g' b' hmem
    rw [mem_eltRect] at hmem
    have h1 : ((eltRect g b j).emb i 1).val = 256 * j.val + 128 * b.val + (i 1).val := eltRect_emb g b j i 1
    have l1 : (i 1).val < 128 := (i 1).isLt
    have hb := b.isLt; have hb' := b'.isLt
    have : j.val ≠ k.val := fun h => hj (Fin.ext h)
    omega
  simp only [tripPieces, List.mem_cons, List.not_mem_nil, or_false] at hp
  rcases hp with rfl | rfl | rfl | rfl | rfl | rfl | rfl | rfl <;> exact key _ _

/-- The blocks of the first `n` trips hold `P`. -/
def Holds (v : View sig' κ sp S128x3072 e) (n : ℕ) (P : Trip → Fin 4 → Fin 2 → S32x128.Idx → Val e) (f : v.ty.Contents Val) : Prop :=
  ∀ j : Trip, j.val < n → ∀ g b i, v.read Val f ((eltRect g b j).emb i) = P j g b i

/-- Before the first trip there is nothing to hold. -/
theorem holds_zero (v : View sig' κ sp S128x3072 e) (P : Trip → Fin 4 → Fin 2 → S32x128.Idx → Val e) (f : v.ty.Contents Val) :
    Holds v 0 P f := fun _ h => absurd h (Nat.not_lt_zero _)

theorem Holds.step {v : View sig' κ sp S128x3072 e} {k : Trip} {P : Trip → Fin 4 → Fin 2 → S32x128.Idx → Val e}
    {f : v.ty.Contents Val} (h : Holds v k.val P f) : Holds v (k.val + 1) P (v.writes Val f (tripPieces k (P k))) := by
  intro j hj g b i
  by_cases hk : j = k
  · subst hk; exact read_tripPieces_self v f j (P j) g b i
  · rw [read_tripPieces_other v f k (P k) j hk]
    exact h j (by have : j.val ≠ k.val := fun h => hk (Fin.ext h); omega) g b i

/-- The tensor whose blocks are `P`'s. -/
def blockTensor (P : Trip → Fin 4 → Fin 2 → S32x128.Idx → Val e) (y : S128x3072.Idx) : Val e :=
  ofBlocks (P ⟨(y 1).val / 256, by
    have h : (y 1).val < 3072 := (y 1).isLt
    have e : k0_t1_loop.trips = 12 := by decide +kernel
    omega⟩) y

/-- After the last trip the buffer is that tensor. -/
theorem Holds.read_eq {v : View sig' κ sp S128x3072 e} {P : Trip → Fin 4 → Fin 2 → S32x128.Idx → Val e}
    {f : v.ty.Contents Val} (h : Holds v k0_t1_loop.trips P f) : v.read Val f = blockTensor P := by
  funext y
  have h0 : (y 0).val < 128 := (y 0).isLt
  have h1 : (y 1).val < 3072 := (y 1).isLt
  have e : k0_t1_loop.trips = 12 := by decide +kernel
  let k : Trip := ⟨(y 1).val / 256, by omega⟩
  let g : Fin 4 := ⟨(y 0).val / 32 % 4, Nat.mod_lt _ (by decide)⟩
  let b : Fin 2 := ⟨(y 1).val / 128 % 2, Nat.mod_lt _ (by decide)⟩
  let i : S32x128.Idx := Fin.cons (⟨(y 0).val % 32, Nat.mod_lt _ (by decide)⟩ : Fin 32)
    (Fin.cons (⟨(y 1).val % 128, Nat.mod_lt _ (by decide)⟩ : Fin 128) fun a => a.elim0)
  have hy : (eltRect g b k).emb i = y := by
    funext a
    apply Fin.ext
    refine Fin.cases ?_ (fun a => ?_) a
    · rw [eltRect_emb_0]; show 32 * ((y 0).val / 32 % 4) + (y 0).val % 32 = (y 0).val; omega
    · have : a = 0 := Subsingleton.elim _ _
      subst this
      show ((eltRect g b k).emb i 1).val = (y 1).val
      rw [eltRect_emb_1]
      show 256 * ((y 1).val / 256) + 128 * ((y 1).val / 128 % 2) + (y 1).val % 128 = (y 1).val
      omega
  have := h k k.isLt g b i
  rw [hy] at this
  rw [this]
  rfl

/-- What the loop carries: before the first trip nothing, afterwards the trips done. -/
def Upto (v : View sig' κ sp S128x3072 e) (n : ℕ) (P : Trip → Fin 4 → Fin 2 → S32x128.Idx → Val e) (f : v.ty.Contents Val) : Prop :=
  match n with
  | 0 => True
  | n + 1 => Holds v (n + 1) P f

theorem Upto.holds {v : View sig' κ sp S128x3072 e} {n : ℕ} {P : Trip → Fin 4 → Fin 2 → S32x128.Idx → Val e}
    {f : v.ty.Contents Val} (h : Upto v n P f) : Holds v n P f := by
  cases n with
  | zero => exact holds_zero v P f
  | succ n => exact h

theorem Upto.step {v : View sig' κ sp S128x3072 e} {k : Trip} {P : Trip → Fin 4 → Fin 2 → S32x128.Idx → Val e}
    {f : v.ty.Contents Val} (h : Upto v k.val P f) (L : List (View.Piece Val S128x3072 e)) (hL : L = tripPieces k (P k)) :
    Upto v (k.val + 1) P (v.writes Val f L) := hL ▸ h.holds.step

end Cert.KernelIdeal.Hand

end
-- ==== Proof.Coef.lean ====
module

public import proofs.«01_k».proof.Proof.Pieces

@[expose] public section

set_option maxRecDepth 16384

noncomputable section

namespace Cert.KernelIdeal.Hand

open Cert.KernelIdeal Cert.KernelIdeal.Gen
open Idealize.ShloMosaic

variable {F : FTy → Type} [FloatOps F]

/-- The chunk of 32 lanes a lane lies in. -/
def chunkV : IVec S1x128 32 := k0_pay700 (iota .tc S1x128 32 [1] iota_S1x128_d1_w32) 32#32 k0_pay698 k0_pay699 1#32 0#32
/-- The lanes of chunk `i`. -/
def chunkMask (i : BitVec 32) : IVec S8x128 1 :=
  broadcastTo S8x128 (shapeCast S1x128 (cmpi .eq chunkV (broadcast S1x128 i)) shapeCasts_S1x128_S1x128) broadcasts_S1x128_S8x128
/-- The lanes turned by `s` chunks. -/
def rotL (s : Fin 4) (v : FVec F S8x128 .f32) : FVec F S8x128 .f32 :=
  (![v, dynamicRotate 1 32#32 none v rotates_S8x128_d1, dynamicRotate 1 64#32 none v rotates_S8x128_d1,
    dynamicRotate 1 96#32 none v rotates_S8x128_d1] : Fin 4 → FVec F S8x128 .f32) s
/-- Chunk `i` of the result is chunk `g` of the `i`-th vector. -/
def coefV (c : Fin 4 → FVec F S8x128 .f32) (g : Fin 4) : FVec F S8x128 .f32 :=
  select (chunkMask 3#32) (rotL (3 - g) (c 3)) (select (chunkMask 2#32) (rotL (2 - g) (c 2))
    (select (chunkMask 1#32) (rotL (1 - g) (c 1)) (rotL (0 - g) (c 0))))
/-- The three limbs of a value. -/
def limbs (v : FVec F S8x128 .f32) (l : Fin 3) : FVec F S8x128 .f32 :=
  let t0 : FVec F S8x128 .f32 := extf .f32 (truncf .bf16 v bitsLt_bf16_f32) bitsLt_bf16_f32
  let t1 : FVec F S8x128 .f32 := extf .f32 (truncf .bf16 (subf v t0) bitsLt_bf16_f32) bitsLt_bf16_f32
  let t2 : FVec F S8x128 .f32 := extf .f32 (truncf .bf16 (subf (subf v t0) t1) bitsLt_bf16_f32) bitsLt_bf16_f32
  (![t0, t1, t2] : Fin 3 → FVec F S8x128 .f32) l

theorem offSc_inb (q i : Fin 4) (t : Fin 3) : ∀ a, (![4 * q.val + i.val, 8 * t.val, 0] : Fin 3 → ℕ) a + S1x8x128.size a ≤ S16x24x128.size a := by
  revert q i t; decide +kernel
theorem offWt_inb (q i : Fin 4) : ∀ a, (![4 * q.val + i.val] : Fin 1 → ℕ) a + S1.size a ≤ S16.size a := by
  revert q i; decide +kernel
theorem offCf_inb (q : Fin 4) (t : Fin 3) (g : Fin 4) (l : Fin 3) :
    ∀ a, (![g.val, q.val / 2, l.val, 8 * t.val, 128 * (q.val % 2)] : Fin 5 → ℕ) a + S1x1x1x8x128.size a ≤ S4x2x3x24x256.size a := by
  revert q t g l; decide +kernel

section
variable (X1 : Vec F S16 .f32) (X4 : Vec F S16x24x128 .f32)

/-- Eight block rows of worker `4 q + i`'s scales times its weight. -/
def coefIn (q : Fin 4) (t : Fin 3) (i : Fin 4) : FVec F S8x128 .f32 :=
  k0_pay701 (VecWindow.window X4 ![4 * q.val + i.val, 8 * t.val, 0] S1x8x128.size (offSc_inb q i t))
    (VecWindow.window X1 ![4 * q.val + i.val] S1.size (offWt_inb q i) (Shape.Idx.first (s := S1) (by decide)))
/-- One write of a coefficient block. -/
def coefPiece (q : Fin 4) (t : Fin 3) (g : Fin 4) (l : Fin 3) : View.Piece (Elt F) S4x2x3x24x256 .f32 :=
  ⟨Rect.unit ![g.val, q.val / 2, l.val, 8 * t.val, 128 * (q.val % 2)] S1x1x1x8x128.size (offCf_inb q t g l),
    shapeCast S1x1x1x8x128 (limbs (coefV (coefIn X1 X4 q t) g) l) shapeCasts_S8x128_S1x1x1x8x128⟩
/-- A list's pieces put before another's: the three limbs, -/
def consL (q : Fin 4) (t : Fin 3) (g : Fin 4) (L : List (View.Piece (Elt F) S4x2x3x24x256 .f32)) : List (View.Piece (Elt F) S4x2x3x24x256 .f32) :=
  coefPiece X1 X4 q t g 2 :: coefPiece X1 X4 q t g 1 :: coefPiece X1 X4 q t g 0 :: L
/-- the four groups, -/
def consG (q : Fin 4) (t : Fin 3) (L : List (View.Piece (Elt F) S4x2x3x24x256 .f32)) : List (View.Piece (Elt F) S4x2x3x24x256 .f32) :=
  consL X1 X4 q t 3 (consL X1 X4 q t 2 (consL X1 X4 q t 1 (consL X1 X4 q t 0 L)))
/-- the three rows of eight blocks, -/
def consT (q : Fin 4) (L : List (View.Piece (Elt F) S4x2x3x24x256 .f32)) : List (View.Piece (Elt F) S4x2x3x24x256 .f32) :=
  consG X1 X4 q 2 (consG X1 X4 q 1 (consG X1 X4 q 0 L))
/-- and all the writes of the coefficients, the last first. -/
def coefPieces : List (View.Piece (Elt F) S4x2x3x24x256 .f32) :=
  consT X1 X4 3 (consT X1 X4 2 (consT X1 X4 1 (consT X1 X4 0 [])))
end

/-- The diagonals of the left operand: rows `16 a` to `16 a + 15`. -/
def diagRem : IVec S16x128 32 :=
  let c : IVec S16x128 32 := iota .tc S16x128 32 [1] iota_S16x128_d1_w32
  let r : IVec S16x128 32 := remsi c (broadcast S16x128 32#32)
  select (andi (xori (cmpi .slt r (broadcast S16x128 0#32)) (broadcastTo S16x128 (broadcast S16x128 0#1) (by decide))) (cmpi .ne r (broadcast S16x128 0#32)))
    (addi r (broadcast S16x128 32#32)) r
def diagHalf (a : BitVec 32) : IVec S16x128 32 :=
  select (cmpi .eq diagRem (addi (iota .tc S16x128 32 [0] iota_S16x128_d0_w32) (broadcast S16x128 a))) (broadcast S16x128 1#32) (broadcast S16x128 0#32)
def diagV (a : BitVec 32) : IVec S16x256 32 :=
  concatenate S16x256 1 [⟨S16x128, diagHalf a⟩, ⟨S16x128, diagHalf a⟩] concatenates_S16x128_S16x128_S16x256_d1

theorem mem_consL {X1 : Vec F S16 .f32} {X4 : Vec F S16x24x128 .f32} {q : Fin 4} {t : Fin 3} {g : Fin 4} {L} {p : View.Piece (Elt F) S4x2x3x24x256 .f32} :
    p ∈ consL X1 X4 q t g L ↔ (∃ l, p = coefPiece X1 X4 q t g l) ∨ p ∈ L := by
  unfold consL
  simp only [List.mem_cons, Fin.exists_fin_succ, Fin.exists_fin_zero]
  tauto
theorem mem_consG {X1 : Vec F S16 .f32} {X4 : Vec F S16x24x128 .f32} {q : Fin 4} {t : Fin 3} {L} {p : View.Piece (Elt F) S4x2x3x24x256 .f32} :
    p ∈ consG X1 X4 q t L ↔ (∃ g l, p = coefPiece X1 X4 q t g l) ∨ p ∈ L := by
  unfold consG
  rw [mem_consL, mem_consL, mem_consL, mem_consL]
  constructor
  · rintro (h | h | h | h | h)
    · exact .inl ⟨_, h⟩
    · exact .inl ⟨_, h⟩
    · exact .inl ⟨_, h⟩
    · exact .inl ⟨_, h⟩
    · exact .inr h
  · rintro (⟨g, h⟩ | h)
    · fin_cases g <;> (first | exact .inl h | exact .inr (.inl h) | exact .inr (.inr (.inl h)) | exact .inr (.inr (.inr (.inl h))))
    · exact .inr (.inr (.inr (.inr h)))
theorem mem_consT {X1 : Vec F S16 .f32} {X4 : Vec F S16x24x128 .f32} {q : Fin 4} {L} {p : View.Piece (Elt F) S4x2x3x24x256 .f32} :
    p ∈ consT X1 X4 q L ↔ (∃ t g l, p = coefPiece X1 X4 q t g l) ∨ p ∈ L := by
  unfold consT
  rw [mem_consG, mem_consG, mem_consG]
  constructor
  · rintro (h | h | h | h)
    · exact .inl ⟨_, h⟩
    · exact .inl ⟨_, h⟩
    · exact .inl ⟨_, h⟩
    · exact .inr h
  · rintro (⟨t, h⟩ | h)
    · fin_cases t <;> (first | exact .inl h | exact .inr (.inl h) | exact .inr (.inr (.inl h)) | exact .inr (.inr (.inr (.inl h))))
    · exact .inr (.inr (.inr h))
theorem mem_coefPieces {X1 : Vec F S16 .f32} {X4 : Vec F S16x24x128 .f32} {p : View.Piece (Elt F) S4x2x3x24x256 .f32} :
    p ∈ coefPieces X1 X4 ↔ ∃ q t g l, p = coefPiece X1 X4 q t g l := by
  unfold coefPieces
  rw [mem_consT, mem_consT, mem_consT, mem_consT]
  constructor
  · rintro (h | h | h | h | h)
    · exact ⟨_, h⟩
    · exact ⟨_, h⟩
    · exact ⟨_, h⟩
    · exact ⟨_, h⟩
    · cases h
  · rintro ⟨q, h⟩
    fin_cases q <;> (first | exact .inl h | exact .inr (.inl h) | exact .inr (.inr (.inl h)) | exact .inr (.inr (.inr (.inl h))))

end Cert.KernelIdeal.Hand

end
-- ==== Proof.Spec.lean ====
module

public import proofs.«01_k».proof.Proof.Coef

public import Idealize.ShloMosaic.Lib.Pointwise

@[expose] public section

set_option maxRecDepth 16384

noncomputable section

namespace Cert.KernelIdeal.Hand

open Cert.KernelIdeal Cert.KernelIdeal.Gen
open Idealize.ShloMosaic

variable {F : FTy → Type} [FloatOps F]

/-- The lane each lane of an interleaved row comes from. -/
def srcV : IVec S32x128 32 :=
  let c : IVec S32x128 32 := iota .tc S32x128 32 [1] iota_S32x128_d1_w32
  k0_pay1146 c 2#32 (divsi c (broadcast S32x128 2#32))
    (subi (extui 32 (cmpi .sgt c (broadcast S32x128 0#32)) natLt_1_32) (extui 32 (cmpi .slt c (broadcast S32x128 0#32)) natLt_1_32)) 1#1
/-- The odd lanes. -/
def oddV : IVec S32x128 1 := k0_pay1147 (iota .tc S32x128 32 [1] iota_S32x128_d1_w32)

/-- The coefficients, as the writes leave them. -/
def coefSpec (X1 : Vec F S16 .f32) (X4 : Vec F S16x24x128 .f32) : Vec F S4x2x3x24x256 .f32 := fun y =>
  limbs (coefV (coefIn X1 X4 ⟨(2 * (y 1).val + (y 4).val / 128) % 4, Nat.mod_lt _ (by decide)⟩ ⟨(y 3).val / 8 % 3, Nat.mod_lt _ (by decide)⟩) ⟨(y 0).val % 4, Nat.mod_lt _ (by decide)⟩)
    ⟨(y 2).val % 3, Nat.mod_lt _ (by decide)⟩ (ix2 ⟨(y 3).val % 8, Nat.mod_lt _ (by decide)⟩ ⟨(y 4).val % 128, Nat.mod_lt _ (by decide)⟩)

theorem coefPiece_apply (X1 : Vec F S16 .f32) (X4 : Vec F S16x24x128 .f32) (q : Fin 4) (t : Fin 3) (g : Fin 4) (l : Fin 3)
    (x : (coefPiece X1 X4 q t g l).1.shape.Idx) :
    (coefPiece X1 X4 q t g l).2 x = coefSpec X1 X4 ((coefPiece X1 X4 q t g l).1.emb x) := by
  have e : ∀ a, (((coefPiece X1 X4 q t g l).1.emb x) a).val = (![g.val, q.val / 2, l.val, 8 * t.val, 128 * (q.val % 2)] : Fin 5 → ℕ) a + (x a).val := by
    intro a
    show (![g.val, q.val / 2, l.val, 8 * t.val, 128 * (q.val % 2)] : Fin 5 → ℕ) a + 1 * (x a).val = _
    rw [Nat.one_mul]
  generalize (coefPiece X1 X4 q t g l).1.emb x = y at e
  have x0 : (x 0).val < 1 := (x 0).isLt
  have x1 : (x 1).val < 1 := (x 1).isLt
  have x2 : (x 2).val < 1 := (x 2).isLt
  have x3 : (x 3).val < 8 := (x 3).isLt
  have x4 : (x 4).val < 128 := (x 4).isLt
  have e0 : (y 0).val = g.val + (x 0).val := e 0
  have e1 : (y 1).val = q.val / 2 + (x 1).val := e 1
  have e2 : (y 2).val = l.val + (x 2).val := e 2
  have e3 : (y 3).val = 8 * t.val + (x 3).val := e 3
  have e4 : (y 4).val = 128 * (q.val % 2) + (x 4).val := e 4
  have hq := q.isLt; have ht := t.isLt; have hg := g.isLt; have hl := l.isLt
  have a1 : (⟨(2 * (y 1).val + (y 4).val / 128) % 4, Nat.mod_lt _ (by decide)⟩ : Fin 4) = q := Fin.ext (by show (2 * (y 1).val + (y 4).val / 128) % 4 = q.val; omega)
  have a2 : (⟨(y 3).val / 8 % 3, Nat.mod_lt _ (by decide)⟩ : Fin 3) = t := Fin.ext (by show (y 3).val / 8 % 3 = t.val; omega)
  have a3 : (⟨(y 0).val % 4, Nat.mod_lt _ (by decide)⟩ : Fin 4) = g := Fin.ext (by show (y 0).val % 4 = g.val; omega)
  have a4 : (⟨(y 2).val % 3, Nat.mod_lt _ (by decide)⟩ : Fin 3) = l := Fin.ext (by show (y 2).val % 3 = l.val; omega)
  unfold coefSpec
  rw [a1, a2, a3, a4]
  show shapeCast S1x1x1x8x128 (limbs (coefV (coefIn X1 X4 q t) g) l) shapeCasts_S8x128_S1x1x1x8x128 x = _
  generalize limbs (coefV (coefIn X1 X4 q t) g) l = V
  have a5 : (⟨(y 3).val % 8, Nat.mod_lt _ (by decide)⟩ : Fin 8) = x 3 := Fin.ext (by show (y 3).val % 8 = (x 3).val; omega)
  have a6 : (⟨(y 4).val % 128, Nat.mod_lt _ (by decide)⟩ : Fin 128) = x 4 := Fin.ext (by show (y 4).val % 128 = (x 4).val; omega)
  rw [a5, a6]
  pointwise

/-- The coefficient buffer after its writes. -/
theorem read_coefPieces {sig' : RefSig} {κ : Kind} {sp : Space} (v : View sig' κ sp S4x2x3x24x256 .f32) (f : v.ty.Contents (Elt F))
    (X1 : Vec F S16 .f32) (X4 : Vec F S16x24x128 .f32) : v.read (Elt F) (v.writes (Elt F) f (coefPieces X1 X4)) = coefSpec X1 X4 := by
  funext y
  refine View.read_writes_apply_of_pieces v f (coefSpec X1 X4) _ (fun p hp x => ?_) y ?_
  · obtain ⟨q, t, g, l, rfl⟩ := mem_coefPieces.1 hp
    exact coefPiece_apply X1 X4 q t g l x
  · have y0 : (y 0).val < 4 := (y 0).isLt
    have y1 : (y 1).val < 2 := (y 1).isLt
    have y2 : (y 2).val < 3 := (y 2).isLt
    have y3 : (y 3).val < 24 := (y 3).isLt
    have y4 : (y 4).val < 256 := (y 4).isLt
    refine ⟨_, mem_coefPieces.2 ⟨⟨2 * (y 1).val + (y 4).val / 128, by omega⟩, ⟨(y 3).val / 8, by omega⟩, y 0, y 2, rfl⟩, ?_⟩
    unfold coefPiece
    rw [Rect.mem_set_unit]
    intro a
    fin_cases a
    · exact ⟨Nat.le_refl _, by show (y 0).val < (y 0).val + 1; omega⟩
    · refine ⟨?_, ?_⟩
      · show (2 * (y 1).val + (y 4).val / 128) / 2 ≤ (y 1).val; omega
      · show (y 1).val < (2 * (y 1).val + (y 4).val / 128) / 2 + 1; omega
    · exact ⟨Nat.le_refl _, by show (y 2).val < (y 2).val + 1; omega⟩
    · refine ⟨?_, ?_⟩
      · show 8 * ((y 3).val / 8) ≤ (y 3).val; omega
      · show (y 3).val < 8 * ((y 3).val / 8) + 8; omega
    · refine ⟨?_, ?_⟩
      · show 128 * ((2 * (y 1).val + (y 4).val / 128) % 2) ≤ (y 4).val; omega
      · show (y 4).val < 128 * ((2 * (y 1).val + (y 4).val / 128) % 2) + 128; omega

section
variable (x0 : Vec F S16 .f32) (x1 : Vec F S1 .f32) (x2 : Vec F S16x128x1536 .i8) (x3 : Vec F S16x24x128 .f32) (x4 : Vec F S128x3072 .f32)
  (x5 : Vec F S128x3072 .bf16) (x6 : Vec F S128x3072 .i8) (x7 : Vec F S24x128 .f32)

/-- The step's learning rate. -/
def lrOf : Elt F .f32 := x1 (Shape.Idx.first (by decide))
/-- A strip's outer step, -/
def outSpec : Vec F S128x3072 .f32 :=
  blockTensor (outT (lrOf x1) (diagV 0#32) (diagV 16#32) srcV oddV x2 x4 x6 x7 (coefSpec x0 x3))
/-- its momentum's codes, -/
def mcnSpec : Vec F S128x3072 .i8 :=
  blockTensor (Val := Elt F) (e := .i8) (mcnT (diagV 0#32) (diagV 16#32) srcV oddV x2 x6 x7 (coefSpec x0 x3))
/-- and its merge. -/
def mrgSpec : Vec F S128x3072 .f32 :=
  blockTensor (mrgT (lrOf x1) (diagV 0#32) (diagV 16#32) srcV oddV x2 x4 x5 x6 x7 (coefSpec x0 x3))
end

end Cert.KernelIdeal.Hand

end
-- ==== Proof.Post.lean ====
/-
  What the run's buffers read as, from what its trips wrote.
-/
module

public import proofs.«01_k».proof.Proof.Spec

@[expose] public section

set_option maxRecDepth 16384

noncomputable section

namespace Cert.KernelIdeal.Hand

open Cert.KernelIdeal Cert.KernelIdeal.Gen
open Idealize.ShloMosaic

variable {F : FTy → Type} [FloatOps F]

theorem lr_of {v1 : Elt F .f32} {X1 x1 : Vec F S1 .f32} (h : v1 = X1 ((Rect.unit ![0] S1.size inb_S1_S1_0).emb (Shape.Idx.first (by decide)))) (hX : X1 = x1) :
    v1 = lrOf x1 := by
  rw [h, hX]
  refine congrArg x1 (funext fun a => ?_)
  fin_cases a
  exact Fin.ext (by decide)

theorem coef_of {sig' : RefSig} {κ : Kind} {sp : Space} (v : View sig' κ sp S4x2x3x24x256 .f32) (f : v.ty.Contents (Elt F))
    {L : List (View.Piece (Elt F) S4x2x3x24x256 .f32)} {X1 x1 : Vec F S16 .f32} {X4 x4 : Vec F S16x24x128 .f32}
    (h : L = coefPieces X1 X4) (h1 : X1 = x1) (h4 : X4 = x4) : v.read (Elt F) (v.writes (Elt F) f L) = coefSpec x1 x4 := by
  subst h; subst h1; subst h4
  exact read_coefPieces v f _ _

section
variable (x0 : Vec F S16 .f32) (x1 : Vec F S1 .f32) (x2 : Vec F S16x128x1536 .i8) (x3 : Vec F S16x24x128 .f32) (x4 : Vec F S128x3072 .f32)
  (x5 : Vec F S128x3072 .bf16) (x6 : Vec F S128x3072 .i8) (x7 : Vec F S24x128 .f32)

theorem outSpec_of {v1 m0 m1 src odd X3 X5 X7 X8 X31} (h1 : v1 = lrOf x1) (hm0 : m0 = diagV 0#32) (hm1 : m1 = diagV 16#32) (hsrc : src = srcV) (hodd : odd = oddV)
    (h3 : X3 = x2) (h5 : X5 = x4) (h7 : X7 = x6) (h8 : X8 = x7) (h31 : X31 = coefSpec x0 x3) :
    blockTensor (outT (F := F) v1 m0 m1 src odd X3 X5 X7 X8 X31) = outSpec x0 x1 x2 x3 x4 x6 x7 := by
  rw [h1, hm0, hm1, hsrc, hodd, h3, h5, h7, h8, h31]; rfl

theorem mcnSpec_of {m0 m1 src odd X3 X7 X8 X31} (hm0 : m0 = diagV 0#32) (hm1 : m1 = diagV 16#32) (hsrc : src = srcV) (hodd : odd = oddV)
    (h3 : X3 = x2) (h7 : X7 = x6) (h8 : X8 = x7) (h31 : X31 = coefSpec x0 x3) :
    blockTensor (Val := Elt F) (e := .i8) (mcnT (F := F) m0 m1 src odd X3 X7 X8 X31) = mcnSpec x0 x2 x3 x6 x7 := by
  rw [hm0, hm1, hsrc, hodd, h3, h7, h8, h31]; rfl

theorem mrgSpec_of {v1 m0 m1 src odd X3 X5 X6 X7 X8 X31} (h1 : v1 = lrOf x1) (hm0 : m0 = diagV 0#32) (hm1 : m1 = diagV 16#32) (hsrc : src = srcV) (hodd : odd = oddV)
    (h3 : X3 = x2) (h5 : X5 = x4) (h6 : X6 = x5) (h7 : X7 = x6) (h8 : X8 = x7) (h31 : X31 = coefSpec x0 x3) :
    blockTensor (mrgT (F := F) v1 m0 m1 src odd X3 X5 X6 X7 X8 X31) = mrgSpec x0 x1 x2 x3 x4 x5 x6 x7 := by
  rw [h1, hm0, hm1, hsrc, hodd, h3, h5, h6, h7, h8, h31]; rfl
end

end Cert.KernelIdeal.Hand

end
-- ==== Proof.Column.lean ====
/-
  The scale columns a trip stores: of each group's 32 rows one lane, chosen by a mask, for each block of the pair.
-/
module

public import proofs.«01_k».proof.Proof.Post

@[expose] public section

set_option maxRecDepth 16384

noncomputable section

namespace Cert.KernelIdeal.Hand

open Cert.KernelIdeal Cert.KernelIdeal.Gen
open Idealize.ShloMosaic

theorem colRect_inb (g : Fin 4) : ∀ a, (![32 * g.val, 0] : Fin 2 → ℕ) a + S32x128.size a ≤ S128x128.size a := by
  revert g; decide +kernel

/-- The 32 rows of group `g`. -/
abbrev colRect (g : Fin 4) : Rect S128x128 := Rect.unit ![32 * g.val, 0] S32x128.size (colRect_inb g)

theorem colRect_emb (g : Fin 4) (i : S32x128.Idx) (a : Fin 2) :
    ((colRect g).emb i a).val = (![32 * g.val, 0] : Fin 2 → ℕ) a + (i a).val := by
  show (![32 * g.val, 0] : Fin 2 → ℕ) a + 1 * (i a).val = _
  rw [Nat.one_mul]

theorem colRect_emb_0 (g : Fin 4) (i : S32x128.Idx) : ((colRect g).emb i 0).val = 32 * g.val + (i 0).val := colRect_emb g i 0
theorem colRect_emb_1 (g : Fin 4) (i : S32x128.Idx) : ((colRect g).emb i 1).val = (i 1).val := (colRect_emb g i 1).trans (Nat.zero_add _)

variable {Val : EltTy → Type} {e : EltTy} {sig' : RefSig} {κ : Kind} {sp : Space}

/-- A masked store to group `g`. -/
def colSet (v : View sig' κ sp S128x128 e) (f : v.ty.Contents Val) (g : Fin 4) (w : S32x128.Idx → Val e) (M : Finset S32x128.Idx) : v.ty.Contents Val :=
  (v.slice (colRect g)).write Val f w M

theorem read_colSet (v : View sig' κ sp S128x128 e) (f : v.ty.Contents Val) (g : Fin 4) (w : S32x128.Idx → Val e) (M : Finset S32x128.Idx)
    (g' : Fin 4) (i : S32x128.Idx) :
    v.read Val (colSet v f g w M) ((colRect g').emb i) = if g' = g ∧ i ∈ M then w i else v.read Val f ((colRect g').emb i) := by
  by_cases h : g' = g ∧ i ∈ M
  · rw [if_pos h]
    obtain ⟨rfl, hi⟩ := h
    exact (v.slice (colRect g')).read_write_of_mem f w hi
  · rw [if_neg h]
    refine v.read_slice_write_of_not_mem (colRect g) f w M fun hm => h ?_
    obtain ⟨x, hx, hxe⟩ := Finset.mem_map.1 hm
    have e0 : ((colRect g).emb x 0).val = ((colRect g').emb i 0).val := congrArg (fun y : S128x128.Idx => (y 0).val) hxe
    have e1 : ((colRect g).emb x 1).val = ((colRect g').emb i 1).val := congrArg (fun y : S128x128.Idx => (y 1).val) hxe
    rw [colRect_emb_0, colRect_emb_0] at e0
    rw [colRect_emb_1, colRect_emb_1] at e1
    have l0 : (i 0).val < 32 := (i 0).isLt
    have l1 : (x 0).val < 32 := (x 0).isLt
    have hgg : g' = g := Fin.ext (by omega)
    subst hgg
    have hxi : x = i := by
      funext a
      fin_cases a
      · exact Fin.ext (by show (x 0).val = (i 0).val; omega)
      · exact Fin.ext e1
    exact ⟨rfl, hxi ▸ hx⟩

/-- The eight masked stores of a trip. -/
def colTrip (v : View sig' κ sp S128x128 e) (f : v.ty.Contents Val) (P : Fin 4 → Fin 2 → S32x128.Idx → Val e) (M : Fin 2 → Finset S32x128.Idx) : v.ty.Contents Val :=
  colSet v (colSet v (colSet v (colSet v (colSet v (colSet v (colSet v (colSet v f 0 (P 0 0) (M 0)) 0 (P 0 1) (M 1)) 1 (P 1 0) (M 0)) 1 (P 1 1) (M 1))
    2 (P 2 0) (M 0)) 2 (P 2 1) (M 1)) 3 (P 3 0) (M 0)) 3 (P 3 1) (M 1)

theorem read_colTrip (v : View sig' κ sp S128x128 e) (f : v.ty.Contents Val) (P : Fin 4 → Fin 2 → S32x128.Idx → Val e) (M : Fin 2 → Finset S32x128.Idx)
    (g : Fin 4) (i : S32x128.Idx) :
    v.read Val (colTrip v f P M) ((colRect g).emb i) = if i ∈ M 1 then P g 1 i else if i ∈ M 0 then P g 0 i else v.read Val f ((colRect g).emb i) := by
  unfold colTrip
  simp only [read_colSet]
  fin_cases g <;> simp

/-- The lanes of the blocks of the first `n` trips hold `P`. -/
def ColHolds (v : View sig' κ sp S128x128 e) (n : ℕ) (P : Trip → Fin 4 → Fin 2 → S32x128.Idx → Val e) (f : v.ty.Contents Val) : Prop :=
  ∀ j : Trip, j.val < n → ∀ (g : Fin 4) (b : Fin 2) (i : S32x128.Idx), (i 1).val = 2 * j.val + b.val → v.read Val f ((colRect g).emb i) = P j g b i

theorem ColHolds.step {v : View sig' κ sp S128x128 e} {k : Trip} {P : Trip → Fin 4 → Fin 2 → S32x128.Idx → Val e} {f : v.ty.Contents Val}
    (h : ColHolds v k.val P f) (M : Fin 2 → Finset S32x128.Idx) (hM : ∀ b i, i ∈ M b ↔ (i 1).val = 2 * k.val + b.val) :
    ColHolds v (k.val + 1) P (colTrip v f (P k) M) := by
  intro j hj g b i hi
  rw [read_colTrip]
  by_cases hk : j = k
  · subst hk
    fin_cases b
    · have h1 : i ∉ M 1 := fun hm => by have := (hM 1 i).1 hm; have hi' : (i 1).val = 2 * j.val + 0 := hi; have t : (i 1).val = 2 * j.val + 1 := this; omega
      rw [if_neg h1, if_pos ((hM 0 i).2 hi)]; rfl
    · rw [if_pos ((hM 1 i).2 hi)]; rfl
  · have hjk : j.val ≠ k.val := fun h => hk (Fin.ext h)
    have hb := b.isLt
    have h1 : i ∉ M 1 := fun hm => by have t : (i 1).val = 2 * k.val + 1 := (hM 1 i).1 hm; omega
    have h0 : i ∉ M 0 := fun hm => by have t : (i 1).val = 2 * k.val + 0 := (hM 0 i).1 hm; omega
    rw [if_neg h1, if_neg h0]
    exact h j (by omega) g b i hi

/-! ## The mask -/

/-- The lane numbers. -/
def laneV : IVec S1x128 32 := iota .tc S1x128 32 [1] iota_S1x128_d1_w32

/-- The lane of block `b` of trip `k`. -/
def blkId (b : Fin 2) (k : Trip) : BitVec 32 := BitVec.ofNat 32 (2 * k.val + b.val)

/-- The same as the trip computes it. -/
def tripBlk (b : Fin 2) (k : Trip) : BitVec 32 :=
  (![Scalar.muli 2#32 (Scf.iv 0#32 1#32 k), Scalar.addi (Scalar.muli 2#32 (Scf.iv 0#32 1#32 k)) 1#32] : Fin 2 → BitVec 32) b

theorem tripBlk_eq (b : Fin 2) (k : Trip) : tripBlk b k = blkId b k := by revert k b; decide +kernel

/-- The lanes `c` of all rows. -/
def laneMask (v0 : IVec S1x128 32) (c : BitVec 32) : Finset S32x128.Idx := IVec.on (k0_pay117 (k0_pay102 v0 c))

theorem mem_laneMask (b : Fin 2) (k : Trip) (i : S32x128.Idx) : i ∈ laneMask laneV (blkId b k) ↔ (i 1).val = 2 * k.val + b.val := by
  have hk : k.val < 12 := Nat.lt_of_lt_of_eq k.isLt (by decide +kernel)
  have hb := b.isLt
  obtain ⟨ρ, l, rfl⟩ : ∃ (ρ : Fin 32) (l : Fin 128), i = ix2 ρ l := ⟨i 0, i 1, funext fun a => by fin_cases a <;> rfl⟩
  have e : k0_pay117 (k0_pay102 laneV (blkId b k)) (ix2 ρ l) = IntOp.cmpi .eq (BitVec.ofNat 32 l.val) (blkId b k) := by
    pointwise [k0_pay117, k0_pay102, laneV]
  show ix2 ρ l ∈ Finset.univ.filter (fun j => k0_pay117 (k0_pay102 laneV (blkId b k)) j = 1) ↔ l.val = 2 * k.val + b.val
  rw [Finset.mem_filter, e]
  have hl := l.isLt
  have hb2 : IntOp.cmpi .eq (BitVec.ofNat 32 l.val) (blkId b k) = 1 ↔ BitVec.ofNat 32 l.val = blkId b k := by
    show BitVec.ofBool (BitVec.ofNat 32 l.val == blkId b k) = 1 ↔ _
    by_cases h : BitVec.ofNat 32 l.val = blkId b k
    · rw [beq_iff_eq.2 h]; exact ⟨fun _ => h, fun _ => rfl⟩
    · rw [beq_eq_false_iff_ne.2 h]; exact ⟨fun h' => absurd h' (by decide), fun h' => absurd h' h⟩
  rw [hb2]
  constructor
  · rintro ⟨-, h⟩
    have h' := congrArg BitVec.toNat h
    simp only [blkId, BitVec.toNat_ofNat] at h'
    omega
  · intro h
    exact ⟨Finset.mem_univ _, by unfold blkId; rw [h]⟩

/-- What the loop carries of a scale buffer: the lanes of the trips so far, where the mask's lanes are numbered. -/
def ColUpto (v0 : IVec S1x128 32) (v : View sig' κ sp S128x128 e) (n : ℕ) (P : Trip → Fin 4 → Fin 2 → S32x128.Idx → Val e) (f : v.ty.Contents Val) : Prop :=
  match n with
  | 0 => True
  | n + 1 => v0 = laneV → ColHolds v (n + 1) P f

theorem ColUpto.holds {v0 : IVec S1x128 32} {v : View sig' κ sp S128x128 e} {n : ℕ} {P : Trip → Fin 4 → Fin 2 → S32x128.Idx → Val e}
    {f : v.ty.Contents Val} (h : ColUpto v0 v n P f) (h0 : v0 = laneV) : ColHolds v n P f := by
  cases n with
  | zero => exact fun _ h => absurd h (Nat.not_lt_zero _)
  | succ n => exact h h0

theorem ColUpto.step {v0 : IVec S1x128 32} {v : View sig' κ sp S128x128 e} {k : Trip} {P : Trip → Fin 4 → Fin 2 → S32x128.Idx → Val e}
    {f : v.ty.Contents Val} (h : ColUpto v0 v k.val P f) (f' : v.ty.Contents Val)
    (hf : f' = colTrip v f (P k) fun b => laneMask v0 (tripBlk b k)) :
    ColUpto v0 v (k.val + 1) P f' := by
  intro h0
  subst h0 hf
  exact (h.holds rfl).step _ fun b i => by rw [tripBlk_eq]; exact mem_laneMask b k i

variable {F : FTy → Type} [FloatOps F]

/-- The scale of each row of an aggregate: its greatest magnitude, or one. -/
def ascBlk (d : FVec F S32x128 .f32) : FVec F S32x1 .f32 := k0_pay118 d

/-- A column spread over the lanes. -/
def spread (s : FVec F S32x1 .f32) : FVec F S32x128 .f32 :=
  shapeCast S32x128 (broadcastTo S32x128 (shapeCast S32x1 s shapeCasts_S32x1_S32x1) broadcasts_S32x1_S32x128) shapeCasts_S32x128_S32x128

section
variable (m0 m1 : IVec S16x256 32) (src : IVec S32x128 32) (odd : IVec S32x128 1)
  (X3 : Vec F S16x128x1536 .i8) (X7 : Vec F S128x3072 .i8) (X8 : Vec F S24x128 .f32) (X31 : Vec F S4x2x3x24x256 .f32)

/-- The scales of trip `k`'s aggregate of group `g`, block `b`, -/
def ascT (k : Trip) (g : Fin 4) (b : Fin 2) : FVec F S32x128 .f32 := spread (ascBlk (aggT m0 m1 src odd X3 X31 k g b))
/-- and of its new momentum. -/
def mscT (k : Trip) (g : Fin 4) (b : Fin 2) : FVec F S32x128 .f32 := spread (mscBlk (momT m0 m1 src odd X3 X7 X8 X31 k g b))
end

/-! ## The buffer transposed and cut -/

/-- Row `B`, lane `r`: the scale of block `B` of row `r`. -/
def colTensor (P : Trip → Fin 4 → Fin 2 → S32x128.Idx → Elt F .f32) (y : S24x128.Idx) : Elt F .f32 :=
  P ⟨(y 0).val / 2, by
      have h : (y 0).val < 24 := (y 0).isLt
      have e : k0_t1_loop.trips = 12 := by decide +kernel
      omega⟩ ⟨(y 1).val / 32 % 4, Nat.mod_lt _ (by decide)⟩ ⟨(y 0).val % 2, Nat.mod_lt _ (by decide)⟩
    (ix2 ⟨(y 1).val % 32, Nat.mod_lt _ (by decide)⟩ ⟨(y 0).val, by have h : (y 0).val < 24 := (y 0).isLt; omega⟩)

theorem ColHolds.cut {v : View sig' κ sp S128x128 .f32} {P : Trip → Fin 4 → Fin 2 → S32x128.Idx → Elt F .f32} {f : v.ty.Contents (Elt F)}
    (h : ColHolds v k0_t1_loop.trips P f) : k0_pay1208 (v.read (Elt F) f) = colTensor P := by
  funext y
  obtain ⟨B, r, rfl⟩ : ∃ (B : Fin 24) (r : Fin 128), y = ix2 B r := ⟨y 0, y 1, funext fun a => by fin_cases a <;> rfl⟩
  have hB := B.isLt; have hr := r.isLt
  have e : k0_t1_loop.trips = 12 := by decide +kernel
  have h1 : ∀ X : Vec F S128x128 .f32, k0_pay1208 X (ix2 B r) = X (ix2 r ⟨B.val, by omega⟩) := by
    intro X
    pointwise [k0_pay1208]
  rw [h1]
  have hh := h ⟨B.val / 2, by omega⟩ (by show B.val / 2 < _; omega) ⟨r.val / 32 % 4, Nat.mod_lt _ (by decide)⟩ ⟨B.val % 2, Nat.mod_lt _ (by decide)⟩
    (ix2 ⟨r.val % 32, Nat.mod_lt _ (by decide)⟩ ⟨B.val, by omega⟩) (by show B.val = 2 * (B.val / 2) + B.val % 2; omega)
  refine Eq.trans (congrArg (v.read (Elt F) f) (funext fun a => ?_)) hh
  fin_cases a
  · apply Fin.ext; show r.val = ((colRect _).emb _ 0).val; rw [colRect_emb_0]; show r.val = 32 * (r.val / 32 % 4) + r.val % 32; omega
  · apply Fin.ext; show B.val = ((colRect _).emb _ 1).val; rw [colRect_emb_1]; rfl

section
variable (x0 : Vec F S16 .f32) (x2 : Vec F S16x128x1536 .i8) (x3 : Vec F S16x24x128 .f32) (x6 : Vec F S128x3072 .i8) (x7 : Vec F S24x128 .f32)

/-- A strip's aggregate scales, -/
def ascSpec : Vec F S24x128 .f32 := colTensor (ascT (diagV 0#32) (diagV 16#32) srcV oddV x2 (coefSpec x0 x3))
/-- and its momentum's. -/
def mscSpec : Vec F S24x128 .f32 := colTensor (mscT (diagV 0#32) (diagV 16#32) srcV oddV x2 x6 x7 (coefSpec x0 x3))

theorem ascSpec_of {m0 m1 src odd X3 X31} (hm0 : m0 = diagV 0#32) (hm1 : m1 = diagV 16#32) (hsrc : src = srcV) (hodd : odd = oddV)
    (h3 : X3 = x2) (h31 : X31 = coefSpec x0 x3) : colTensor (ascT (F := F) m0 m1 src odd X3 X31) = ascSpec x0 x2 x3 := by
  rw [hm0, hm1, hsrc, hodd, h3, h31]; rfl

theorem mscSpec_of {m0 m1 src odd X3 X7 X8 X31} (hm0 : m0 = diagV 0#32) (hm1 : m1 = diagV 16#32) (hsrc : src = srcV) (hodd : odd = oddV)
    (h3 : X3 = x2) (h7 : X7 = x6) (h8 : X8 = x7) (h31 : X31 = coefSpec x0 x3) :
    colTensor (mscT (F := F) m0 m1 src odd X3 X7 X8 X31) = mscSpec x0 x2 x3 x6 x7 := by
  rw [hm0, hm1, hsrc, hodd, h3, h7, h8, h31]; rfl
end

end Cert.KernelIdeal.Hand

end
-- ==== Proof.KernelIdealLoops.lean ====
/-
  The two counted loops of the kernel body, for its frame: over the column pairs of the A matrices and over
  those of the B matrices. Each invariant keeps what the loop reads; of what it writes it keeps the outer step, the
  merge, and the momentum's codes and the two scale columns of the A matrices, and forgets the rest.
-/
module

public import proofs.«01_k».proof.Proof.Gen.KernelIdeal.Loops
public import proofs.«01_k».proof.Proof.Gen.KernelIdeal.Frame
public import proofs.«01_k».proof.Proof.Gen.KernelIdeal.Skeleton
public import proofs.«01_k».proof.Proof.Pieces
public import proofs.«01_k».proof.Proof.Column

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Loop `t1`: what the loop only reads keeps its contents; of the outer step, of the merge, of the momentum's
codes and of the two scale columns the blocks of the trips so far hold their values; what else it writes holds something. -/
@[sl_loop] def loopInv_k0_t1 (c : Dev nD) (i : grid0.Coords) (arg1 : Memref sig .tc .smem S16 .f32) (harg1 : arg1.IsWhole) (arg2 : Memref sig .tc .smem S1 .f32) (harg2 : arg2.IsWhole) (arg3 : Memref sig .tc .vmem S16x128x1536 .i8) (harg3 : arg3.IsWhole) (arg4 : Memref sig .tc .vmem S16x24x128 .f32) (harg4 : arg4.IsWhole) (arg5 : Memref sig .tc .vmem S128x3072 .f32) (harg5 : arg5.IsWhole) (arg6 : Memref sig .tc .vmem S128x3072 .bf16) (harg6 : arg6.IsWhole) (arg7 : Memref sig .tc .vmem S128x3072 .i8) (harg7 : arg7.IsWhole) (arg8 : Memref sig .tc .vmem S24x128 .f32) (harg8 : arg8.IsWhole) (arg9 : Memref sig .tc .vmem S7808 .i32) (harg9 : arg9.IsWhole) (arg10 : Memref sig .tc .vmem S128x2944 .f32) (harg10 : arg10.IsWhole) (arg11 : Memref sig .tc .vmem S128x2944 .bf16) (harg11 : arg11.IsWhole) (arg12 : Memref sig .tc .vmem S7808 .i32) (harg12 : arg12.IsWhole) (arg13 : Memref sig .tc .vmem S128x3072 .f32) (harg13 : arg13.IsWhole) (arg14 : Memref sig .tc .vmem S128x3072 .f32) (harg14 : arg14.IsWhole) (arg15 : Memref sig .tc .vmem S9 .f32) (harg15 : arg15.IsWhole) (arg16 : Memref sig .tc .vmem S9 .f32) (harg16 : arg16.IsWhole) (arg17 : Memref sig .tc .vmem S9 .f32) (harg17 : arg17.IsWhole) (arg18 : Memref sig .tc .vmem S6 .f32) (harg18 : arg18.IsWhole) (arg19 : Memref sig .tc .vmem S7808 .f32) (harg19 : arg19.IsWhole) (arg20 : Memref sig .tc .vmem S7808 .f32) (harg20 : arg20.IsWhole) (arg21 : Memref sig .tc .vmem S7808 .f32) (harg21 : arg21.IsWhole) (arg22 : Memref sig .tc .vmem S7808 .f32) (harg22 : arg22.IsWhole) (arg23 : Memref sig .tc .vmem S128x1536 .i8) (harg23 : arg23.IsWhole) (arg24 : Memref sig .tc .vmem S24x128 .f32) (harg24 : arg24.IsWhole) (arg25 : Memref sig .tc .vmem S128x3072 .i8) (harg25 : arg25.IsWhole) (arg26 : Memref sig .tc .vmem S24x128 .f32) (harg26 : arg26.IsWhole) (arg27 : Memref sig .tc .vmem S128x3072 .fp8e4m3) (harg27 : arg27.IsWhole) (arg28 : Memref sig .tc .vmem S61x24 .f32) (harg28 : arg28.IsWhole) (arg29 : Memref sig .tc .vmem S128x1472 .i8) (harg29 : arg29.IsWhole) (arg30 : Memref sig .tc .vmem S23x128 .f32) (harg30 : arg30.IsWhole) (arg31 : Memref sig .tc .vmem S4x2x3x24x256 .f32) (harg31 : arg31.IsWhole) (arg32 : Memref sig .tc .vmem S128x128 .f32) (harg32 : arg32.IsWhole) (arg33 : Memref sig .tc .vmem S128x128 .f32) (harg33 : arg33.IsWhole) (arg34 : Memref sig .tc .vmem S128x128 .f32) (harg34 : arg34.IsWhole) (arg35 : Memref sig .tc .vmem S128x128 .f32) (harg35 : arg35.IsWhole) (arg36 : Memref sig .tc .vmem S128x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S4x16x128 .f32) (harg39 : arg39.IsWhole) (arg0 : BitVec 32) (v0 : IVec S1x128 32) (v1 : Elt F .f32) (v2283 : IVec S16x256 32) (v2284 : IVec S16x256 32) (v2309 : IVec S32x128 32) (v2327 : IVec S32x128 1) (v2332 : IVec S256x128 1) (v2340 : FVec F S256x128 .f32)
    (f3 : Buf (Elt F) (arg3.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f31 : Buf (Elt F) (arg31.view.loc (c : Thread nD τ))) :
    Gen.LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg0 v0 v1 v2283 v2284 v2309 v2327 v2332 v2340 where
  inv := fun k _ => iprop((arg3.view.loc (c : Thread nD τ) ↦[arg3.view.set]{fullShare} f3) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg31.view.loc (c : Thread nD τ) ↦[arg31.view.set]{fullShare} f31) ∗ (∃ f, (arg13.view.loc (c : Thread nD τ) ↦[arg13.view.set]{fullShare} f) ∗ ⌜Upto arg13.view k (outT v1 v2283 v2284 v2309 v2327 (arg3.view.read (Elt F) f3) (arg5.view.read (Elt F) f5) (arg7.view.read (Elt F) f7) (arg8.view.read (Elt F) f8) (arg31.view.read (Elt F) f31)) f⌝) ∗ (∃ f, (arg14.view.loc (c : Thread nD τ) ↦[arg14.view.set]{fullShare} f) ∗ ⌜Upto arg14.view k (mrgT v1 v2283 v2284 v2309 v2327 (arg3.view.read (Elt F) f3) (arg5.view.read (Elt F) f5) (arg6.view.read (Elt F) f6) (arg7.view.read (Elt F) f7) (arg8.view.read (Elt F) f8) (arg31.view.read (Elt F) f31)) f⌝) ∗ (∃ f, (arg23.view.loc (c : Thread nD τ) ↦[arg23.view.set]{fullShare} f)) ∗ (∃ f, (arg25.view.loc (c : Thread nD τ) ↦[arg25.view.set]{fullShare} f) ∗ ⌜Upto arg25.view k (mcnT v2283 v2284 v2309 v2327 (arg3.view.read (Elt F) f3) (arg7.view.read (Elt F) f7) (arg8.view.read (Elt F) f8) (arg31.view.read (Elt F) f31)) f⌝) ∗ (∃ f, (arg27.view.loc (c : Thread nD τ) ↦[arg27.view.set]{fullShare} f)) ∗ (∃ f, (arg28.view.loc (c : Thread nD τ) ↦[arg28.view.set]{fullShare} f)) ∗ (∃ f, (arg32.view.loc (c : Thread nD τ) ↦[arg32.view.set]{fullShare} f) ∗ ⌜ColUpto v0 arg32.view k (ascT v2283 v2284 v2309 v2327 (arg3.view.read (Elt F) f3) (arg31.view.read (Elt F) f31)) f⌝) ∗ (∃ f, (arg33.view.loc (c : Thread nD τ) ↦[arg33.view.set]{fullShare} f) ∗ ⌜ColUpto v0 arg33.view k (mscT v2283 v2284 v2309 v2327 (arg3.view.read (Elt F) f3) (arg7.view.read (Elt F) f7) (arg8.view.read (Elt F) f8) (arg31.view.read (Elt F) f31)) f⌝) ∗ (∃ f, (arg35.view.loc (c : Thread nD τ) ↦[arg35.view.set]{fullShare} f)) ∗ (∃ f, (arg36.view.loc (c : Thread nD τ) ↦[arg36.view.set]{fullShare} f)) ∗ (∃ f, (arg37.view.loc (c : Thread nD τ) ↦[arg37.view.set]{fullShare} f)))
  step := fun k acc => by
    unfold Gen.k0_t1_body
    iintro ⟨H3, H5, H6, H7, H8, H31, ⟨%f13, H13, %hf13⟩, ⟨%f14, H14, %hf14⟩, ⟨%f23, H23⟩, ⟨%f25, H25, %hf25⟩, ⟨%f27, H27⟩, ⟨%f28, H28⟩, ⟨%f32, H32, %hf32⟩, ⟨%f33, H33, %hf33⟩, ⟨%f35, H35⟩, ⟨%f36, H36⟩, ⟨%f37, H37⟩⟩
    sl_exec_parts
    sl_step
    isplitl [H3]; · iexact H3
    isplitl [H5]; · iexact H5
    isplitl [H6]; · iexact H6
    isplitl [H7]; · iexact H7
    isplitl [H8]; · iexact H8
    isplitl [H31]; · iexact H31
    isplitl [H13]
    · iexists _
      isplitl [H13]
      · iexact H13
      · ipureintro; exact Upto.step (v := arg13.view) (k := (k : Trip)) (P := outT v1 v2283 v2284 v2309 v2327 (arg3.view.read (Elt F) f3) (arg5.view.read (Elt F) f5) (arg7.view.read (Elt F) f7) (arg8.view.read (Elt F) f8) (arg31.view.read (Elt F) f31)) (f := f13) hf13 _ (by with_unfolding_all rfl)
    isplitl [H14]
    · iexists _
      isplitl [H14]
      · iexact H14
      · ipureintro; exact Upto.step (v := arg14.view) (k := (k : Trip)) (P := mrgT v1 v2283 v2284 v2309 v2327 (arg3.view.read (Elt F) f3) (arg5.view.read (Elt F) f5) (arg6.view.read (Elt F) f6) (arg7.view.read (Elt F) f7) (arg8.view.read (Elt F) f8) (arg31.view.read (Elt F) f31)) (f := f14) hf14 _ (by with_unfolding_all rfl)
    isplitl [H23]; · iexists _; iexact H23
    isplitl [H25]
    · iexists _
      isplitl [H25]
      · iexact H25
      · ipureintro; exact Upto.step (v := arg25.view) (k := (k : Trip)) (P := mcnT v2283 v2284 v2309 v2327 (arg3.view.read (Elt F) f3) (arg7.view.read (Elt F) f7) (arg8.view.read (Elt F) f8) (arg31.view.read (Elt F) f31)) (f := f25) hf25 _ (by with_unfolding_all rfl)
    isplitl [H27]; · iexists _; iexact H27
    isplitl [H28]; · iexists _; iexact H28
    isplitl [H32]
    · iexists _
      isplitl [H32]
      · iexact H32
      · ipureintro; exact ColUpto.step (v0 := v0) (v := arg32.view) (k := (k : Trip)) (P := ascT v2283 v2284 v2309 v2327 (arg3.view.read (Elt F) f3) (arg31.view.read (Elt F) f31)) (f := f32) hf32 _ (by with_unfolding_all rfl)
    isplitl [H33]
    · iexists _
      isplitl [H33]
      · iexact H33
      · ipureintro; exact ColUpto.step (v0 := v0) (v := arg33.view) (k := (k : Trip)) (P := mscT v2283 v2284 v2309 v2327 (arg3.view.read (Elt F) f3) (arg7.view.read (Elt F) f7) (arg8.view.read (Elt F) f8) (arg31.view.read (Elt F) f31)) (f := f33) hf33 _ (by with_unfolding_all rfl)
    isplitl [H35]; · iexists _; iexact H35
    isplitl [H36]; · iexists _; iexact H36
    iexists _; iexact H37

/-- Loop `t2`: what the loop only reads keeps its contents, what it writes holds something. -/
@[sl_loop] def loopInv_k0_t2 (c : Dev nD) (i : grid0.Coords) (arg1 : Memref sig .tc .smem S16 .f32) (harg1 : arg1.IsWhole) (arg2 : Memref sig .tc .smem S1 .f32) (harg2 : arg2.IsWhole) (arg3 : Memref sig .tc .vmem S16x128x1536 .i8) (harg3 : arg3.IsWhole) (arg4 : Memref sig .tc .vmem S16x24x128 .f32) (harg4 : arg4.IsWhole) (arg5 : Memref sig .tc .vmem S128x3072 .f32) (harg5 : arg5.IsWhole) (arg6 : Memref sig .tc .vmem S128x3072 .bf16) (harg6 : arg6.IsWhole) (arg7 : Memref sig .tc .vmem S128x3072 .i8) (harg7 : arg7.IsWhole) (arg8 : Memref sig .tc .vmem S24x128 .f32) (harg8 : arg8.IsWhole) (arg9 : Memref sig .tc .vmem S7808 .i32) (harg9 : arg9.IsWhole) (arg10 : Memref sig .tc .vmem S128x2944 .f32) (harg10 : arg10.IsWhole) (arg11 : Memref sig .tc .vmem S128x2944 .bf16) (harg11 : arg11.IsWhole) (arg12 : Memref sig .tc .vmem S7808 .i32) (harg12 : arg12.IsWhole) (arg13 : Memref sig .tc .vmem S128x3072 .f32) (harg13 : arg13.IsWhole) (arg14 : Memref sig .tc .vmem S128x3072 .f32) (harg14 : arg14.IsWhole) (arg15 : Memref sig .tc .vmem S9 .f32) (harg15 : arg15.IsWhole) (arg16 : Memref sig .tc .vmem S9 .f32) (harg16 : arg16.IsWhole) (arg17 : Memref sig .tc .vmem S9 .f32) (harg17 : arg17.IsWhole) (arg18 : Memref sig .tc .vmem S6 .f32) (harg18 : arg18.IsWhole) (arg19 : Memref sig .tc .vmem S7808 .f32) (harg19 : arg19.IsWhole) (arg20 : Memref sig .tc .vmem S7808 .f32) (harg20 : arg20.IsWhole) (arg21 : Memref sig .tc .vmem S7808 .f32) (harg21 : arg21.IsWhole) (arg22 : Memref sig .tc .vmem S7808 .f32) (harg22 : arg22.IsWhole) (arg23 : Memref sig .tc .vmem S128x1536 .i8) (harg23 : arg23.IsWhole) (arg24 : Memref sig .tc .vmem S24x128 .f32) (harg24 : arg24.IsWhole) (arg25 : Memref sig .tc .vmem S128x3072 .i8) (harg25 : arg25.IsWhole) (arg26 : Memref sig .tc .vmem S24x128 .f32) (harg26 : arg26.IsWhole) (arg27 : Memref sig .tc .vmem S128x3072 .fp8e4m3) (harg27 : arg27.IsWhole) (arg28 : Memref sig .tc .vmem S61x24 .f32) (harg28 : arg28.IsWhole) (arg29 : Memref sig .tc .vmem S128x1472 .i8) (harg29 : arg29.IsWhole) (arg30 : Memref sig .tc .vmem S23x128 .f32) (harg30 : arg30.IsWhole) (arg31 : Memref sig .tc .vmem S4x2x3x24x256 .f32) (harg31 : arg31.IsWhole) (arg32 : Memref sig .tc .vmem S128x128 .f32) (harg32 : arg32.IsWhole) (arg33 : Memref sig .tc .vmem S128x128 .f32) (harg33 : arg33.IsWhole) (arg34 : Memref sig .tc .vmem S128x128 .f32) (harg34 : arg34.IsWhole) (arg35 : Memref sig .tc .vmem S128x128 .f32) (harg35 : arg35.IsWhole) (arg36 : Memref sig .tc .vmem S128x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S4x16x128 .f32) (harg39 : arg39.IsWhole) (arg0 : BitVec 32) (v0 : IVec S1x128 32) (v1 : Elt F .f32) (v2283 : IVec S16x256 32) (v2284 : IVec S16x256 32) (v2309 : IVec S32x128 32) (v2327 : IVec S32x128 1) (v2332 : IVec S256x128 1) (v2340 : FVec F S256x128 .f32)
    (f10 : Buf (Elt F) (arg10.view.loc (c : Thread nD τ))) (f11 : Buf (Elt F) (arg11.view.loc (c : Thread nD τ))) :
    Gen.LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg0 v0 v1 v2283 v2284 v2309 v2327 v2332 v2340 where
  inv := fun _ _ => iprop((arg10.view.loc (c : Thread nD τ) ↦[arg10.view.set]{fullShare} f10) ∗ (arg11.view.loc (c : Thread nD τ) ↦[arg11.view.set]{fullShare} f11) ∗ (∃ f, (arg29.view.loc (c : Thread nD τ) ↦[arg29.view.set]{fullShare} f)) ∗ (∃ f, (arg34.view.loc (c : Thread nD τ) ↦[arg34.view.set]{fullShare} f)) ∗ (∃ f, (arg38.view.loc (c : Thread nD τ) ↦[arg38.view.set]{fullShare} f)))
  step := fun k acc => by
    unfold Gen.k0_t2_body
    iintro ⟨H10, H11, ⟨%f29, H29⟩, ⟨%f34, H34⟩, ⟨%f38, H38⟩⟩
    sl_exec_parts
    sl_step
    isplitl [H10]; · iexact H10
    isplitl [H11]; · iexact H11
    isplitl [H29]; · iexists _; iexact H29
    isplitl [H34]; · iexists _; iexact H34
    iexists _; iexact H38

end Cert.KernelIdeal.Hand

end
-- ==== Proof.Cut.lean ====
/-
  What a result block of scales reads as, from the scale buffer it is cut from.
-/
module

public import proofs.«01_k».proof.Proof.Column

@[expose] public section

set_option maxRecDepth 16384

noncomputable section

namespace Cert.KernelIdeal.Hand

open Cert.KernelIdeal Cert.KernelIdeal.Gen
open Idealize.ShloMosaic

variable {F : FTy → Type} [FloatOps F]

theorem inb_scales : ∀ a, (![0, 0] : Fin 2 → ℕ) a + S128x128.size a ≤ S128x128.size a := by decide
theorem inb_cut : ∀ a, (![0, 0] : Fin 2 → ℕ) a + S24x128.size a ≤ S24x128.size a := by decide

/-- The scale buffer loaded. -/
def scalesAt (X : Vec F S128x128 .f32) : Vec F S128x128 .f32 := fun x => X ((Rect.unit ![0, 0] S128x128.size inb_scales).emb x)

theorem scalesAt_eq (X : Vec F S128x128 .f32) : scalesAt X = X := by
  funext x
  refine congrArg X (funext fun a => Fin.ext ?_)
  show (![0, 0] : Fin 2 → ℕ) a + 1 * (x a).val = (x a).val
  fin_cases a
  · show 0 + 1 * _ = _; omega
  · show 0 + 1 * _ = _; omega

theorem cut_of {sig' : RefSig} {κ κ' : Kind} {sp sp' : Space} (v : View sig' κ sp S24x128 .f32) (f : v.ty.Contents (Elt F))
    (u : View sig' κ' sp' S128x128 .f32) (f' : u.ty.Contents (Elt F)) {L : List (View.Piece (Elt F) S24x128 .f32)}
    {P : Trip → Fin 4 → Fin 2 → S32x128.Idx → Elt F .f32}
    (hL : L = [⟨Rect.unit ![0, 0] S24x128.size inb_cut, k0_pay1208 (scalesAt (u.read (Elt F) f'))⟩])
    (h : ColHolds u k0_t1_loop.trips P f') : v.read (Elt F) (v.writes (Elt F) f L) = colTensor P := by
  rw [hL, scalesAt_eq, h.cut]
  funext y
  have hy : (Rect.unit ![0, 0] S24x128.size inb_cut).emb y = y := by
    funext a
    refine Fin.ext ?_
    show (![0, 0] : Fin 2 → ℕ) a + 1 * (y a).val = (y a).val
    fin_cases a
    · show 0 + 1 * _ = _; omega
    · show 0 + 1 * _ = _; omega
  have e := v.read_writes_cons_emb (Val := Elt F) f (Rect.unit ![0, 0] S24x128.size inb_cut) (colTensor P) [] y
  rw [hy] at e
  exact e

end Cert.KernelIdeal.Hand

end
-- ==== Proof.KernelIdealRun.lean ====
/-
  The kernel body run once at symbolic operands: the inputs are handed back as they were, the outer step,
  the merge, and the A matrices' momentum codes and two scales at what they compute, the other outputs and the scratch
  buffers at some contents.
-/
module

public import proofs.«01_k».proof.Proof.KernelIdealLoops
public import proofs.«01_k».proof.Proof.Post
public import proofs.«01_k».proof.Proof.Cut

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body runs to its end from whole buffers, the inputs handed back as they were. -/
theorem kernelRun0_A (c : Dev nD) (i : grid0.Coords) (arg1 : Memref sig .tc .smem S16 .f32) (harg1 : arg1.IsWhole) (arg2 : Memref sig .tc .smem S1 .f32) (harg2 : arg2.IsWhole) (arg3 : Memref sig .tc .vmem S16x128x1536 .i8) (harg3 : arg3.IsWhole) (arg4 : Memref sig .tc .vmem S16x24x128 .f32) (harg4 : arg4.IsWhole) (arg5 : Memref sig .tc .vmem S128x3072 .f32) (harg5 : arg5.IsWhole) (arg6 : Memref sig .tc .vmem S128x3072 .bf16) (harg6 : arg6.IsWhole) (arg7 : Memref sig .tc .vmem S128x3072 .i8) (harg7 : arg7.IsWhole) (arg8 : Memref sig .tc .vmem S24x128 .f32) (harg8 : arg8.IsWhole) (arg9 : Memref sig .tc .vmem S7808 .i32) (harg9 : arg9.IsWhole) (arg10 : Memref sig .tc .vmem S128x2944 .f32) (harg10 : arg10.IsWhole) (arg11 : Memref sig .tc .vmem S128x2944 .bf16) (harg11 : arg11.IsWhole) (arg12 : Memref sig .tc .vmem S7808 .i32) (harg12 : arg12.IsWhole) (arg13 : Memref sig .tc .vmem S128x3072 .f32) (harg13 : arg13.IsWhole) (arg14 : Memref sig .tc .vmem S128x3072 .f32) (harg14 : arg14.IsWhole) (arg15 : Memref sig .tc .vmem S9 .f32) (harg15 : arg15.IsWhole) (arg16 : Memref sig .tc .vmem S9 .f32) (harg16 : arg16.IsWhole) (arg17 : Memref sig .tc .vmem S9 .f32) (harg17 : arg17.IsWhole) (arg18 : Memref sig .tc .vmem S6 .f32) (harg18 : arg18.IsWhole) (arg19 : Memref sig .tc .vmem S7808 .f32) (harg19 : arg19.IsWhole) (arg20 : Memref sig .tc .vmem S7808 .f32) (harg20 : arg20.IsWhole) (arg21 : Memref sig .tc .vmem S7808 .f32) (harg21 : arg21.IsWhole) (arg22 : Memref sig .tc .vmem S7808 .f32) (harg22 : arg22.IsWhole) (arg23 : Memref sig .tc .vmem S128x1536 .i8) (harg23 : arg23.IsWhole) (arg24 : Memref sig .tc .vmem S24x128 .f32) (harg24 : arg24.IsWhole) (arg25 : Memref sig .tc .vmem S128x3072 .i8) (harg25 : arg25.IsWhole) (arg26 : Memref sig .tc .vmem S24x128 .f32) (harg26 : arg26.IsWhole) (arg27 : Memref sig .tc .vmem S128x3072 .fp8e4m3) (harg27 : arg27.IsWhole) (arg28 : Memref sig .tc .vmem S61x24 .f32) (harg28 : arg28.IsWhole) (arg29 : Memref sig .tc .vmem S128x1472 .i8) (harg29 : arg29.IsWhole) (arg30 : Memref sig .tc .vmem S23x128 .f32) (harg30 : arg30.IsWhole) (arg31 : Memref sig .tc .vmem S4x2x3x24x256 .f32) (harg31 : arg31.IsWhole) (arg32 : Memref sig .tc .vmem S128x128 .f32) (harg32 : arg32.IsWhole) (arg33 : Memref sig .tc .vmem S128x128 .f32) (harg33 : arg33.IsWhole) (arg34 : Memref sig .tc .vmem S128x128 .f32) (harg34 : arg34.IsWhole) (arg35 : Memref sig .tc .vmem S128x128 .f32) (harg35 : arg35.IsWhole) (arg36 : Memref sig .tc .vmem S128x128 .f32) (harg36 : arg36.IsWhole) (arg37 : Memref sig .tc .vmem S128x128 .f32) (harg37 : arg37.IsWhole) (arg38 : Memref sig .tc .vmem S128x128 .f32) (harg38 : arg38.IsWhole) (arg39 : Memref sig .tc .vmem S4x16x128 .f32) (harg39 : arg39.IsWhole)
    (x0 : Vec F S16 .f32) (x1 : Vec F S1 .f32) (x2 : Vec F S16x128x1536 .i8) (x3 : Vec F S16x24x128 .f32) (x4 : Vec F S128x3072 .f32) (x5 : Vec F S128x3072 .bf16) (x6 : Vec F S128x3072 .i8) (x7 : Vec F S24x128 .f32) (x8 : Vec F S7808 .i32) (x9 : Vec F S128x2944 .f32) (x10 : Vec F S128x2944 .bf16) (x11 : Vec F S7808 .i32) :
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outSpec x0 x1 x2 x3 x4 x6 x7) ∗ owns (c : Thread nD τ) arg14 fullShare (mrgSpec x0 x1 x2 x3 x4 x5 x6 x7) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare (ascSpec x0 x2 x3) ∗ owns (c : Thread nD τ) arg25 fullShare (mcnSpec x0 x2 x3 x6 x7) ∗ owns (c : Thread nD τ) arg26 fullShare (mscSpec x0 x2 x3 x6 x7) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d)) -∗ K ⟨⟩))
          ⊢ wp frame (wpE (defs₀ (F := F)) Variants.none c none) Set.univ (cc0_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
    intro K
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    have hT : True := trivial
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; swap; · iexact H12
      ipureintro
      refine hL7.holds.read_eq.trans ?_
      refine outSpec_of x0 x1 x2 x3 x4 x6 x7 (lr_of (X1 := arg2.view.read (Elt F) (harg2.unread x1)) ?_ (harg2.read_unread _)) ?_ ?_ ?_ ?_ (harg3.read_unread _) (harg5.read_unread _) (harg7.read_unread _) (harg8.read_unread _) (coef_of _ _ (X1 := arg1.view.read (Elt F) (harg1.unread x0)) (X4 := arg4.view.read (Elt F) (harg4.unread x3)) ?_ (harg1.read_unread _) (harg4.read_unread _))
      all_goals with_unfolding_all rfl
    isplitl [H13]
    · iexists _; isplitr; swap; · iexact H13
      ipureintro
      refine hL9.holds.read_eq.trans ?_
      refine mrgSpec_of x0 x1 x2 x3 x4 x5 x6 x7 (lr_of (X1 := arg2.view.read (Elt F) (harg2.unread x1)) ?_ (harg2.read_unread _)) ?_ ?_ ?_ ?_ (harg3.read_unread _) (harg5.read_unread _) (harg6.read_unread _) (harg7.read_unread _) (harg8.read_unread _) (coef_of _ _ (X1 := arg1.view.read (Elt F) (harg1.unread x0)) (X4 := arg4.view.read (Elt F) (harg4.unread x3)) ?_ (harg1.read_unread _) (harg4.read_unread _))
      all_goals with_unfolding_all rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _; isplitr; swap; · iexact H23
      ipureintro
      refine (cut_of _ _ _ _ ?_ (hL16.holds ?_)).trans ?_
      · with_unfolding_all rfl
      · with_unfolding_all rfl
      refine ascSpec_of x0 x2 x3 ?_ ?_ ?_ ?_ (harg3.read_unread _) (coef_of _ _ (X1 := arg1.view.read (Elt F) (harg1.unread x0)) (X4 := arg4.view.read (Elt F) (harg4.unread x3)) ?_ (harg1.read_unread _) (harg4.read_unread _))
      all_goals with_unfolding_all rfl
    isplitl [H24]
    · iexists _; isplitr; swap; · iexact H24
      ipureintro
      refine hL12.holds.read_eq.trans ?_
      refine mcnSpec_of x0 x2 x3 x6 x7 ?_ ?_ ?_ ?_ (harg3.read_unread _) (harg7.read_unread _) (harg8.read_unread _) (coef_of _ _ (X1 := arg1.view.read (Elt F) (harg1.unread x0)) (X4 := arg4.view.read (Elt F) (harg4.unread x3)) ?_ (harg1.read_unread _) (harg4.read_unread _))
      all_goals with_unfolding_all rfl
    isplitl [H25]
    · iexists _; isplitr; swap; · iexact H25
      ipureintro
      refine (cut_of _ _ _ _ ?_ (hL18.holds ?_)).trans ?_
      · with_unfolding_all rfl
      · with_unfolding_all rfl
      refine mscSpec_of x0 x2 x3 x6 x7 ?_ ?_ ?_ ?_ (harg3.read_unread _) (harg7.read_unread _) (harg8.read_unread _) (coef_of _ _ (X1 := arg1.view.read (Elt F) (harg1.unread x0)) (X4 := arg4.view.read (Elt F) (harg4.unread x3)) ?_ (harg1.read_unread _) (harg4.read_unread _))
      all_goals with_unfolding_all rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.KernelIdeal.Hand

end
-- ==== Proof.KernelIdealFrame.lean ====
/-
  The launch of the kernel over its grid, the outer step's, the merge's, the momentum codes' and the two scales' windows at what the body computes of the
  staged blocks, every other output window forgotten; the frame claim from it, and what the five result arrays hold.
-/
module

public import proofs.«01_k».proof.Proof.KernelIdealRun
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

set_option maxHeartbeats 1800000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 2 rfl).trans ((hA c 2).trans (V_main_arg0 m c)),
      ((h c).2 main_arg1 (Pipeline.mem_restRefs_of main_arg1 (by decide) (by decide))).trans (V_main_arg1 m c),
      (Pipeline.RDat.FramePost.arr_in h c 0 rfl).trans ((hA c 0).trans (V_main_arg2 m c)),
      (Pipeline.RDat.FramePost.arr_in h c 4 rfl).trans ((hA c 4).trans (V_main_arg3 m c)),
      (Pipeline.RDat.FramePost.arr_in h c 5 rfl).trans ((hA c 5).trans (V_main_arg4 m c)),
      (Pipeline.RDat.FramePost.arr_in h c 6 rfl).trans ((hA c 6).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c))⟩) h

/-! ## The staging memrefs and the scratch operands -/

/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128x1536 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x24x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x3072 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x3072 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x3072 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S24x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S7808 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x2944 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x2944 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S7808 .i32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x3072 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x3072 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S9 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S9 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S9 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S6 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S7808 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S7808 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S7808 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S7808 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S128x1536 .i8 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S24x128 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S128x3072 .i8 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S24x128 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S128x3072 .fp8e4m3 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S61x24 .f32 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S128x1472 .i8 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S23x128 .f32 := win0_29.stage (cfg0.slots t 29)
abbrev hs0_29 (t : Fin cfg0.N) : (ms0_29 t).IsWhole := hstage0_29 ((cfg0.slots t 29).cast nbuf0_29)
/-- The scratch operands: whole scoped buffers of the kernel's own, passed beside the windows. -/
abbrev scM0_0 : Memref sig .tc .vmem S4x2x3x24x256 .f32 := Memref.whole cc0_scratch0
abbrev scM0_1 : Memref sig .tc .vmem S128x128 .f32 := Memref.whole cc0_scratch1
abbrev scM0_2 : Memref sig .tc .vmem S128x128 .f32 := Memref.whole cc0_scratch2
abbrev scM0_3 : Memref sig .tc .vmem S128x128 .f32 := Memref.whole cc0_scratch3
abbrev scM0_4 : Memref sig .tc .vmem S128x128 .f32 := Memref.whole cc0_scratch4
abbrev scM0_5 : Memref sig .tc .vmem S128x128 .f32 := Memref.whole cc0_scratch5
abbrev scM0_6 : Memref sig .tc .vmem S128x128 .f32 := Memref.whole cc0_scratch6
abbrev scM0_7 : Memref sig .tc .vmem S128x128 .f32 := Memref.whole cc0_scratch7
abbrev scM0_8 : Memref sig .tc .vmem S4x16x128 .f32 := Memref.whole cc0_scratch8

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-! ## The pipeline's proof data -/

/-- The output windows this certificate FORGETS (14, 15, 16, 17, 18, 19, 20, 21, 22, 26, 27, 28, 29): nothing reads what the kernel leaves in them, so nothing
    of it is named (Lib/Pipeline/Dat.lean `Dat.toRForget`). -/
def forgets0 : Fin 30 → Bool := fun w => w.val == 14 || w.val == 15 || w.val == 16 || w.val == 17 || w.val == 18 || w.val == 19 || w.val == 20 || w.val == 21 || w.val == 22 || w.val == 26 || w.val == 27 || w.val == 28 || w.val == 29

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outSpec (iblk m c 0 t) (iblk m c 1 t) (iblk m c 2 t) (iblk m c 3 t) (iblk m c 4 t) (iblk m c 6 t) (iblk m c 7 t)
    | ⟨13, _⟩ => mrgSpec (iblk m c 0 t) (iblk m c 1 t) (iblk m c 2 t) (iblk m c 3 t) (iblk m c 4 t) (iblk m c 5 t) (iblk m c 6 t) (iblk m c 7 t)
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, _⟩ => ascSpec (iblk m c 0 t) (iblk m c 2 t) (iblk m c 3 t)
    | ⟨24, _⟩ => mcnSpec (iblk m c 0 t) (iblk m c 2 t) (iblk m c 3 t) (iblk m c 6 t) (iblk m c 7 t)
    | ⟨25, _⟩ => mscSpec (iblk m c 0 t) (iblk m c 2 t) (iblk m c 3 t) (iblk m c 6 t) (iblk m c 7 t)
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨29, h⟩ => Pipeline.Dat.unnamed (cfg := cfg0) ⟨29, h⟩ t
    | ⟨_ + 30, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outSpec (iblk m c 0 t) (iblk m c 1 t) (iblk m c 2 t) (iblk m c 3 t) (iblk m c 4 t) (iblk m c 6 t) (iblk m c 7 t) := by dsimp only [dats]
theorem after0_13 (c : Dev nD) (t : Fin cfg0.N) : (dats m 0 c).after 13 t = mrgSpec (iblk m c 0 t) (iblk m c 1 t) (iblk m c 2 t) (iblk m c 3 t) (iblk m c 4 t) (iblk m c 5 t) (iblk m c 6 t) (iblk m c 7 t) := by dsimp only [dats]
theorem after0_23 (c : Dev nD) (t : Fin cfg0.N) : (dats m 0 c).after 23 t = ascSpec (iblk m c 0 t) (iblk m c 2 t) (iblk m c 3 t) := by dsimp only [dats]
theorem after0_24 (c : Dev nD) (t : Fin cfg0.N) : (dats m 0 c).after 24 t = mcnSpec (iblk m c 0 t) (iblk m c 2 t) (iblk m c 3 t) (iblk m c 6 t) (iblk m c 7 t) := by dsimp only [dats]
theorem after0_25 (c : Dev nD) (t : Fin cfg0.N) : (dats m 0 c).after 25 t = mscSpec (iblk m c 0 t) (iblk m c 2 t) (iblk m c 3 t) (iblk m c 6 t) (iblk m c 7 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d))

set_option maxHeartbeats 3600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_23, after0_24, after0_25]
  rw [show (dats m 0 c).Φ t.castSucc = Pipeline.ΦA spec0 c from rfl, PhiA0_eq]
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, H12, H13, H14, H15, H16, H17, H18, H19, H20, H21, H22, H23, H24, H25, H26, H27, H28, H29, HS0, HS1, HS2, HS3, HS4, HS5, HS6, HS7, HS8⟩
  isplitl [HS0 HS1 HS2 HS3 HS4 HS5 HS6 HS7 HS8 Hg]
  · isplitl [HS0 HS1 HS2 HS3 HS4 HS5 HS6 HS7 HS8]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      iexact HS8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 14, 15, 16, 17, 18, 19, 20, 21, 22, 26, 27, 28, 29) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_ofR m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

/-! ## What the five result arrays hold -/

/-- What the outer step's, the merge's, the momentum codes' and the two scales' arrays hold after a run, -/
theorem run_arrays : θ_run defs (onTc (τ := τ) (main (F := F))) ⟨m, fun _ => 0, ρ⟩ (fun r => ∀ c : Dev nD,
      r.2.mem ((c.tc : Thread nD τ).loc main_v3_0) = (dats m 0 c).arrAt 12 cfg0.N
      ∧ r.2.mem ((c.tc : Thread nD τ).loc main_v3_1) = (dats m 0 c).arrAt 13 cfg0.N
      ∧ r.2.mem ((c.tc : Thread nD τ).loc main_v3_11) = (dats m 0 c).arrAt 23 cfg0.N
      ∧ r.2.mem ((c.tc : Thread nD τ).loc main_v3_12) = (dats m 0 c).arrAt 24 cfg0.N
      ∧ r.2.mem ((c.tc : Thread nD τ).loc main_v3_13) = (dats m 0 c).arrAt 25 cfg0.N) :=
  (θ_run defs _ _).mono (fun _ h c => ⟨((dats m 0 c).toRForget_arrAt_iff (fgt := forgets0) (w := 12) (by rfl) _ _).1 ((h c).1 12), ((dats m 0 c).toRForget_arrAt_iff (fgt := forgets0) (w := 13) (by rfl) _ _).1 ((h c).1 13), ((dats m 0 c).toRForget_arrAt_iff (fgt := forgets0) (w := 23) (by rfl) _ _).1 ((h c).1 23), ((dats m 0 c).toRForget_arrAt_iff (fgt := forgets0) (w := 24) (by rfl) _ _).1 ((h c).1 24), ((dats m 0 c).toRForget_arrAt_iff (fgt := forgets0) (w := 25) (by rfl) _ _).1 ((h c).1 25)⟩) (run_main m ρ)

/-- The five result arrays end at what the points wrote back, the argument arrays unchanged. -/
theorem run_results : θ_run defs (onTc (τ := τ) (main (F := F))) ⟨m, fun _ => 0, ρ⟩ (fun r => ∀ c : Dev nD,
      r.2.mem ((c.tc : Thread nD τ).loc main_v3_0) = (dats m 0 c).arrAt 12 cfg0.N
      ∧ r.2.mem ((c.tc : Thread nD τ).loc main_v3_1) = (dats m 0 c).arrAt 13 cfg0.N
      ∧ r.2.mem ((c.tc : Thread nD τ).loc main_v3_11) = (dats m 0 c).arrAt 23 cfg0.N
      ∧ r.2.mem ((c.tc : Thread nD τ).loc main_v3_12) = (dats m 0 c).arrAt 24 cfg0.N
      ∧ r.2.mem ((c.tc : Thread nD τ).loc main_v3_13) = (dats m 0 c).arrAt 25 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h.1 c).1, (h.1 c).2.1, (h.1 c).2.2.1, (h.1 c).2.2.2.1, (h.1 c).2.2.2.2, h.2 c⟩) (θ_run_and (run_arrays m ρ) (unchanged m ρ))

end Cert.KernelIdeal.Hand

end
-- ==== Proof.Windows.lean ====
/-
  What each staged block of the launch holds, as entries of the program's arguments.
-/
module

public import proofs.«01_k».proof.Proof.Gen.KernelIdeal.Frame
public import proofs.«01_k».proof.Proof.Spec
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] (m : (ℓ : Loc nD τ sig) → Buf (Elt F) ℓ) (c : Dev nD) (t : Fin cfg0.N)

/-- Where each window's block of a grid point lies. -/
theorem idx (t : Fin cfg0.N) : win0_0.index t = ![0] ∧ win0_1.index t = ![0] ∧ win0_2.index t = ![0, t.val, 0] ∧ win0_3.index t = ![0, 0, t.val]
    ∧ win0_4.index t = ![t.val, 0] ∧ win0_5.index t = ![t.val, 0] ∧ win0_6.index t = ![t.val, 0] ∧ win0_7.index t = ![0, t.val]
    ∧ win0_12.index t = ![t.val, 0] ∧ win0_13.index t = ![t.val, 0] ∧ win0_23.index t = ![0, t.val] ∧ win0_24.index t = ![t.val, 0] ∧ win0_25.index t = ![0, t.val] := by
  revert t; decide +kernel

theorem t_lt : t.val < 61 := lt_of_lt_of_eq t.isLt (by decide +kernel)

/-- The row of the arrays that a block's row is. -/
abbrev rowOf (r : Fin 128) : Fin 7808 := ⟨128 * t.val + r.val, by have := t_lt t; omega⟩

theorem iblk0_apply (W : Fin 16) : iblk m c 0 t (ix1 W) = m ((c.tc : Thread nD τ).loc main_arg2) (ix1 W) := by
  blk_ext [iblk, V, idx t]

/-- The rate, the scales and the momentum scales are handed to the launch reshaped and transposed. -/
theorem V_main_v0' : V m c main_v0 = shapeCast _ (m ((c.tc : Thread nD τ).loc main_arg7)) shapeCasts_S_S1 := by entry_read; rfl
theorem V_main_v1' : V m c main_v1 = transpose S16x24x7808 [0, 2, 1] (m ((c.tc : Thread nD τ).loc main_arg1)) transposes_S16x7808x24_S16x24x7808_0_2_1 := by entry_read; rfl
theorem V_main_v2' : V m c main_v2 = transpose S24x7808 [1, 0] (m ((c.tc : Thread nD τ).loc main_arg6)) transposes_S7808x24_S24x7808_1_0 := by entry_read; rfl

theorem iblk1_apply : lrOf (iblk m c 1 t) = m ((c.tc : Thread nD τ).loc main_arg7) ix0 := by
  show V m c main_v0 _ = _
  rw [V_main_v0']
  exact congrArg (m ((c.tc : Thread nD τ).loc main_arg7)) (funext fun a : Fin 0 => a.elim0)

theorem iblk2_apply (W : Fin 16) (r : Fin 128) (j : Fin 1536) :
    iblk m c 2 t (ix3 W r j) = m ((c.tc : Thread nD τ).loc main_arg0) (ix3 W (rowOf t r) j) := by
  blk_ext [iblk, V, idx t]

theorem iblk3_apply (W : Fin 16) (B : Fin 24) (r : Fin 128) :
    iblk m c 3 t (ix3 W B r) = m ((c.tc : Thread nD τ).loc main_arg1) (ix3 W (rowOf t r) B) := by
  have e : (win0_3.blk t).view.emb (ix3 W B r) = ix3 W B (rowOf t r) := by blk_ext [idx t]
  show V m c main_v1 ((win0_3.blk t).view.emb (ix3 W B r)) = _
  rw [V_main_v1', e]
  pointwise

theorem iblk4_apply (r : Fin 128) (y : Fin 3072) : iblk m c 4 t (ix2 r y) = m ((c.tc : Thread nD τ).loc main_arg3) (ix2 (rowOf t r) y) := by
  blk_ext [iblk, V, idx t]

theorem iblk5_apply (r : Fin 128) (y : Fin 3072) : iblk m c 5 t (ix2 r y) = m ((c.tc : Thread nD τ).loc main_arg4) (ix2 (rowOf t r) y) := by
  blk_ext [iblk, V, idx t]

theorem iblk6_apply (r : Fin 128) (y : Fin 3072) : iblk m c 6 t (ix2 r y) = m ((c.tc : Thread nD τ).loc main_arg5) (ix2 (rowOf t r) y) := by
  blk_ext [iblk, V, idx t]

theorem iblk7_apply (B : Fin 24) (r : Fin 128) :
    iblk m c 7 t (ix2 B r) = m ((c.tc : Thread nD τ).loc main_arg6) (ix2 (rowOf t r) B) := by
  have e : (win0_7.blk t).view.emb (ix2 B r) = ix2 B (rowOf t r) := by blk_ext [idx t]
  show V m c main_v2 ((win0_7.blk t).view.emb (ix2 B r)) = _
  rw [V_main_v2', e]
  pointwise

end Cert.KernelIdeal.Hand

end
-- ==== Proof.Nibble.lean ====
/-
  The nibbles: what a byte's low and high four bits are worth, as the two-level reading of a packed word gives them and
  as the bits of a wider float give them.
-/
module

public import proofs.«01_k».proof.Proof.Block
public import Idealize.ShloMosaic.Lib.BitcastFour
public import Idealize.ShloMosaic.Lib.Pointwise

@[expose] public section

set_option maxRecDepth 16384

noncomputable section

namespace Cert.KernelIdeal.Hand

open Cert.KernelIdeal Cert.KernelIdeal.Gen
open Idealize.ShloMosaic

/-! ## A byte of a packed word -/

/-- Row `4 a + s` of a byte array is byte `s` of row `a` of the words. -/
theorem word_byte (x : S32x128.Idx → BitVec 8) (h : S32x128.Bitcasts 8 S8x128 32) (a : Fin 8) (s : Fin 4) (l : Fin 128) :
    (bitcast S8x128 32 x h (ix2 a l)).extractLsb' (8 * s.val) 8 = x (ix2 ⟨4 * a.val + s.val, by omega⟩ l) := by
  apply BitVec.eq_of_getLsbD_eq
  intro i hi
  rw [BitVec.getLsbD_extractLsb']
  have e := bitcast_8_32_getLsbD_ix2 x h a l (8 * s.val + i) (by omega) ⟨4 * a.val + s.val, by omega⟩ (by show 4 * a.val + s.val = 4 * a.val + (8 * s.val + i) / 8; omega)
  have e' : (8 * s.val + i) % 8 = i := by omega
  rw [e', ← ix2_eq_valueIdx, ← ix2_eq_valueIdx] at e
  simpa [hi] using e

/-- A word array read as bytes. -/
theorem byte_word (w : S8x128.Idx → BitVec 32) (h : S8x128.Bitcasts 32 S32x128 8) (r : Fin 32) (l : Fin 128) :
    bitcast S32x128 8 w h (ix2 r l) = (w (ix2 ⟨r.val / 4, by omega⟩ l)).extractLsb' (8 * (r.val % 4)) 8 := by
  apply BitVec.eq_of_getLsbD_eq
  intro i hi
  rw [bitcast_getLsbD w h (ix2 r l) i hi (by decide), BitVec.getLsbD_extractLsb']
  have hr : S32x128.row (ix2 r l) = r.val := rfl
  have e1 : (S32x128.row (ix2 r l) * 8 + i) / 32 = r.val / 4 := by rw [hr]; omega
  have e2 : (S32x128.row (ix2 r l) * 8 + i) % 32 = 8 * (r.val % 4) + i := by rw [hr]; omega
  rw [e2]
  have e3 : ∀ p hp, p = r.val / 4 → h.srcIdx (ix2 r l) p hp = ix2 ⟨r.val / 4, by omega⟩ l := by
    intro p hp e
    subst e
    funext c
    match c with
    | ⟨0, _⟩ => exact Fin.ext (h.srcIdx_row _ _ _ ⟨0, Nat.zero_lt_two⟩ rfl)
    | ⟨1, _⟩ => exact Fin.ext (h.srcIdx_other _ _ _ ⟨1, Nat.one_lt_two⟩ (by show ¬ 1 + 2 = 2; omega))
  rw [e3 _ _ e1]
  simp [hi]

/-- The low nibble moved to a narrow float's sign and exponent, -/
def evenBits (b : BitVec 8) : BitVec 8 := (b <<< 4) &&& 0x80#8 ||| (b <<< 3) &&& 0x38#8
/-- and the high one. -/
def oddBits (b : BitVec 8) : BitVec 8 := b &&& 0x80#8 ||| (b >>> 1) &&& 0x38#8

theorem even_word (w : BitVec 32) (s : Fin 4) :
    ((w <<< 4) &&& 2155905152#32 ||| (w <<< 3) &&& 943208504#32).extractLsb' (8 * s.val) 8 = evenBits (w.extractLsb' (8 * s.val) 8) := by
  apply BitVec.eq_of_getLsbD_eq
  intro i hi
  unfold evenBits
  fin_cases s <;> interval_cases i <;> simp [BitVec.getLsbD_extractLsb']
theorem odd_word (w : BitVec 32) (s : Fin 4) :
    (w &&& 2155905152#32 ||| (w.sshiftRight 1) &&& 943208504#32).extractLsb' (8 * s.val) 8 = oddBits (w.extractLsb' (8 * s.val) 8) := by
  apply BitVec.eq_of_getLsbD_eq
  intro i hi
  unfold oddBits
  fin_cases s <;> interval_cases i <;> simp [BitVec.getLsbD_extractLsb', BitVec.getElem_sshiftRight]

/-! ## What a nibble is worth -/

/-- The value of four bits, a sign and an exponent: no fraction, and no value at exponent zero. -/
def nibVal (n : BitVec 4) : ℝ :=
  (![0, 1/64, 1/32, 1/16, 1/8, 1/4, 1/2, 1, 0, -(1/64), -(1/32), -(1/16), -(1/8), -(1/4), -(1/2), -1] : Fin 16 → ℝ) n.toFin

theorem narrow_val (n : BitVec 4) : Ideal.ofBits .fp8e4m3 (evenBits (n.setWidth 8)) = ((nibVal n : ℝ) : EReal) := by
  obtain ⟨n⟩ := n
  fin_cases n <;> simp [nibVal, evenBits, Ideal.ofBits, Ideal.e4m3fn, -EReal.coe_mul, -EReal.coe_neg] <;> norm_num

/-- The wide float's bits of the same four. -/
def wideBits (n : BitVec 4) : BitVec 32 := ((n.setWidth 32 <<< 28).sshiftRight 5) &&& 2206203904#32

theorem wide_val (n : BitVec 4) : Ideal.ofBits .f32 (wideBits n) = ((nibVal n * (2 ^ 120)⁻¹ : ℝ) : EReal) := by
  obtain ⟨n⟩ := n
  fin_cases n <;> simp [nibVal, wideBits, Ideal.ofBits, Ideal.ieee, -EReal.coe_mul, -EReal.coe_neg] <;> norm_num

/-- A byte's low and high nibbles. -/
def nibOf (odd : Bool) (b : BitVec 8) : BitVec 4 := b.extractLsb' (if odd then 4 else 0) 4

theorem evenBits_eq (b : BitVec 8) : evenBits b = evenBits ((nibOf false b).setWidth 8) := by revert b; decide +kernel
theorem oddBits_eq (b : BitVec 8) : oddBits b = evenBits ((nibOf true b).setWidth 8) := by revert b; decide +kernel
theorem wide_even (b : BitVec 8) : ((b.setWidth 32 <<< 28).sshiftRight 5) &&& 2206203904#32 = wideBits (nibOf false b) := by revert b; decide +kernel
theorem wide_odd (b : BitVec 8) : ((b.setWidth 32 <<< 24).sshiftRight 5) &&& 2206203904#32 = wideBits (nibOf true b) := by revert b; decide +kernel

end Cert.KernelIdeal.Hand

end
-- ==== Proof.Dot.lean ====
/-
  One trip's aggregate at an index, over the extended reals: a sum over the workers.
-/
module

public import proofs.«01_k».proof.Proof.Nibble
public import proofs.«01_k».proof.Proof.Spec

@[expose] public section

set_option maxRecDepth 16384

noncomputable section

namespace Cert.KernelIdeal.Hand

open Cert.KernelIdeal Cert.KernelIdeal.Gen
open Idealize.ShloMosaic

/-! ## The nibbles of a loaded block -/

/-- A byte's nibble as an extended real. -/
def nibE (odd : Bool) (b : BitVec 8) : EReal := ((nibVal (nibOf odd b) : ℝ) : EReal)

theorem pay9_byte (x : Vec Ideal S1x32x128 .i8) (r : Fin 32) (l : Fin 128) :
    (k0_pay9 x (ix2 ⟨r.val / 4, by omega⟩ l)).extractLsb' (8 * (r.val % 4)) 8 = x (ix3 0 r l) := by
  have e := word_byte (shapeCast S32x128 x shapeCasts_S1x32x128_S32x128) bitcasts_S32x128_w8_S8x128_w32 ⟨r.val / 4, by omega⟩ ⟨r.val % 4, by omega⟩ l
  refine e.trans ?_
  have hr : (⟨4 * (r.val / 4) + r.val % 4, by omega⟩ : Fin 32) = r := Fin.ext (by show 4 * (r.val / 4) + r.val % 4 = r.val; omega)
  show shapeCast S32x128 x shapeCasts_S1x32x128_S32x128 (ix2 ⟨4 * (r.val / 4) + r.val % 4, _⟩ l) = _
  rw [hr]
  pointwise

theorem pay10_apply (x : Vec Ideal S1x32x128 .i8) (r : Fin 32) (l : Fin 128) :
    k0_pay10 (F := Ideal) x (ix2 r l) = nibE false (x (ix3 0 r l)) := by
  have e : k0_pay10 (F := Ideal) x (ix2 r l) = Ideal.ofBits .fp8e4m3 (evenBits (x (ix3 0 r l))) := by
    rw [← pay9_byte x r l, ← even_word _ ⟨r.val % 4, by omega⟩]
    exact congrArg (Ideal.ofBits .fp8e4m3) (byte_word _ _ r l)
  rw [e, evenBits_eq]; exact narrow_val _

theorem pay11_apply (x : Vec Ideal S1x32x128 .i8) (r : Fin 32) (l : Fin 128) :
    k0_pay11 (F := Ideal) x (ix2 r l) = nibE true (x (ix3 0 r l)) := by
  have e : k0_pay11 (F := Ideal) x (ix2 r l) = Ideal.ofBits .fp8e4m3 (oddBits (x (ix3 0 r l))) := by
    rw [← pay9_byte x r l, ← odd_word _ ⟨r.val % 4, by omega⟩]
    exact congrArg (Ideal.ofBits .fp8e4m3) (byte_word _ _ r l)
  rw [e, oddBits_eq]; exact narrow_val _

/-! ## The masks, the gather's lanes -/

theorem diagV_zero (r : Fin 16) (j : Fin 256) : diagV 0#32 (ix2 r j) = if j.val % 32 = r.val then 1#32 else 0#32 := by
  revert r j; decide +kernel
theorem diagV_sixteen (r : Fin 16) (j : Fin 256) : diagV 16#32 (ix2 r j) = if j.val % 32 = r.val + 16 then 1#32 else 0#32 := by
  revert r j; decide +kernel
theorem srcV_apply (r : Fin 32) (l : Fin 128) : srcV (ix2 r l) = BitVec.ofNat 32 (l.val / 2) := by
  revert r l; decide +kernel
theorem oddV_apply (r : Fin 32) (l : Fin 128) : oddV (ix2 r l) = if l.val % 2 = 1 then 1#1 else 0#1 := by
  revert r l; decide +kernel
theorem chunkMask_apply (i : Fin 4) (r : Fin 8) (l : Fin 128) :
    chunkMask (BitVec.ofNat 32 i.val) (ix2 r l) = if l.val / 32 = i.val then 1#1 else 0#1 := by
  revert i r l; decide +kernel

end Cert.KernelIdeal.Hand

end
-- ==== Proof.Aggregate.lean ====
/-
  One trip's aggregate at an index, over the extended reals: a sum over the workers.
-/
module

public import proofs.«01_k».proof.Proof.Dot
public import Idealize.ShloMosaic.Lib.Pipeline.Value

@[expose] public section

set_option maxRecDepth 16384

noncomputable section

namespace Cert.KernelIdeal.Hand

open Cert.KernelIdeal Cert.KernelIdeal.Gen
open Idealize.ShloMosaic

theorem maskRows_apply (m : IVec S16x256 32) (x : Vec Ideal S1x1x1x1x256 .f32) (r : Fin 16) (j : Fin 256) :
    maskRows (F := Ideal) m x (ix2 r j) = if m (ix2 r j) = 1#32 then x (ix5 0 0 0 0 j) else (0 : EReal) := by
  unfold maskRows
  pointwise [k0_pay85]
  by_cases h : m (ix2 r j) = 1#32
  · simp [h, Scalar.select, IntOp.cmpi]
  · have h' : (m (ix2 r j) == 1#32) = false := by simpa using h
    simp [h, h', Scalar.select, IntOp.cmpi]

theorem rhsMat_apply (x : Fin 8 → Vec Ideal S1x32x128 .i8) (w : Fin 8) (r : Fin 32) (C : Fin 256) :
    rhsMat x (ix2 ⟨32 * w.val + r.val, by omega⟩ C) = nibE (decide (128 ≤ C.val)) (x w (ix3 0 r ⟨C.val % 128, Nat.mod_lt _ (by decide)⟩)) := by
  have he : ∀ (f : Fin 8 → FVec Ideal S32x128 .fp8e4m3) (h) (l : Fin 128),
      concatenate S256x128 0 (List.ofFn fun n : Fin 8 => (⟨S32x128, f n⟩ : (s : Shape) × (s.Idx → Ideal .fp8e4m3))) h
        (ix2 ⟨32 * w.val + r.val, by omega⟩ l) = f w (ix2 r l) := fun f h l =>
    concatenate_ofFn_apply (t := S256x128) (s₁ := S32x128) (0 : Fin 2) f h rfl 32 rfl _ w (by show (32 * w.val + r.val) / 32 = w.val; omega)
      (ix2 r l) (by show r.val = (32 * w.val + r.val) % 32; omega)
      (fun b hb => by
        match b with
        | ⟨0, _⟩ => exact absurd rfl hb
        | ⟨1, _⟩ => rfl)
  have e0 := fun l => (he (fun n => k0_pay10 (F := Ideal) (x n)) concatenates_S32x128_S32x128_S32x128_S32x128_S32x128_S32x128_S32x128_S32x128_S256x128_d0 l).trans (pay10_apply (x w) r l)
  have e1 := fun l => (he (fun n => k0_pay11 (F := Ideal) (x n)) concatenates_S32x128_S32x128_S32x128_S32x128_S32x128_S32x128_S32x128_S32x128_S256x128_d0 l).trans (pay11_apply (x w) r l)
  unfold rhsMat k0_pay84
  by_cases hC : C.val < 128
  · have hd : decide (128 ≤ C.val) = false := decide_eq_false (by omega)
    rw [hd, show (⟨C.val % 128, Nat.mod_lt _ (by decide)⟩ : Fin 128) = ⟨C.val, hC⟩ from Fin.ext (Nat.mod_eq_of_lt hC)]
    refine Eq.trans ?_ (e0 ⟨C.val, hC⟩)
    exact concatenate_pair_apply_left (t := S256x256) (s₁ := S256x128) (s₂ := S256x128) (1 : Fin 2) _ _ _ _ rfl (ix2 (⟨32 * w.val + r.val, by omega⟩ : Fin 256) (⟨C.val, hC⟩ : Fin 128)) (fun b => by
      match b with
      | ⟨0, _⟩ => rfl
      | ⟨1, _⟩ => rfl)
  · have hd : decide (128 ≤ C.val) = true := decide_eq_true (by omega)
    rw [hd, show (⟨C.val % 128, Nat.mod_lt _ (by decide)⟩ : Fin 128) = ⟨C.val - 128, by omega⟩ from Fin.ext (by show C.val % 128 = C.val - 128; omega)]
    refine Eq.trans ?_ (e1 ⟨C.val - 128, by omega⟩)
    exact concatenate_pair_apply_right (t := S256x256) (s₁ := S256x128) (s₂ := S256x128) (1 : Fin 2) _ _ _ (ix2 (⟨32 * w.val + r.val, by omega⟩ : Fin 256) C) rfl rfl (ix2 (⟨32 * w.val + r.val, by omega⟩ : Fin 256) (⟨C.val - 128, by omega⟩ : Fin 128)) (fun b hb => by
      match b with
      | ⟨0, _⟩ => rfl
      | ⟨1, _⟩ => exact absurd rfl hb) (by show C.val - 128 + 128 = C.val; omega)

/-- Both halves' limb `l`, block `b`. -/
def wSum (c : Vec Ideal S1x1x1x1x256 .f32) (x : Fin 8 → Vec Ideal S1x32x128 .i8) (odd : Bool) (ρ : Fin 32) (q : Fin 128) : EReal :=
  ∑ w : Fin 8, (show EReal from c (ix5 0 0 0 0 ⟨32 * w.val + ρ.val, by omega⟩)) * nibE odd (x w (ix3 0 ρ q))

theorem lhsMat_apply (c : Fin 3 → Fin 2 → Vec Ideal S1x1x1x1x256 .f32) (l : Fin 3) (b : Fin 2) (ρ : Fin 32) (j : Fin 256) :
    lhsMat (F := Ideal) (diagV 0#32) (diagV 16#32) c (ix2 ⟨64 * l.val + 32 * b.val + ρ.val, by omega⟩ j)
      = if j.val % 32 = ρ.val then c l b (ix5 0 0 0 0 j) else (0 : EReal) := by
  have hf : ∀ (f : Fin 12 → FVec Ideal S16x256 .f32) (h) (p : Fin 12) (r : Fin 16) (hR : 64 * l.val + 32 * b.val + ρ.val = 16 * p.val + r.val),
      concatenate S192x256 0 (List.ofFn fun n : Fin 12 => (⟨S16x256, f n⟩ : (s : Shape) × (s.Idx → Ideal .f32))) h
        (ix2 ⟨64 * l.val + 32 * b.val + ρ.val, by omega⟩ j) = f p (ix2 r j) := fun f h p r hR =>
    concatenate_ofFn_apply (t := S192x256) (s₁ := S16x256) (0 : Fin 2) f h rfl 16 rfl _ p (by show (64 * l.val + 32 * b.val + ρ.val) / 16 = p.val; omega)
      (ix2 r j) (by show r.val = (64 * l.val + 32 * b.val + ρ.val) % 16; omega)
      (fun b hb => by
        match b with
        | ⟨0, _⟩ => exact absurd rfl hb
        | ⟨1, _⟩ => rfl)
  have hg := hf (fun p => maskRows (F := Ideal) (![diagV 0#32, diagV 16#32, diagV 0#32, diagV 16#32, diagV 0#32, diagV 16#32, diagV 0#32, diagV 16#32, diagV 0#32, diagV 16#32, diagV 0#32, diagV 16#32] p)
    (![c 0 0, c 0 0, c 0 1, c 0 1, c 1 0, c 1 0, c 1 1, c 1 1, c 2 0, c 2 0, c 2 1, c 2 1] p)) concatenates_S16x256_S16x256_S16x256_S16x256_S16x256_S16x256_S16x256_S16x256_S16x256_S16x256_S16x256_S16x256_S192x256_d0
    ⟨4 * l.val + 2 * b.val + ρ.val / 16, by omega⟩ ⟨ρ.val % 16, by omega⟩ (by show _ = 16 * (4 * l.val + 2 * b.val + ρ.val / 16) + ρ.val % 16; omega)
  refine (show lhsMat (F := Ideal) (diagV 0#32) (diagV 16#32) c _ = _ from hg).trans ?_
  rw [maskRows_apply]
  have k1 : ∀ (l : Fin 3) (b : Fin 2) (a : Fin 2) (hp : 4 * l.val + 2 * b.val + a.val < 12),
      (![diagV 0#32, diagV 16#32, diagV 0#32, diagV 16#32, diagV 0#32, diagV 16#32, diagV 0#32, diagV 16#32, diagV 0#32, diagV 16#32, diagV 0#32, diagV 16#32] : Fin 12 → IVec S16x256 32) ⟨4 * l.val + 2 * b.val + a.val, hp⟩
        = (![diagV 0#32, diagV 16#32] : Fin 2 → IVec S16x256 32) a := by
    intro l b a hp
    fin_cases l <;> fin_cases b <;> fin_cases a <;> rfl
  have k2 : ∀ (l : Fin 3) (b : Fin 2) (a : Fin 2) (hp : 4 * l.val + 2 * b.val + a.val < 12),
      (![c 0 0, c 0 0, c 0 1, c 0 1, c 1 0, c 1 0, c 1 1, c 1 1, c 2 0, c 2 0, c 2 1, c 2 1] : Fin 12 → Vec Ideal S1x1x1x1x256 .f32) ⟨4 * l.val + 2 * b.val + a.val, hp⟩
        = c l b := by
    intro l b a hp
    fin_cases l <;> fin_cases b <;> fin_cases a <;> rfl
  rw [k1 l b ⟨ρ.val / 16, by omega⟩, k2 l b ⟨ρ.val / 16, by omega⟩]
  have k3 : (![diagV 0#32, diagV 16#32] : Fin 2 → IVec S16x256 32) ⟨ρ.val / 16, by omega⟩ (ix2 ⟨ρ.val % 16, by omega⟩ j) = if j.val % 32 = ρ.val then 1#32 else 0#32 := by
    have hc : ρ.val / 16 = 0 ∨ ρ.val / 16 = 1 := by omega
    rcases hc with h | h
    · rw [show (⟨ρ.val / 16, by omega⟩ : Fin 2) = 0 from Fin.ext h]
      refine (diagV_zero _ _).trans ?_
      show (if j.val % 32 = ρ.val % 16 then 1#32 else 0#32) = _
      rw [show ρ.val % 16 = ρ.val by omega]
    · rw [show (⟨ρ.val / 16, by omega⟩ : Fin 2) = 1 from Fin.ext h]
      refine (diagV_sixteen _ _).trans ?_
      show (if j.val % 32 = ρ.val % 16 + 16 then 1#32 else 0#32) = _
      rw [show ρ.val % 16 + 16 = ρ.val by omega]
  rw [k3]
  by_cases h : j.val % 32 = ρ.val
  · rw [if_pos h, if_pos h, if_pos rfl]
  · rw [if_neg h, if_neg h, if_neg (by decide)]

/-- A sum that a diagonal leaves one term in each 32 of. -/
theorem sum_diag (f g : Fin 256 → EReal) (ρ : Fin 32) :
    ∑ j : Fin 256, (if j.val % 32 = ρ.val then f j else 0) * g j = ∑ w : Fin 8, f ⟨32 * w.val + ρ.val, by omega⟩ * g ⟨32 * w.val + ρ.val, by omega⟩ := by
  rw [← (finProdFinEquiv (m := 8) (n := 32)).sum_comp (fun j : Fin 256 => (if j.val % 32 = ρ.val then f j else 0) * g j), Fintype.sum_prod_type]
  refine Finset.sum_congr rfl fun w _ => ?_
  rw [Finset.sum_eq_single ρ]
  · have e : finProdFinEquiv (m := 8) (n := 32) (w, ρ) = (⟨32 * w.val + ρ.val, by omega⟩ : Fin 256) :=
      Fin.ext (by show ρ.val + 32 * w.val = 32 * w.val + ρ.val; omega)
    rw [e, if_pos (by show (32 * w.val + ρ.val) % 32 = ρ.val; omega)]
  · intro r _ hr
    rw [if_neg, zero_mul]
    intro h
    refine hr (Fin.ext ?_)
    have h' : (r.val + 32 * w.val) % 32 = ρ.val := h
    omega
  · exact fun h => absurd (Finset.mem_univ _) h

theorem halfDot_apply (c : Fin 3 → Fin 2 → Vec Ideal S1x1x1x1x256 .f32) (x : Fin 8 → Vec Ideal S1x32x128 .i8) (l : Fin 3) (b : Fin 2) (ρ : Fin 32) (C : Fin 256) :
    halfDot (F := Ideal) (diagV 0#32) (diagV 16#32) c x (ix2 ⟨64 * l.val + 32 * b.val + ρ.val, by omega⟩ C)
      = wSum (c l b) x (decide (128 ≤ C.val)) ρ ⟨C.val % 128, Nat.mod_lt _ (by decide)⟩ := by
  unfold halfDot
  pointwise
  simp only [lhsMat_apply]
  refine (sum_diag _ _ ρ).trans ?_
  unfold wSum
  refine Finset.sum_congr rfl fun w _ => ?_
  rw [rhsMat_apply]

theorem lane_zero (l : Fin 128) :
    (Scalar.select (IntOp.cmpi CmpIPredicate.slt (IntOp.addi (BitVec.ofNat 32 (l.val / 2)) 0#32) 0#32)
      (IntOp.addi (IntOp.addi (BitVec.ofNat 32 (l.val / 2)) 0#32) 128#32) (IntOp.addi (BitVec.ofNat 32 (l.val / 2)) 0#32)).toNat % 128 = l.val / 2 := by
  revert l; decide +kernel
theorem lane_half (l : Fin 128) :
    (Scalar.select (IntOp.cmpi CmpIPredicate.slt (IntOp.addi (BitVec.ofNat 32 (l.val / 2)) 64#32) 0#32)
      (IntOp.addi (IntOp.addi (BitVec.ofNat 32 (l.val / 2)) 64#32) 128#32) (IntOp.addi (BitVec.ofNat 32 (l.val / 2)) 64#32)).toNat % 128 = 64 + l.val / 2 := by
  revert l; decide +kernel

/-- The interleaving of block 0's even and odd columns, -/
theorem pay100_apply (lo hi : FVec Ideal S64x256 .f32) (ρ : Fin 32) (l : Fin 128) (C : Fin 256) (hC : C.val = 128 * (l.val % 2) + l.val / 2) :
    k0_pay100 (F := Ideal) srcV oddV lo hi (ix2 ρ l) = (show EReal from lo (ix2 ⟨ρ.val, by omega⟩ C)) + hi (ix2 ⟨ρ.val, by omega⟩ C) := by
  pointwise [k0_pay100, k0_pay99, srcV_apply, oddV_apply]
  simp only [lane_zero]
  have hc : l.val % 2 = 0 ∨ l.val % 2 = 1 := by omega
  rcases hc with h | h
  · rw [h, if_neg (by decide)]; unfold Scalar.select; rw [if_neg (by decide)]
    have e : (⟨l.val / 2, by omega⟩ : Fin 256) = C := Fin.ext (by show l.val / 2 = C.val; omega)
    rw [e]
  · rw [h, if_pos rfl]; unfold Scalar.select; rw [if_pos (by decide)]
    have e : (⟨128 + l.val / 2, by omega⟩ : Fin 256) = C := Fin.ext (by show 128 + l.val / 2 = C.val; omega)
    rw [e]
/-- and of block 1's. -/
theorem pay101_apply (lo hi : FVec Ideal S64x256 .f32) (ρ : Fin 32) (l : Fin 128) (C : Fin 256) (hC : C.val = 128 * (l.val % 2) + (64 + l.val / 2)) :
    k0_pay101 (F := Ideal) srcV oddV lo hi (ix2 ρ l) = (show EReal from lo (ix2 ⟨32 + ρ.val, by omega⟩ C)) + hi (ix2 ⟨32 + ρ.val, by omega⟩ C) := by
  pointwise [k0_pay101, k0_pay99, srcV_apply, oddV_apply]
  simp only [lane_half]
  have hc : l.val % 2 = 0 ∨ l.val % 2 = 1 := by omega
  rcases hc with h | h
  · rw [h, if_neg (by decide)]; unfold Scalar.select; rw [if_neg (by decide)]
    have e : (⟨64 + l.val / 2, by omega⟩ : Fin 256) = C := Fin.ext (by show 64 + l.val / 2 = C.val; omega)
    rw [e]
  · rw [h, if_pos rfl]; unfold Scalar.select; rw [if_pos (by decide)]
    have e : (⟨128 + (64 + l.val / 2), by omega⟩ : Fin 256) = C := Fin.ext (by show 128 + (64 + l.val / 2) = C.val; omega)
    rw [e]

theorem bothHalves_apply (c : Fin 2 → Fin 3 → Fin 2 → Vec Ideal S1x1x1x1x256 .f32) (x : Fin 2 → Fin 8 → Vec Ideal S1x32x128 .i8)
    (l : Fin 3) (b : Fin 2) (ρ : Fin 32) (C : Fin 256) (R : Fin 192) (hR : R.val = 64 * l.val + 32 * b.val + ρ.val) (odd : Bool) (q : Fin 128)
    (ho : decide (128 ≤ C.val) = odd) (hq : C.val % 128 = q.val) :
    bothHalves (F := Ideal) (diagV 0#32) (diagV 16#32) c x (ix2 R C) = wSum (c 0 l b) (x 0) odd ρ q + wSum (c 1 l b) (x 1) odd ρ q := by
  obtain ⟨R, hRlt⟩ := R
  obtain rfl : R = 64 * l.val + 32 * b.val + ρ.val := hR
  obtain ⟨q, hqlt⟩ := q
  obtain rfl : C.val % 128 = q := hq
  subst ho
  unfold bothHalves
  pointwise
  rw [halfDot_apply, halfDot_apply]

/-- The aggregate at an index: the limbs' sums over the workers. -/
theorem aggBlk_apply (c : Fin 2 → Fin 3 → Fin 2 → Vec Ideal S1x1x1x1x256 .f32) (x : Fin 2 → Fin 8 → Vec Ideal S1x32x128 .i8)
    (b : Fin 2) (ρ : Fin 32) (l : Fin 128) :
    aggBlk (F := Ideal) (diagV 0#32) (diagV 16#32) srcV oddV c x b (ix2 ρ l)
      = (wSum (c 0 0 b) (x 0) (decide (l.val % 2 = 1)) ρ ⟨64 * b.val + l.val / 2, by omega⟩ + wSum (c 1 0 b) (x 1) (decide (l.val % 2 = 1)) ρ ⟨64 * b.val + l.val / 2, by omega⟩)
        + (wSum (c 0 1 b) (x 0) (decide (l.val % 2 = 1)) ρ ⟨64 * b.val + l.val / 2, by omega⟩ + wSum (c 1 1 b) (x 1) (decide (l.val % 2 = 1)) ρ ⟨64 * b.val + l.val / 2, by omega⟩)
        + (wSum (c 0 2 b) (x 0) (decide (l.val % 2 = 1)) ρ ⟨64 * b.val + l.val / 2, by omega⟩ + wSum (c 1 2 b) (x 1) (decide (l.val % 2 = 1)) ρ ⟨64 * b.val + l.val / 2, by omega⟩) := by
  have hl := l.isLt
  unfold aggBlk
  generalize ht : bothHalves (F := Ideal) (diagV 0#32) (diagV 16#32) c x = t
  have hb : b = 0 ∨ b = 1 := by omega
  rcases hb with rfl | rfl
  · show k0_pay100 (F := Ideal) srcV oddV _ _ (ix2 ρ l) = _
    rw [pay100_apply _ _ ρ l ⟨128 * (l.val % 2) + l.val / 2, by omega⟩ rfl]
    pointwise
    subst ht
    rw [bothHalves_apply c x 0 0 ρ, bothHalves_apply c x 1 0 ρ, bothHalves_apply c x 2 0 ρ]
    all_goals first | rfl | exact decide_eq_decide.2 (by dsimp only; omega) | (dsimp only; omega) | (simp; omega) | (simp; done)
  · show k0_pay101 (F := Ideal) srcV oddV _ _ (ix2 ρ l) = _
    rw [pay101_apply _ _ ρ l ⟨128 * (l.val % 2) + (64 + l.val / 2), by omega⟩ rfl]
    pointwise
    subst ht
    rw [bothHalves_apply c x 0 1 ρ, bothHalves_apply c x 1 1 ρ, bothHalves_apply c x 2 1 ρ]
    all_goals first | rfl | exact decide_eq_decide.2 (by dsimp only; omega) | (dsimp only; omega) | (simp; omega) | (simp; done)

end Cert.KernelIdeal.Hand

end
-- ==== Proof.CoefValue.lean ====
/-
  The coefficients over the extended reals: a worker's scale times its weight, where both are real; and one trip's
  aggregate from them.
-/
module

public import proofs.«01_k».proof.Proof.Aggregate

@[expose] public section

set_option maxRecDepth 16384

noncomputable section

namespace Cert.KernelIdeal.Hand

open Cert.KernelIdeal Cert.KernelIdeal.Gen
open Idealize.ShloMosaic

theorem window_apply {S : Shape} {α : Type} (X : S.Idx → α) {off off' : Fin S.rank → ℕ} {size : Fin S.rank → ℕ} (inb) (ho : off = off') (x : (a : Fin S.rank) → Fin (size a)) (y : S.Idx)
    (hy : ∀ a, (y a).val = off' a + (x a).val) : VecWindow.window X off size inb x = X y := by
  subst ho
  refine congrArg X (funext fun a => Fin.ext ?_)
  rw [hy a]
  simp [Rect.emb, Rect.unit]

theorem rotL_apply (s : Fin 4) (v : FVec Ideal S8x128 .f32) (r : Fin 8) (l : Fin 128) :
    rotL s v (ix2 r l) = v (ix2 r ⟨(l.val + 128 - 32 * s.val) % 128, Nat.mod_lt _ (by decide)⟩) := by
  fin_cases s
  · show v (ix2 r l) = _
    rw [show (⟨(l.val + 128 - 32 * 0) % 128, Nat.mod_lt _ (by decide)⟩ : Fin 128) = l from Fin.ext (by show (l.val + 128 - 32 * 0) % 128 = l.val; omega)]
  · show dynamicRotate 1 32#32 none v rotates_S8x128_d1 (ix2 r l) = _
    pointwise
  · show dynamicRotate 1 64#32 none v rotates_S8x128_d1 (ix2 r l) = _
    pointwise
  · show dynamicRotate 1 96#32 none v rotates_S8x128_d1 (ix2 r l) = _
    pointwise

theorem coefV_apply (c : Fin 4 → FVec Ideal S8x128 .f32) (g : Fin 4) (r : Fin 8) (l : Fin 128) :
    coefV c g (ix2 r l) = c ⟨l.val / 32, by omega⟩ (ix2 r ⟨32 * g.val + l.val % 32, by omega⟩) := by
  have m3 := chunkMask_apply 3 r l
  have m2 := chunkMask_apply 2 r l
  have m1 := chunkMask_apply 1 r l
  have hr : ∀ i : Fin 4, l.val / 32 = i.val → rotL (i - g) (c i) (ix2 r l) = c ⟨l.val / 32, by omega⟩ (ix2 r ⟨32 * g.val + l.val % 32, by omega⟩) := by
    intro i hi
    rw [rotL_apply, show (⟨l.val / 32, by omega⟩ : Fin 4) = i from Fin.ext hi]
    have hs : (i - g).val = (4 - g.val + i.val) % 4 := rfl
    rw [show (⟨(l.val + 128 - 32 * (i - g).val) % 128, Nat.mod_lt _ (by decide)⟩ : Fin 128) = ⟨32 * g.val + l.val % 32, by omega⟩ from
      Fin.ext (by show (l.val + 128 - 32 * (i - g).val) % 128 = 32 * g.val + l.val % 32; rw [hs]; omega)]
  show Scalar.select (chunkMask 3#32 (ix2 r l)) (rotL (3 - g) (c 3) (ix2 r l)) (Scalar.select (chunkMask 2#32 (ix2 r l)) (rotL (2 - g) (c 2) (ix2 r l))
    (Scalar.select (chunkMask 1#32 (ix2 r l)) (rotL (1 - g) (c 1) (ix2 r l)) (rotL (0 - g) (c 0) (ix2 r l)))) = _
  rw [show chunkMask 3#32 (ix2 r l) = _ from m3, show chunkMask 2#32 (ix2 r l) = _ from m2, show chunkMask 1#32 (ix2 r l) = _ from m1]
  have hc : l.val / 32 = 0 ∨ l.val / 32 = 1 ∨ l.val / 32 = 2 ∨ l.val / 32 = 3 := by omega
  unfold Scalar.select
  rcases hc with h | h | h | h
  · rw [if_neg (c := l.val / 32 = (3 : Fin 4).val) (by rw [h]; decide), if_neg (c := l.val / 32 = (2 : Fin 4).val) (by rw [h]; decide), if_neg (c := l.val / 32 = (1 : Fin 4).val) (by rw [h]; decide),
      if_neg (by decide), if_neg (by decide), if_neg (by decide)]
    exact hr 0 h
  · rw [if_neg (c := l.val / 32 = (3 : Fin 4).val) (by rw [h]; decide), if_neg (c := l.val / 32 = (2 : Fin 4).val) (by rw [h]; decide), if_pos (c := l.val / 32 = (1 : Fin 4).val) h,
      if_neg (by decide), if_neg (by decide), if_pos (by decide)]
    exact hr 1 h
  · rw [if_neg (c := l.val / 32 = (3 : Fin 4).val) (by rw [h]; decide), if_pos (c := l.val / 32 = (2 : Fin 4).val) h,
      if_neg (by decide), if_pos (by decide)]
    exact hr 2 h
  · rw [if_pos (c := l.val / 32 = (3 : Fin 4).val) h, if_pos (by decide)]
    exact hr 3 h

/-- A value that is a real number is its first limb, and its other limbs are nothing. -/
theorem limbs_apply (v : FVec Ideal S8x128 .f32) (l : Fin 3) (y : S8x128.Idx) (r : ℝ) (h : v y = (show EReal from (r : EReal))) :
    limbs v l y = (show EReal from if l = 0 then (r : EReal) else 0) := by
  have hs : (r : EReal) - (r : EReal) = 0 := by rw [← EReal.coe_sub, sub_self, EReal.coe_zero]
  fin_cases l
  · exact h
  · show (show EReal from v y) - (show EReal from v y) = 0
    rw [h]; exact hs
  · show ((show EReal from v y) - (show EReal from v y)) - ((show EReal from v y) - (show EReal from v y)) = 0
    rw [h]
    show ((r : EReal) - r) - ((r : EReal) - r) = 0
    rw [hs, sub_zero]

section
variable (X1 : Vec Ideal S16 .f32) (X4 : Vec Ideal S16x24x128 .f32)

theorem coefIn_apply (q : Fin 4) (t : Fin 3) (i : Fin 4) (r : Fin 8) (l : Fin 128) :
    coefIn X1 X4 q t i (ix2 r l) = (show EReal from X4 (ix3 ⟨4 * q.val + i.val, by omega⟩ ⟨8 * t.val + r.val, by omega⟩ l)) * X1 (ix1 ⟨4 * q.val + i.val, by omega⟩) := by
  unfold coefIn
  generalize h4 : VecWindow.window X4 ![4 * q.val + i.val, 8 * t.val, 0] S1x8x128.size (offSc_inb q i t) = W4
  generalize h1 : VecWindow.window X1 ![4 * q.val + i.val] S1.size (offWt_inb q i) (Shape.Idx.first (s := S1) (by decide)) = W1
  have e4 : W4 (ix3 0 r l) = X4 (ix3 ⟨4 * q.val + i.val, by omega⟩ ⟨8 * t.val + r.val, by omega⟩ l) := by
    rw [← h4]
    refine window_apply X4 _ rfl _ _ fun a => ?_
    fin_cases a
    · rfl
    · rfl
    · show l.val = 0 + l.val; omega
  have e1 : W1 = X1 (ix1 ⟨4 * q.val + i.val, by omega⟩) := by
    rw [← h1]
    refine window_apply X1 _ rfl _ _ fun a => ?_
    fin_cases a
    rfl
  rw [← e4, ← e1]
  pointwise [k0_pay701]

theorem coefSpec_apply (h1 : ∀ i, ∃ r : ℝ, X1 i = (show EReal from (r : EReal))) (h4 : ∀ i, ∃ r : ℝ, X4 i = (show EReal from (r : EReal)))
    (g : Fin 4) (h : Fin 2) (l : Fin 3) (B : Fin 24) (p : Fin 256) :
    coefSpec X1 X4 (ix5 g h l B p) = (show EReal from if l = 0 then
      (show EReal from X4 (ix3 ⟨8 * h.val + p.val / 32, by omega⟩ B ⟨32 * g.val + p.val % 32, by omega⟩)) * X1 (ix1 ⟨8 * h.val + p.val / 32, by omega⟩) else 0) := by
  have hh := h.isLt
  have hp := p.isLt
  have hB := B.isLt
  have e := coefV_apply (coefIn X1 X4 ⟨(2 * h.val + p.val / 128) % 4, Nat.mod_lt _ (by decide)⟩ ⟨B.val / 8 % 3, Nat.mod_lt _ (by decide)⟩) g ⟨B.val % 8, Nat.mod_lt _ (by decide)⟩ ⟨p.val % 128, Nat.mod_lt _ (by decide)⟩
  rw [coefIn_apply] at e
  have i1 : (⟨4 * ((2 * h.val + p.val / 128) % 4) + p.val % 128 / 32, by omega⟩ : Fin 16) = ⟨8 * h.val + p.val / 32, by omega⟩ :=
    Fin.ext (by show 4 * ((2 * h.val + p.val / 128) % 4) + p.val % 128 / 32 = 8 * h.val + p.val / 32; omega)
  have i2 : (⟨8 * (B.val / 8 % 3) + B.val % 8, by omega⟩ : Fin 24) = B := Fin.ext (by show 8 * (B.val / 8 % 3) + B.val % 8 = B.val; omega)
  have i3 : (⟨32 * g.val + p.val % 128 % 32, by omega⟩ : Fin 128) = ⟨32 * g.val + p.val % 32, by omega⟩ :=
    Fin.ext (by show 32 * g.val + p.val % 128 % 32 = 32 * g.val + p.val % 32; omega)
  simp only [i1, i2, i3] at e
  obtain ⟨r1, hr1⟩ := h1 (ix1 ⟨8 * h.val + p.val / 32, by omega⟩)
  obtain ⟨r4, hr4⟩ := h4 (ix3 ⟨8 * h.val + p.val / 32, by omega⟩ B ⟨32 * g.val + p.val % 32, by omega⟩)
  have hv := e.trans (show _ = ((r4 * r1 : ℝ) : EReal) by rw [hr1, hr4]; exact (EReal.coe_mul r4 r1).symm)
  refine Eq.trans ?_ ((limbs_apply _ l _ _ hv).trans ?_)
  · have ig : (⟨g.val % 4, Nat.mod_lt _ (by decide)⟩ : Fin 4) = g := Fin.ext (Nat.mod_eq_of_lt g.isLt)
    have il : (⟨l.val % 3, Nat.mod_lt _ (by decide)⟩ : Fin 3) = l := Fin.ext (Nat.mod_eq_of_lt l.isLt)
    show limbs (coefV _ ⟨g.val % 4, _⟩) ⟨l.val % 3, _⟩ _ = _
    rw [ig, il]
    rfl
  · rw [hr1, hr4]
    show (if l = 0 then ((r4 * r1 : ℝ) : EReal) else 0) = if l = 0 then (r4 : EReal) * (r1 : EReal) else 0
    rw [EReal.coe_mul]
end

end Cert.KernelIdeal.Hand

end
-- ==== Proof.StripValue.lean ====
/-
  One strip's results over the extended reals, entry by entry.
-/
module

public import proofs.«01_k».proof.Proof.CoefValue

@[expose] public section

set_option maxRecDepth 16384

noncomputable section

namespace Cert.KernelIdeal.Hand

open Cert.KernelIdeal Cert.KernelIdeal.Gen
open Idealize.ShloMosaic

/-- The 16 workers' bytes' nibbles of one entry, each by its worker's scale and weight. -/
def aggE (X1 : Vec Ideal S16 .f32) (X3 : Vec Ideal S16x128x1536 .i8) (X4 : Vec Ideal S16x24x128 .f32) (r : Fin 128) (y : Fin 3072) : EReal :=
  ∑ W : Fin 16, (show EReal from X4 (ix3 W ⟨y.val / 128, by omega⟩ r)) * (show EReal from X1 (ix1 W)) * nibE (decide (y.val % 2 = 1)) (X3 (ix3 W r ⟨y.val / 2, by omega⟩))

/-- The new momentum, -/
def momS (d s : EReal) (mc : BitVec 8) : EReal := (show EReal from Scalar.ofBits (F := Ideal) .f32 0x3F666666#32) * ((show EReal from Scalar.sitofp (F := Ideal) .f32 mc) * s) + d
/-- the outer step, -/
def outS (v1 d s : EReal) (mc : BitVec 8) (ga : EReal) : EReal := ga - v1 * (d + (show EReal from Scalar.ofBits (F := Ideal) .f32 0x3F666666#32) * momS d s mc)
/-- and the merge, of one entry. -/
def mrgS (v1 d s : EReal) (mc : BitVec 8) (ga la : EReal) : EReal :=
  (show EReal from Scalar.ofBits (F := Ideal) .f32 0x3F000000#32) * la + (show EReal from Scalar.ofBits (F := Ideal) .f32 0x3F000000#32) * outS v1 d s mc ga

theorem scaleRows_apply (g : Fin 4) (row : Vec Ideal S1x128 .f32) (ρ : Fin 32) (l : Fin 128) :
    scaleRows g row (ix2 ρ l) = row (ix2 0 ⟨32 * g.val + ρ.val, by omega⟩) := by
  have h5 : ∀ (R L : Fin 128), k0_pay5 row (ix2 R L) = row (ix2 0 R) := by
    intro R L
    pointwise [k0_pay5]
  have hs : ∀ (t : FVec Ideal S128x128 .f32), (![extractStridedSlice S32x128 ![0, 0] t slices_S128x128_o0_0_S32x128, extractStridedSlice S32x128 ![32, 0] t slices_S128x128_o32_0_S32x128, extractStridedSlice S32x128 ![64, 0] t slices_S128x128_o64_0_S32x128, extractStridedSlice S32x128 ![96, 0] t slices_S128x128_o96_0_S32x128] : Fin 4 → FVec Ideal S32x128 .f32) g (ix2 ρ l)
      = t (ix2 ⟨32 * g.val + ρ.val, by omega⟩ l) := by
    intro t
    fin_cases g
    · show extractStridedSlice S32x128 ![0, 0] t slices_S128x128_o0_0_S32x128 (ix2 ρ l) = _
      pointwise
    · show extractStridedSlice S32x128 ![32, 0] t slices_S128x128_o32_0_S32x128 (ix2 ρ l) = _
      pointwise
    · show extractStridedSlice S32x128 ![64, 0] t slices_S128x128_o64_0_S32x128 (ix2 ρ l) = _
      pointwise
    · show extractStridedSlice S32x128 ![96, 0] t slices_S128x128_o96_0_S32x128 (ix2 ρ l) = _
      pointwise
  exact (hs _).trans (h5 _ l)

theorem outBlk_apply (v1 : Elt Ideal .f32) (d s : FVec Ideal S32x128 .f32) (mc : Vec Ideal S32x128 .i8) (ga : Vec Ideal S32x128 .f32) (x : S32x128.Idx) :
    outBlk v1 d s mc ga x = outS v1 (d x) (s x) (mc x) (ga x) := rfl

theorem mrgBlk_apply (v1 : Elt Ideal .f32) (d s : FVec Ideal S32x128 .f32) (mc : Vec Ideal S32x128 .i8) (ga : Vec Ideal S32x128 .f32) (la : Vec Ideal S32x128 .bf16) (x : S32x128.Idx) :
    mrgBlk v1 d s mc ga la x = mrgS v1 (d x) (s x) (mc x) (ga x) (la x) := rfl

theorem sum_sixteen (f : Fin 16 → EReal) :
    ∑ W : Fin 16, f W = (∑ w : Fin 8, f ⟨8 * (0 : Fin 2).val + w.val, by have := w.isLt; show 8 * 0 + _ < 16; omega⟩) + ∑ w : Fin 8, f ⟨8 * (1 : Fin 2).val + w.val, by have := w.isLt; show 8 * 1 + _ < 16; omega⟩ := by
  rw [show (∑ W : Fin 16, f W) = ∑ W : Fin (8 + 8), f W from rfl, Fin.sum_univ_add]
  refine congrArg₂ (· + ·) (Finset.sum_congr rfl fun w _ => congrArg f (Fin.ext ?_)) (Finset.sum_congr rfl fun w _ => congrArg f (Fin.ext ?_))
  · show w.val = 8 * 0 + w.val; omega
  · show 8 + w.val = 8 * 1 + w.val; omega

section
variable (X1 : Vec Ideal S16 .f32) (X3 : Vec Ideal S16x128x1536 .i8) (X4 : Vec Ideal S16x24x128 .f32)

/-- The entry of lane `l` of block `b` of trip `k`. -/
def laneOf (k : Trip) (b : Fin 2) (l : Fin 128) : Fin 3072 :=
  ⟨256 * k.val + 128 * b.val + l.val, by have hk : k.val < 12 := Nat.lt_of_lt_of_eq k.isLt (by decide +kernel); omega⟩

theorem wSum_window (h1 : ∀ i, ∃ r : ℝ, X1 i = (show EReal from (r : EReal))) (h4 : ∀ i, ∃ r : ℝ, X4 i = (show EReal from (r : EReal)))
    (k : Trip) (g : Fin 4) (b : Fin 2) (h : Fin 2) (i : Fin 3) (ρ : Fin 32) (l : Fin 128) (q : Fin 128) (hq : q.val = 64 * b.val + l.val / 2) :
    wSum (VecWindow.window (coefSpec X1 X4) (offCoef g h i b k) S1x1x1x1x256.size (offCoef_inb g h i b k))
        (fun w => VecWindow.window X3 (offByte g h w k) S1x32x128.size (offByte_inb g h w k)) (decide (l.val % 2 = 1)) ρ q
      = if i = 0 then ∑ w : Fin 8, (show EReal from X4 (ix3 ⟨8 * h.val + w.val, by omega⟩ ⟨(laneOf k b l).val / 128, by omega⟩ ⟨32 * g.val + ρ.val, by omega⟩))
          * (show EReal from X1 (ix1 ⟨8 * h.val + w.val, by omega⟩)) * nibE (decide ((laneOf k b l).val % 2 = 1)) (X3 (ix3 ⟨8 * h.val + w.val, by omega⟩ ⟨32 * g.val + ρ.val, by omega⟩ ⟨(laneOf k b l).val / 2, by omega⟩)) else 0 := by
  have hk : k.val < 12 := Nat.lt_of_lt_of_eq k.isLt (by decide +kernel)
  have hl := l.isLt; have hb := b.isLt
  have hY : (laneOf k b l).val = 256 * k.val + 128 * b.val + l.val := rfl
  have hc : ∀ w : Fin 8, VecWindow.window (coefSpec X1 X4) (offCoef g h i b k) S1x1x1x1x256.size (offCoef_inb g h i b k) (ix5 0 0 0 0 ⟨32 * w.val + ρ.val, by omega⟩)
      = (show EReal from if i = 0 then (show EReal from X4 (ix3 ⟨8 * h.val + w.val, by omega⟩ ⟨(laneOf k b l).val / 128, by omega⟩ ⟨32 * g.val + ρ.val, by omega⟩))
          * (show EReal from X1 (ix1 ⟨8 * h.val + w.val, by omega⟩)) else 0) := by
    intro w
    refine (window_apply (coefSpec X1 X4) _ (offCoef_eq g h i b k) _ (ix5 g h i ⟨(laneOf k b l).val / 128, by omega⟩ ⟨32 * w.val + ρ.val, by omega⟩) (fun a => ?_)).trans ?_
    · fin_cases a
      · rfl
      · rfl
      · rfl
      · show (laneOf k b l).val / 128 = 2 * k.val + b.val + 0; omega
      · show 32 * w.val + ρ.val = 0 + (32 * w.val + ρ.val); omega
    · rw [coefSpec_apply X1 X4 h1 h4]
      have i1 : (⟨8 * h.val + (32 * w.val + ρ.val) / 32, by omega⟩ : Fin 16) = ⟨8 * h.val + w.val, by omega⟩ := Fin.ext (by show 8 * h.val + (32 * w.val + ρ.val) / 32 = 8 * h.val + w.val; omega)
      have i2 : (⟨32 * g.val + (32 * w.val + ρ.val) % 32, by omega⟩ : Fin 128) = ⟨32 * g.val + ρ.val, by omega⟩ := Fin.ext (by show 32 * g.val + (32 * w.val + ρ.val) % 32 = 32 * g.val + ρ.val; omega)
      simp only [i1, i2]
  have hx : ∀ w : Fin 8, VecWindow.window X3 (offByte g h w k) S1x32x128.size (offByte_inb g h w k) (ix3 0 ρ q)
      = X3 (ix3 ⟨8 * h.val + w.val, by omega⟩ ⟨32 * g.val + ρ.val, by omega⟩ ⟨(laneOf k b l).val / 2, by omega⟩) := by
    intro w
    refine window_apply X3 _ (offByte_eq g h w k) _ _ (fun a => ?_)
    fin_cases a
    · rfl
    · rfl
    · show (laneOf k b l).val / 2 = 128 * k.val + q.val; omega
  have ho : decide ((laneOf k b l).val % 2 = 1) = decide (l.val % 2 = 1) := by
    rw [show (laneOf k b l).val % 2 = l.val % 2 by omega]
  unfold wSum
  rw [ho]
  by_cases hi : i = 0
  · rw [if_pos hi]
    refine Finset.sum_congr rfl fun w _ => ?_
    rw [hc w, if_pos hi]
    exact congrArg (fun z => (_ : EReal) * nibE _ z) (hx w)
  · rw [if_neg hi]
    refine Finset.sum_eq_zero fun w _ => ?_
    rw [hc w, if_neg hi]
    exact zero_mul _

theorem aggT_apply (h1 : ∀ i, ∃ r : ℝ, X1 i = (show EReal from (r : EReal))) (h4 : ∀ i, ∃ r : ℝ, X4 i = (show EReal from (r : EReal)))
    (k : Trip) (g : Fin 4) (b : Fin 2) (ρ : Fin 32) (l : Fin 128) :
    aggT (F := Ideal) (diagV 0#32) (diagV 16#32) srcV oddV X3 (coefSpec X1 X4) k g b (ix2 ρ l) = aggE X1 X3 X4 ⟨32 * g.val + ρ.val, by omega⟩ (laneOf k b l) := by
  unfold aggT
  rw [aggBlk_apply]
  simp only [wSum_window X1 X3 X4 h1 h4 k g b _ _ ρ l ⟨64 * b.val + l.val / 2, by omega⟩ rfl]
  rw [if_pos trivial, if_pos trivial, if_neg (by decide : ¬ (1 : Fin 3) = 0), if_neg (by decide : ¬ (1 : Fin 3) = 0), if_neg (by decide : ¬ (2 : Fin 3) = 0), if_neg (by decide : ¬ (2 : Fin 3) = 0)]
  simp only [add_zero]
  exact (sum_sixteen fun W => (show EReal from X4 (ix3 W ⟨(laneOf k b l).val / 128, by have := (laneOf k b l).isLt; omega⟩ ⟨32 * g.val + ρ.val, by omega⟩)) * (show EReal from X1 (ix1 W))
    * nibE (decide ((laneOf k b l).val % 2 = 1)) (X3 (ix3 W ⟨32 * g.val + ρ.val, by omega⟩ ⟨(laneOf k b l).val / 2, by have := (laneOf k b l).isLt; omega⟩))).symm
end

section
variable (x0 : Vec Ideal S16 .f32) (x1 : Vec Ideal S1 .f32) (x2 : Vec Ideal S16x128x1536 .i8) (x3 : Vec Ideal S16x24x128 .f32) (x4 : Vec Ideal S128x3072 .f32)
  (x5 : Vec Ideal S128x3072 .bf16) (x6 : Vec Ideal S128x3072 .i8) (x7 : Vec Ideal S24x128 .f32)

theorem blockTensor_eq {e : EltTy} (P : Trip → Fin 4 → Fin 2 → S32x128.Idx → Elt Ideal e) (Q : Fin 128 → Fin 3072 → Elt Ideal e)
    (h : ∀ k g b (ρ : Fin 32) (l : Fin 128), P k g b (ix2 ρ l) = Q ⟨32 * g.val + ρ.val, by omega⟩ (laneOf k b l)) (r : Fin 128) (y : Fin 3072) :
    blockTensor P (ix2 r y) = Q r y := by
  have hr := r.isLt; have hy := y.isLt
  have e := h ⟨y.val / 256, by have e : k0_t1_loop.trips = 12 := by decide +kernel
                               omega⟩ ⟨r.val / 32 % 4, Nat.mod_lt _ (by decide)⟩ ⟨y.val / 128 % 2, Nat.mod_lt _ (by decide)⟩ ⟨r.val % 32, Nat.mod_lt _ (by decide)⟩ ⟨y.val % 128, Nat.mod_lt _ (by decide)⟩
  refine Eq.trans ?_ (e.trans (congrArg₂ Q (Fin.ext ?_) (Fin.ext ?_)))
  · unfold blockTensor ofBlocks
    refine congrArg (P _ _ _) (funext fun a => ?_)
    fin_cases a
    · rfl
    · rfl
  · show 32 * (r.val / 32 % 4) + r.val % 32 = r.val; omega
  · show 256 * (y.val / 256) + 128 * (y.val / 128 % 2) + y.val % 128 = y.val; omega

theorem elt_apply {e : EltTy} (X : Vec Ideal S128x3072 e) (k : Trip) (g : Fin 4) (b : Fin 2) (ρ : Fin 32) (l : Fin 128) :
    VecWindow.window X (offElt g b k) S32x128.size (offElt_inb g b k) (ix2 ρ l) = X (ix2 ⟨32 * g.val + ρ.val, by omega⟩ (laneOf k b l)) := by
  refine window_apply X _ (offElt_eq g b k) _ _ (fun a => ?_)
  fin_cases a
  · rfl
  · rfl

theorem sclT_apply (k : Trip) (g : Fin 4) (b : Fin 2) (ρ : Fin 32) (l : Fin 128) :
    sclT x7 k g b (ix2 ρ l) = x7 (ix2 ⟨(laneOf k b l).val / 128, by have := (laneOf k b l).isLt; omega⟩ ⟨32 * g.val + ρ.val, by omega⟩) := by
  have hl := l.isLt; have hb := b.isLt
  have hY : (laneOf k b l).val = 256 * k.val + 128 * b.val + l.val := rfl
  unfold sclT
  rw [scaleRows_apply]
  refine window_apply x7 _ (offScale_eq b k) _ _ (fun a => ?_)
  fin_cases a
  · show (laneOf k b l).val / 128 = 2 * k.val + b.val + 0; omega
  · show 32 * g.val + ρ.val = 0 + (32 * g.val + ρ.val); omega

theorem outSpec_apply (h1 : ∀ i, ∃ r : ℝ, x0 i = (show EReal from (r : EReal))) (h4 : ∀ i, ∃ r : ℝ, x3 i = (show EReal from (r : EReal)))
    (r : Fin 128) (y : Fin 3072) :
    outSpec x0 x1 x2 x3 x4 x6 x7 (ix2 r y)
      = outS (lrOf x1) (aggE x0 x2 x3 r y) (x7 (ix2 ⟨y.val / 128, by omega⟩ r)) (x6 (ix2 r y)) (x4 (ix2 r y)) := by
  refine blockTensor_eq (e := .f32) _ (fun r y => outS (lrOf x1) (aggE x0 x2 x3 r y) (x7 (ix2 ⟨y.val / 128, by omega⟩ r)) (x6 (ix2 r y)) (x4 (ix2 r y))) (fun k g b ρ l => ?_) r y
  unfold outT
  rw [outBlk_apply, aggT_apply _ _ _ h1 h4, sclT_apply, elt_apply, elt_apply]

theorem mrgSpec_apply (h1 : ∀ i, ∃ r : ℝ, x0 i = (show EReal from (r : EReal))) (h4 : ∀ i, ∃ r : ℝ, x3 i = (show EReal from (r : EReal)))
    (r : Fin 128) (y : Fin 3072) :
    mrgSpec x0 x1 x2 x3 x4 x5 x6 x7 (ix2 r y)
      = mrgS (lrOf x1) (aggE x0 x2 x3 r y) (x7 (ix2 ⟨y.val / 128, by omega⟩ r)) (x6 (ix2 r y)) (x4 (ix2 r y)) (x5 (ix2 r y)) := by
  refine blockTensor_eq (e := .f32) _ (fun r y => mrgS (lrOf x1) (aggE x0 x2 x3 r y) (x7 (ix2 ⟨y.val / 128, by omega⟩ r)) (x6 (ix2 r y)) (x4 (ix2 r y)) (x5 (ix2 r y))) (fun k g b ρ l => ?_) r y
  unfold mrgT
  rw [mrgBlk_apply, aggT_apply _ _ _ h1 h4, sclT_apply, elt_apply, elt_apply, elt_apply]
end

/-! ## The momentum's codes -/

/-- The greatest magnitude of a block's row. -/
def maxS (f : Fin 128 → EReal) : EReal := Finset.univ.fold max (show EReal from Ideal.ofBits .f32 0xFF800000#32) fun l => max (f l) (-(f l))
/-- A row's scale from it. -/
def scaleS (a : EReal) : EReal :=
  Scalar.select (Scalar.cmpf (F := Ideal) (φ := .f32) .oeq a (Scalar.ofBits (F := Ideal) .f32 0x00000000#32)) (Scalar.ofBits (F := Ideal) .f32 0x3F800000#32) (Ideal.div a (Scalar.ofBits (F := Ideal) .f32 0x42FE0000#32))
/-- An entry rounded over its scale and clipped, -/
def clipS (x s : EReal) : EReal := min (Ideal.ofBits .f32 0x42FE0000#32) (max (Ideal.ofBits .f32 0xC2FE0000#32) (Ideal.liftRound Ideal.roundHalfEven (Ideal.div x s)))
/-- its code. -/
def codeS (x s : EReal) : BitVec 8 := Ideal.fptosi 8 (clipS x s)

theorem mcnBlk_apply (bn : FVec Ideal S32x128 .f32) (ρ : Fin 32) (l : Fin 128) :
    mcnBlk bn (ix2 ρ l) = codeS (bn (ix2 ρ l)) (scaleS (maxS fun l => bn (ix2 ρ l))) := by
  have ha : ∀ (a : Fin 1), shapeCast S32x1 (multiReduction .maximumf [1] S32 (absf bn) 0xFF800000#32 reduces_S32x128_S32 (.inl rfl) rfl) shapeCasts_S32_S32x1 (ix2 ρ a) = maxS fun l => bn (ix2 ρ l) := by
    intro a
    pointwise [maxS]
    rfl
  unfold mcnBlk mscBlk
  generalize shapeCast S32x1 (multiReduction .maximumf [1] S32 (absf bn) 0xFF800000#32 reduces_S32x128_S32 (.inl rfl) rfl) shapeCasts_S32_S32x1 = A at ha
  rw [← ha 0]
  pointwise [codeS, clipS, scaleS]
  rfl

/-- A clipped value has the same code whether it is rounded to 8 bits or to 32 and cut. -/
theorem clip_conv (x : EReal) (lo hi : EReal) (hlo : lo = ((-127 : ℝ) : EReal)) (hhi : hi = ((127 : ℝ) : EReal)) :
    BitVec.setWidth 8 (Ideal.fptosi 32 (min hi (max lo x))) = Ideal.fptosi 8 (min hi (max lo x)) := by
  subst hlo hhi
  obtain ⟨r, hr, h1, h2⟩ : ∃ r : ℝ, min ((127 : ℝ) : EReal) (max ((-127 : ℝ) : EReal) x) = (r : EReal) ∧ -127 ≤ r ∧ r ≤ 127 := by
    induction x with
    | bot => exact ⟨-127, by rw [max_eq_left bot_le, min_eq_right (by exact_mod_cast (by norm_num : (-127 : ℝ) ≤ 127))], le_refl _, by norm_num⟩
    | top => exact ⟨127, by rw [max_eq_right le_top, min_eq_left le_top], by norm_num, le_refl _⟩
    | coe r => exact ⟨min 127 (max (-127) r), by norm_cast, le_min (by norm_num) (le_max_left _ _), min_le_left _ _⟩
  rw [hr]
  unfold Ideal.fptosi
  rw [Ideal.toIntClamped_coe, Ideal.toIntClamped_coe]
  have hz : ∃ z : ℤ, (if 0 ≤ r then ⌊r⌋ else ⌈r⌉) = z ∧ -127 ≤ z ∧ z ≤ 127 := by
    refine ⟨_, rfl, ?_⟩
    split_ifs with h
    · exact ⟨le_trans (by norm_num) (Int.floor_nonneg.2 h), by exact_mod_cast (Int.floor_le r).trans h2⟩
    · refine ⟨by exact_mod_cast h1.trans (Int.le_ceil r), Int.ceil_le.2 (by exact_mod_cast h2)⟩
  obtain ⟨z, e, z1, z2⟩ := hz
  rw [e]
  have e32 : max (-((2 ^ (32 - 1) : ℕ) : ℤ)) (min (((2 ^ (32 - 1) : ℕ) : ℤ) - 1) z) = z := by norm_num; omega
  have e8 : max (-((2 ^ (8 - 1) : ℕ) : ℤ)) (min (((2 ^ (8 - 1) : ℕ) : ℤ) - 1) z) = z := by norm_num; omega
  rw [e32, e8]
  apply BitVec.eq_of_toInt_eq
  rw [BitVec.toInt_setWidth, BitVec.toInt_ofInt, BitVec.toNat_ofInt]
  simp only [Int.bmod_def]
  omega

theorem n127 : Ideal.ofBits .f32 0xC2FE0000#32 = (show EReal from ((-127 : ℝ) : EReal)) := by
  simp [Ideal.ofBits, Ideal.ieee, -EReal.coe_mul]; norm_num
theorem p127 : Ideal.ofBits .f32 0x42FE0000#32 = (show EReal from ((127 : ℝ) : EReal)) := by
  simp [Ideal.ofBits, Ideal.ieee, -EReal.coe_mul]; norm_num

section
variable (x0 : Vec Ideal S16 .f32) (x2 : Vec Ideal S16x128x1536 .i8) (x3 : Vec Ideal S16x24x128 .f32)
  (x6 : Vec Ideal S128x3072 .i8) (x7 : Vec Ideal S24x128 .f32)

/-- Lane `l` of the block that entry `y` of a row is in. -/
def inBlk (y : Fin 3072) (l : Fin 128) : Fin 3072 := ⟨128 * (y.val / 128) + l.val, by omega⟩

theorem inBlk_laneOf (k : Trip) (b : Fin 2) (l l' : Fin 128) : inBlk (laneOf k b l) l' = laneOf k b l' := by
  apply Fin.ext
  show 128 * ((256 * k.val + 128 * b.val + l.val) / 128) + l'.val = 256 * k.val + 128 * b.val + l'.val
  omega

/-- A strip's new momentum. -/
def momE (r : Fin 128) (y : Fin 3072) : EReal := momS (aggE x0 x2 x3 r y) (x7 (ix2 ⟨y.val / 128, by omega⟩ r)) (x6 (ix2 r y))

theorem momT_apply (h1 : ∀ i, ∃ r : ℝ, x0 i = (show EReal from (r : EReal))) (h4 : ∀ i, ∃ r : ℝ, x3 i = (show EReal from (r : EReal)))
    (k : Trip) (g : Fin 4) (b : Fin 2) (ρ : Fin 32) (l : Fin 128) :
    momT (F := Ideal) (diagV 0#32) (diagV 16#32) srcV oddV x2 x6 x7 (coefSpec x0 x3) k g b (ix2 ρ l) = momE x0 x2 x3 x6 x7 ⟨32 * g.val + ρ.val, by omega⟩ (laneOf k b l) := by
  unfold momE
  rw [← aggT_apply x0 x2 x3 h1 h4, ← sclT_apply x7, ← elt_apply (e := .i8) x6]
  rfl

theorem mcnSpec_apply (h1 : ∀ i, ∃ r : ℝ, x0 i = (show EReal from (r : EReal))) (h4 : ∀ i, ∃ r : ℝ, x3 i = (show EReal from (r : EReal)))
    (r : Fin 128) (y : Fin 3072) :
    mcnSpec x0 x2 x3 x6 x7 (ix2 r y) = codeS (momE x0 x2 x3 x6 x7 r y) (scaleS (maxS fun l => momE x0 x2 x3 x6 x7 r (inBlk y l))) := by
  refine blockTensor_eq (e := .i8) _ (fun r y => codeS (momE x0 x2 x3 x6 x7 r y) (scaleS (maxS fun l => momE x0 x2 x3 x6 x7 r (inBlk y l)))) (fun k g b ρ l => ?_) r y
  unfold mcnT
  rw [mcnBlk_apply]
  simp only [momT_apply x0 x2 x3 x6 x7 h1 h4, inBlk_laneOf]
end

end Cert.KernelIdeal.Hand

end
-- ==== Proof.ScaleValue.lean ====
/-
  One strip's scales over the extended reals, entry by entry.
-/
module

public import proofs.«01_k».proof.Proof.StripValue
public import proofs.«01_k».proof.Proof.Column

@[expose] public section

set_option maxRecDepth 16384

noncomputable section

namespace Cert.KernelIdeal.Hand

open Cert.KernelIdeal Cert.KernelIdeal.Gen
open Idealize.ShloMosaic

/-- Lane `l` of block `B` of a row. -/
def blkLane (B : Fin 24) (l : Fin 128) : Fin 3072 := ⟨128 * B.val + l.val, by omega⟩

/-- An aggregate's scale from a row's greatest magnitude: that, or one. -/
def ascS (a : EReal) : EReal :=
  Scalar.select (Scalar.cmpf (F := Ideal) (φ := .f32) .oeq a (Scalar.ofBits (F := Ideal) .f32 0x00000000#32)) (Scalar.ofBits (F := Ideal) .f32 0x3F800000#32) a

theorem spread_apply (s : FVec Ideal S32x1 .f32) (ρ : Fin 32) (l : Fin 128) : spread s (ix2 ρ l) = s (ix2 ρ 0) := by
  pointwise [spread]

theorem maxBlk_apply (bn : FVec Ideal S32x128 .f32) (ρ : Fin 32) (a : Fin 1) :
    shapeCast S32x1 (multiReduction .maximumf [1] S32 (absf bn) 0xFF800000#32 reduces_S32x128_S32 (.inl rfl) rfl) shapeCasts_S32_S32x1 (ix2 ρ a) = maxS fun l => bn (ix2 ρ l) := by
  pointwise [maxS]
  rfl

theorem mscBlk_apply (bn : FVec Ideal S32x128 .f32) (ρ : Fin 32) : mscBlk bn (ix2 ρ 0) = scaleS (maxS fun l => bn (ix2 ρ l)) := by
  rw [← maxBlk_apply bn ρ 0]
  rfl

theorem ascBlk_apply (d : FVec Ideal S32x128 .f32) (ρ : Fin 32) : ascBlk d (ix2 ρ 0) = ascS (maxS fun l => d (ix2 ρ l)) := by
  rw [← maxBlk_apply d ρ 0]
  rfl

theorem colTensor_eq (P : Trip → Fin 4 → Fin 2 → S32x128.Idx → Elt Ideal .f32) (Q : Fin 128 → (Fin 128 → Fin 3072) → EReal)
    (h : ∀ k g b (ρ : Fin 32) (l : Fin 128), P k g b (ix2 ρ l) = Q ⟨32 * g.val + ρ.val, by omega⟩ (laneOf k b)) (B : Fin 24) (r : Fin 128) :
    colTensor P (ix2 B r) = Q r (blkLane B) := by
  have hr := r.isLt; have hB := B.isLt
  have e := h ⟨B.val / 2, by have e : k0_t1_loop.trips = 12 := by decide +kernel
                             omega⟩ ⟨r.val / 32 % 4, Nat.mod_lt _ (by decide)⟩ ⟨B.val % 2, Nat.mod_lt _ (by decide)⟩ ⟨r.val % 32, Nat.mod_lt _ (by decide)⟩ ⟨B.val, by omega⟩
  refine Eq.trans ?_ (e.trans (congrArg₂ Q (Fin.ext ?_) (funext fun l => Fin.ext ?_)))
  · rfl
  · show 32 * (r.val / 32 % 4) + r.val % 32 = r.val; omega
  · show 256 * (B.val / 2) + 128 * (B.val % 2) + l.val = 128 * B.val + l.val; omega

section
variable (x0 : Vec Ideal S16 .f32) (x2 : Vec Ideal S16x128x1536 .i8) (x3 : Vec Ideal S16x24x128 .f32)
  (x6 : Vec Ideal S128x3072 .i8) (x7 : Vec Ideal S24x128 .f32)
  (h1 : ∀ i, ∃ r : ℝ, x0 i = (show EReal from (r : EReal))) (h4 : ∀ i, ∃ r : ℝ, x3 i = (show EReal from (r : EReal)))
include h1 h4

theorem ascSpec_apply (B : Fin 24) (r : Fin 128) :
    ascSpec x0 x2 x3 (ix2 B r) = ascS (maxS fun l => aggE x0 x2 x3 r (blkLane B l)) := by
  refine colTensor_eq _ (fun r y => ascS (maxS fun l => aggE x0 x2 x3 r (y l))) (fun k g b ρ l => ?_) B r
  unfold ascT
  rw [spread_apply, ascBlk_apply]
  simp only [aggT_apply x0 x2 x3 h1 h4]

theorem mscSpec_apply (B : Fin 24) (r : Fin 128) :
    mscSpec x0 x2 x3 x6 x7 (ix2 B r) = scaleS (maxS fun l => momE x0 x2 x3 x6 x7 r (blkLane B l)) := by
  refine colTensor_eq _ (fun r y => scaleS (maxS fun l => momE x0 x2 x3 x6 x7 r (y l))) (fun k g b ρ l => ?_) B r
  unfold mscT
  rw [spread_apply, mscBlk_apply]
  simp only [momT_apply x0 x2 x3 x6 x7 h1 h4]
end

end Cert.KernelIdeal.Hand

end
-- ==== Proof.KernelIdealValue.lean ====
/-
  What the five result arrays hold after the launch, entry by entry, over the extended reals.
-/
module

public import proofs.«01_k».proof.Proof.KernelIdealFrame
public import proofs.«01_k».proof.Proof.Windows
public import proofs.«01_k».proof.Proof.StripValue
public import proofs.«01_k».proof.Proof.ScaleValue

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- The aggregate of a row of the arrays, -/
def aggRow (A0 : Vec Ideal S16x7808x1536 .i8) (A1 : Vec Ideal S16x7808x24 .f32) (A2 : Vec Ideal S16 .f32) (R : Fin 7808) (y : Fin 3072) : EReal :=
  ∑ W : Fin 16, (show EReal from A1 (ix3 W R ⟨y.val / 128, by omega⟩)) * (show EReal from A2 (ix1 W)) * nibE (decide (y.val % 2 = 1)) (A0 (ix3 W R ⟨y.val / 2, by omega⟩))

/-- the outer step's array, -/
def outArr : Vec Ideal S7808x3072 .f32 := fun i =>
  outS (m ((c.tc : Thread nD τ).loc main_arg7) ix0)
    (aggRow (m ((c.tc : Thread nD τ).loc main_arg0)) (m ((c.tc : Thread nD τ).loc main_arg1)) (m ((c.tc : Thread nD τ).loc main_arg2)) (i 0) (i 1))
    (m ((c.tc : Thread nD τ).loc main_arg6) (ix2 (i 0) ⟨(i 1).val / 128, by have : (i 1).val < 3072 := (i 1).isLt; show _ < 24; omega⟩))
    (m ((c.tc : Thread nD τ).loc main_arg5) i) (m ((c.tc : Thread nD τ).loc main_arg3) i)
/-- the merge's, -/
def mrgArr : Vec Ideal S7808x3072 .f32 := fun i =>
  mrgS (m ((c.tc : Thread nD τ).loc main_arg7) ix0)
    (aggRow (m ((c.tc : Thread nD τ).loc main_arg0)) (m ((c.tc : Thread nD τ).loc main_arg1)) (m ((c.tc : Thread nD τ).loc main_arg2)) (i 0) (i 1))
    (m ((c.tc : Thread nD τ).loc main_arg6) (ix2 (i 0) ⟨(i 1).val / 128, by have : (i 1).val < 3072 := (i 1).isLt; show _ < 24; omega⟩))
    (m ((c.tc : Thread nD τ).loc main_arg5) i) (m ((c.tc : Thread nD τ).loc main_arg3) i) (m ((c.tc : Thread nD τ).loc main_arg4) i)

/-- a row's new momentum, -/
def momRow (R : Fin 7808) (y : Fin 3072) : EReal :=
  momS (aggRow (m ((c.tc : Thread nD τ).loc main_arg0)) (m ((c.tc : Thread nD τ).loc main_arg1)) (m ((c.tc : Thread nD τ).loc main_arg2)) R y)
    (m ((c.tc : Thread nD τ).loc main_arg6) (ix2 R ⟨y.val / 128, by omega⟩)) (m ((c.tc : Thread nD τ).loc main_arg5) (ix2 R y))
/-- its codes' array, -/
def mcnArr : Vec Ideal S7808x3072 .i8 := fun i =>
  codeS (momRow m c (i 0) (i 1)) (scaleS (maxS fun l => momRow m c (i 0) (inBlk (i 1) l)))
/-- its scales', -/
def mscArr : Vec Ideal S24x7808 .f32 := fun i => scaleS (maxS fun l => momRow m c (i 1) (blkLane (i 0) l))
/-- and the aggregate's scales'. -/
def ascArr : Vec Ideal S24x7808 .f32 := fun i =>
  ascS (maxS fun l => aggRow (m ((c.tc : Thread nD τ).loc main_arg0)) (m ((c.tc : Thread nD τ).loc main_arg1)) (m ((c.tc : Thread nD τ).loc main_arg2)) (i 1) (blkLane (i 0) l))

/-- The aggregate of a staged block's row is that of the arrays' row. -/
theorem aggE_block (t : Fin cfg0.N) (r : Fin 128) (y : Fin 3072) :
    aggE (iblk m c 0 t) (iblk m c 2 t) (iblk m c 3 t) r y
      = aggRow (m ((c.tc : Thread nD τ).loc main_arg0)) (m ((c.tc : Thread nD τ).loc main_arg1)) (m ((c.tc : Thread nD τ).loc main_arg2)) (rowOf t r) y := by
  unfold aggE aggRow
  refine Finset.sum_congr rfl fun W _ => ?_
  rw [iblk0_apply, iblk2_apply, iblk3_apply]

section
variable (hs : ∀ i, ∃ r : ℝ, m ((c.tc : Thread nD τ).loc main_arg1) i = (show EReal from (r : EReal)))
  (hw : ∀ i, ∃ r : ℝ, m ((c.tc : Thread nD τ).loc main_arg2) i = (show EReal from (r : EReal)))
include hs hw

theorem real0 (t : Fin cfg0.N) (i : S16.Idx) : ∃ r : ℝ, iblk m c 0 t i = (show EReal from (r : EReal)) := by
  obtain ⟨W, rfl⟩ : ∃ W, i = ix1 W := ⟨i 0, funext fun a => by fin_cases a; rfl⟩
  obtain ⟨r, e⟩ := hw (ix1 W)
  exact ⟨r, (iblk0_apply m c t W).trans e⟩

theorem real3 (t : Fin cfg0.N) (i : S16x24x128.Idx) : ∃ r : ℝ, iblk m c 3 t i = (show EReal from (r : EReal)) := by
  obtain ⟨W, B, q, rfl⟩ : ∃ W B q, i = ix3 W B q := ⟨i 0, i 1, i 2, funext fun a => by fin_cases a <;> rfl⟩
  obtain ⟨r, e⟩ := hs (ix3 W (rowOf t q) B)
  exact ⟨r, (iblk3_apply m c t W B q).trans e⟩

theorem outSpec_block (t : Fin cfg0.N) (r : Fin 128) (y : Fin 3072) :
    outSpec (iblk m c 0 t) (iblk m c 1 t) (iblk m c 2 t) (iblk m c 3 t) (iblk m c 4 t) (iblk m c 6 t) (iblk m c 7 t) (ix2 r y) = outArr m c (ix2 (rowOf t r) y) := by
  rw [outSpec_apply _ _ _ _ _ _ _ (real0 m c hs hw t) (real3 m c hs hw t), aggE_block, iblk1_apply, iblk4_apply, iblk6_apply, iblk7_apply]
  rfl

theorem mrgSpec_block (t : Fin cfg0.N) (r : Fin 128) (y : Fin 3072) :
    mrgSpec (iblk m c 0 t) (iblk m c 1 t) (iblk m c 2 t) (iblk m c 3 t) (iblk m c 4 t) (iblk m c 5 t) (iblk m c 6 t) (iblk m c 7 t) (ix2 r y) = mrgArr m c (ix2 (rowOf t r) y) := by
  rw [mrgSpec_apply _ _ _ _ _ _ _ _ (real0 m c hs hw t) (real3 m c hs hw t), aggE_block, iblk1_apply, iblk4_apply, iblk5_apply, iblk6_apply, iblk7_apply]
  rfl

theorem ascSpec_block (t : Fin cfg0.N) (B : Fin 24) (r : Fin 128) :
    ascSpec (iblk m c 0 t) (iblk m c 2 t) (iblk m c 3 t) (ix2 B r) = ascArr m c (ix2 B (rowOf t r)) := by
  rw [ascSpec_apply _ _ _ (real0 m c hs hw t) (real3 m c hs hw t)]
  simp only [aggE_block]
  rfl

theorem mscSpec_block (t : Fin cfg0.N) (B : Fin 24) (r : Fin 128) :
    mscSpec (iblk m c 0 t) (iblk m c 2 t) (iblk m c 3 t) (iblk m c 6 t) (iblk m c 7 t) (ix2 B r) = mscArr m c (ix2 B (rowOf t r)) := by
  have e : ∀ y, momE (iblk m c 0 t) (iblk m c 2 t) (iblk m c 3 t) (iblk m c 6 t) (iblk m c 7 t) r y = momRow m c (rowOf t r) y := by
    intro y
    unfold momE momRow
    rw [aggE_block, iblk6_apply, iblk7_apply]
  rw [mscSpec_apply _ _ _ _ _ (real0 m c hs hw t) (real3 m c hs hw t)]
  simp only [e]
  rfl

theorem mcnSpec_block (t : Fin cfg0.N) (r : Fin 128) (y : Fin 3072) :
    mcnSpec (iblk m c 0 t) (iblk m c 2 t) (iblk m c 3 t) (iblk m c 6 t) (iblk m c 7 t) (ix2 r y) = mcnArr m c (ix2 (rowOf t r) y) := by
  have e : ∀ y, momE (iblk m c 0 t) (iblk m c 2 t) (iblk m c 3 t) (iblk m c 6 t) (iblk m c 7 t) r y = momRow m c (rowOf t r) y := by
    intro y
    unfold momE momRow
    rw [aggE_block, iblk6_apply, iblk7_apply]
  rw [mcnSpec_apply _ _ _ _ _ (real0 m c hs hw t) (real3 m c hs hw t)]
  simp only [e]
  rfl

theorem arr12 : (dats m 0 c).arrAt 12 cfg0.N = outArr m c := by
  refine (dats m 0 c).arrAt_eq_of_covers 12 _ (by decide +kernel) fun t hf y => ?_
  rw [after0_12]
  obtain ⟨r, q, rfl⟩ : ∃ (r : Fin 128) (q : Fin 3072), y = ix2 r q := ⟨y 0, y 1, funext fun a => by fin_cases a <;> rfl⟩
  have e : ((cfg0.win 12).blk t).view.emb (ix2 r q) = ix2 (rowOf t r) q := by blk_ext [idx t]
  rw [e]
  refine Eq.trans ?_ (outSpec_block m c hs hw t r q)
  blk_simp

theorem arr13 : (dats m 0 c).arrAt 13 cfg0.N = mrgArr m c := by
  refine (dats m 0 c).arrAt_eq_of_covers 13 _ (by decide +kernel) fun t hf y => ?_
  rw [after0_13]
  obtain ⟨r, q, rfl⟩ : ∃ (r : Fin 128) (q : Fin 3072), y = ix2 r q := ⟨y 0, y 1, funext fun a => by fin_cases a <;> rfl⟩
  have e : ((cfg0.win 13).blk t).view.emb (ix2 r q) = ix2 (rowOf t r) q := by blk_ext [idx t]
  rw [e]
  refine Eq.trans ?_ (mrgSpec_block m c hs hw t r q)
  blk_simp

theorem arr24 : (dats m 0 c).arrAt 24 cfg0.N = mcnArr m c := by
  refine (dats m 0 c).arrAt_eq_of_covers 24 _ (by decide +kernel) fun t hf y => ?_
  rw [after0_24]
  obtain ⟨r, q, rfl⟩ : ∃ (r : Fin 128) (q : Fin 3072), y = ix2 r q := ⟨y 0, y 1, funext fun a => by fin_cases a <;> rfl⟩
  have e : ((cfg0.win 24).blk t).view.emb (ix2 r q) = ix2 (rowOf t r) q := by blk_ext [idx t]
  rw [e]
  refine Eq.trans ?_ (mcnSpec_block m c hs hw t r q)
  blk_simp

theorem arr23 : (dats m 0 c).arrAt 23 cfg0.N = ascArr m c := by
  refine (dats m 0 c).arrAt_eq_of_covers 23 _ (by decide +kernel) fun t hf y => ?_
  rw [after0_23]
  obtain ⟨B, r, rfl⟩ : ∃ (B : Fin 24) (r : Fin 128), y = ix2 B r := ⟨y 0, y 1, funext fun a => by fin_cases a <;> rfl⟩
  have e : ((cfg0.win 23).blk t).view.emb (ix2 B r) = ix2 B (rowOf t r) := by blk_ext [idx t]
  rw [e]
  refine Eq.trans ?_ (ascSpec_block m c hs hw t B r)
  blk_simp

theorem arr25 : (dats m 0 c).arrAt 25 cfg0.N = mscArr m c := by
  refine (dats m 0 c).arrAt_eq_of_covers 25 _ (by decide +kernel) fun t hf y => ?_
  rw [after0_25]
  obtain ⟨B, r, rfl⟩ : ∃ (B : Fin 24) (r : Fin 128), y = ix2 B r := ⟨y 0, y 1, funext fun a => by fin_cases a <;> rfl⟩
  have e : ((cfg0.win 25).blk t).view.emb (ix2 B r) = ix2 B (rowOf t r) := by blk_ext [idx t]
  rw [e]
  refine Eq.trans ?_ (mscSpec_block m c hs hw t B r)
  blk_simp
end

end Cert.KernelIdeal.Hand

end
-- ==== Proof.ReferenceValue.lean ====
/-
  What the reference computes, entry by entry, over the extended reals.
-/
module

public import proofs.«01_k».proof.Proof.Gen.ReferenceIdeal.Run
public import proofs.«01_k».proof.Proof.ScaleValue
public import Idealize.ShloMosaic.Lib.Pipeline.Value

@[expose] public section

set_option maxRecDepth 16384

noncomputable section

namespace Cert.ReferenceIdeal.Hand

open Cert.ReferenceIdeal Cert.ReferenceIdeal.Gen
open Idealize.ShloMosaic Idealize.ShloMosaic.TcCoe
open Cert.KernelIdeal.Hand (nibVal nibOf nibE wideBits wide_val wide_even wide_odd momS outS mrgS maxS scaleS clipS codeS inBlk ascS blkLane clip_conv n127 p127)

section
variable {F : FTy → Type} [FloatOps F]
variable (A0 : Vec F S16x7808x1536 .i8) (A1 : Vec F S16x7808x24 .f32) (A2 : Vec F S16 .f32) (A3 : Vec F S7808x3072 .f32)
  (A4 : Vec F S7808x3072 .bf16) (A5 : Vec F S7808x3072 .i8) (A6 : Vec F S7808x24 .f32) (A7 : Vec F S_ .f32)

/-- One nibble of every byte, as a float. -/
def nibF (s : BitVec 32) : FVec F S16x7808x24x64 .f32 :=
  bitcastToFloat (F := F) .f32 (andi (Host.shrsi (Host.shli (shapeCast _ (extui 32 A0 natLt_8_32) shapeCasts_S16x7808x1536_S16x7808x24x64) (broadcastInDim S16x7808x24x64 ![] bcast_S_S16x7808x24x64 (constantI S_ 32 s))) (broadcastInDim S16x7808x24x64 ![] bcast_S_S16x7808x24x64 (constantI S_ 32 5#32))) (broadcastInDim S16x7808x24x64 ![] bcast_S_S16x7808x24x64 (constantI S_ 32 2206203904#32)))
/-- The workers' coefficients, -/
def coefF : FVec F S16x7808x24x64 .f32 :=
  broadcastInDim S16x7808x24x64 ![0, 1, 2, 3] bcast_S16x7808x24x1_S16x7808x24x64_0_1_2_3 (broadcastInDim S16x7808x24x1 ![0, 1, 2] bcast_S16x7808x24_S16x7808x24x1_0_1_2 (mulf (mulf (broadcastInDim S16x7808x24 ![0, 1, 2] bcast_S16x1x1_S16x7808x24_0_1_2 (broadcastInDim S16x1x1 ![0] bcast_S16_S16x1x1_0 A2)) A1) (broadcastInDim S16x7808x24 ![] bcast_S_S16x7808x24 (constant S_ .f32 0x5D800000#32))))
/-- the aggregate of one nibble of every byte, -/
def halfF (s : BitVec 32) : FVec F S7808x24x64 .f32 :=
  mulf (Host.reduceAdd (mulf (nibF A0 s) (coefF A1 A2)) (constant S_ .f32 0x00000000#32) reducesTo_S16x7808x24x64_S7808x24x64_d0 h_S_) (broadcastInDim S7808x24x64 ![] bcast_S_S7808x24x64 (constant S_ .f32 0x5D800000#32))
/-- of both, -/
def aggF : FVec F S7808x3072 .f32 :=
  shapeCast _ (concatenate S7808x24x64x2 3 [⟨S7808x24x64x1, (broadcastInDim S7808x24x64x1 ![0, 1, 2] bcast_S7808x24x64_S7808x24x64x1_0_1_2 (halfF A0 A1 A2 28#32))⟩, ⟨S7808x24x64x1, (broadcastInDim S7808x24x64x1 ![0, 1, 2] bcast_S7808x24x64_S7808x24x64x1_0_1_2 (halfF A0 A1 A2 24#32))⟩] concatenates_S7808x24x64x1_S7808x24x64x1_S7808x24x64x2_d3) shapeCasts_S7808x24x64x2_S7808x3072
/-- the stored momentum, -/
def oldF : FVec F S7808x3072 .f32 :=
  shapeCast _ (mulf (shapeCast _ (sitofp .f32 (extsi 32 A5 natLt_8_32)) shapeCasts_S7808x3072_S7808x24x128) (broadcastInDim S7808x24x128 ![0, 1, 2] bcast_S7808x24x1_S7808x24x128_0_1_2 (broadcastInDim S7808x24x1 ![0, 1] bcast_S7808x24_S7808x24x1_0_1 A6))) shapeCasts_S7808x24x128_S7808x3072
/-- the new momentum, -/
def newF (d old : FVec F S7808x3072 .f32) : FVec F S7808x3072 .f32 :=
  addf (mulf (broadcastInDim S7808x3072 ![] bcast_S_S7808x3072 (constant S_ .f32 0x3F666666#32)) old) d
/-- the greatest magnitude of every block, -/
def maxF (b : FVec F S7808x3072 .f32) : FVec F S7808x24 .f32 :=
  Host.reduce FloatOps.maximumf (Host.absf (shapeCast _ b shapeCasts_S7808x3072_S7808x24x128)) (constant S_ .f32 0xFF800000#32) reducesTo_S7808x24x128_S7808x24_d2 h_S_
/-- its scale, -/
def scaleF (a : FVec F S7808x24 .f32) : FVec F S7808x24 .f32 :=
  select (cmpf .oeq a (broadcastInDim S7808x24 ![] bcast_S_S7808x24 (constant S_ .f32 0x00000000#32))) (broadcastInDim S7808x24 ![] bcast_S_S7808x24 (id (constant S_ .f32 0x3F800000#32))) (Host.divf a (broadcastInDim S7808x24 ![] bcast_S_S7808x24 (constant S_ .f32 0x42FE0000#32)))
/-- the scale the aggregate's encoding returns: that magnitude, or one, -/
def ascF (a : FVec F S7808x24 .f32) : FVec F S7808x24 .f32 :=
  select (cmpf .oeq a (broadcastInDim S7808x24 ![] bcast_S_S7808x24 (constant S_ .f32 0x00000000#32))) (broadcastInDim S7808x24 ![] bcast_S_S7808x24 (id (constant S_ .f32 0x3F800000#32))) a
/-- scales with a block to a row, -/
def turnF (a : FVec F S7808x24 .f32) : FVec F S24x7808 .f32 := transpose S24x7808 [1, 0] a transposes_S7808x24_S24x7808_1_0
/-- an array's entries rounded over their blocks' scales and clipped, -/
def clipF (b : FVec F S7808x3072 .f32) (s : FVec F S7808x24 .f32) : FVec F S7808x24x128 .f32 :=
  minimumf (broadcastInDim S7808x24x128 ![] bcast_S_S7808x24x128 (id (constant S_ .f32 0x42FE0000#32))) (maximumf (broadcastInDim S7808x24x128 ![] bcast_S_S7808x24x128 (id (constant S_ .f32 0xC2FE0000#32))) (Host.roundeven (Host.divf (shapeCast _ b shapeCasts_S7808x3072_S7808x24x128) (broadcastInDim S7808x24x128 ![0, 1, 2] bcast_S7808x24x1_S7808x24x128_0_1_2 (broadcastInDim S7808x24x1 ![0, 1] bcast_S7808x24_S7808x24x1_0_1 s)))))
/-- their codes, -/
def codesF (x : FVec F S7808x24x128 .f32) : IVec S7808x3072 8 :=
  shapeCast _ (trunci 8 (fptosi 32 x) natLt_8_32) shapeCasts_S7808x24x128_S7808x3072
/-- the outer step, -/
def stepF (d old : FVec F S7808x3072 .f32) : FVec F S7808x3072 .f32 :=
  subf A3 (mulf (broadcastInDim S7808x3072 ![] bcast_S_S7808x3072 A7) (addf d (mulf (broadcastInDim S7808x3072 ![] bcast_S_S7808x3072 (constant S_ .f32 0x3F666666#32)) (addf (mulf (broadcastInDim S7808x3072 ![] bcast_S_S7808x3072 (constant S_ .f32 0x3F666666#32)) old) d))))
/-- and the merge. -/
def mergeF (o : FVec F S7808x3072 .f32) : FVec F S7808x3072 .f32 :=
  addf (mulf (broadcastInDim S7808x3072 ![] bcast_S_S7808x3072 (constant S_ .f32 0x3F000000#32)) (extf .f32 A4 bitsLt_bf16_f32)) (mulf (broadcastInDim S7808x3072 ![] bcast_S_S7808x3072 (constant S_ .f32 0x3F000000#32)) o)
end

section
variable {F : FTy → Type} [FloatOps F] (m : (ℓ : Loc nD τ sig) → Buf (Elt F) ℓ) (c : Dev nD)

theorem res_main_v51_eq : Value.res_main_v51 m c
    = stepF (m ((c.tc : Thread nD τ).loc main_arg3)) (m ((c.tc : Thread nD τ).loc main_arg7))
        (aggF (m ((c.tc : Thread nD τ).loc main_arg0)) (m ((c.tc : Thread nD τ).loc main_arg1)) (m ((c.tc : Thread nD τ).loc main_arg2)))
        (oldF (m ((c.tc : Thread nD τ).loc main_arg5)) (m ((c.tc : Thread nD τ).loc main_arg6))) := rfl

theorem res_main_v57_eq : Value.res_main_v57 m c
    = mergeF (m ((c.tc : Thread nD τ).loc main_arg4)) (stepF (m ((c.tc : Thread nD τ).loc main_arg3)) (m ((c.tc : Thread nD τ).loc main_arg7))
        (aggF (m ((c.tc : Thread nD τ).loc main_arg0)) (m ((c.tc : Thread nD τ).loc main_arg1)) (m ((c.tc : Thread nD τ).loc main_arg2)))
        (oldF (m ((c.tc : Thread nD τ).loc main_arg5)) (m ((c.tc : Thread nD τ).loc main_arg6)))) := rfl

theorem res_main_v79_eq : Value.res_main_v79 m c
    = (let b := newF (aggF (m ((c.tc : Thread nD τ).loc main_arg0)) (m ((c.tc : Thread nD τ).loc main_arg1)) (m ((c.tc : Thread nD τ).loc main_arg2)))
        (oldF (m ((c.tc : Thread nD τ).loc main_arg5)) (m ((c.tc : Thread nD τ).loc main_arg6)));
      codesF (clipF b (scaleF (maxF b)))) := rfl

theorem res_main_v80_eq : Value.res_main_v80 m c
    = turnF (ascF (maxF (aggF (m ((c.tc : Thread nD τ).loc main_arg0)) (m ((c.tc : Thread nD τ).loc main_arg1)) (m ((c.tc : Thread nD τ).loc main_arg2))))) := rfl

theorem res_main_v81_eq : Value.res_main_v81 m c
    = turnF (scaleF (maxF (newF (aggF (m ((c.tc : Thread nD τ).loc main_arg0)) (m ((c.tc : Thread nD τ).loc main_arg1)) (m ((c.tc : Thread nD τ).loc main_arg2)))
        (oldF (m ((c.tc : Thread nD τ).loc main_arg5)) (m ((c.tc : Thread nD τ).loc main_arg6)))))) := rfl
end

section
variable (A0 : Vec Ideal S16x7808x1536 .i8) (A1 : Vec Ideal S16x7808x24 .f32) (A2 : Vec Ideal S16 .f32) (A3 : Vec Ideal S7808x3072 .f32)
  (A4 : Vec Ideal S7808x3072 .bf16) (A5 : Vec Ideal S7808x3072 .i8) (A6 : Vec Ideal S7808x24 .f32) (A7 : Vec Ideal S_ .f32)

theorem nibF_even (W : Fin 16) (R : Fin 7808) (B : Fin 24) (j : Fin 64) :
    nibF (F := Ideal) A0 28#32 (ix4 W R B j) = (show EReal from ((nibVal (nibOf false (A0 (ix3 W R ⟨64 * B.val + j.val, by omega⟩))) * (2 ^ 120)⁻¹ : ℝ) : EReal)) := by
  rw [← wide_val, ← wide_even]
  pointwise [nibF]
  simp only [Nat.mul_comm B.val 64]
  rfl

theorem nibF_odd (W : Fin 16) (R : Fin 7808) (B : Fin 24) (j : Fin 64) :
    nibF (F := Ideal) A0 24#32 (ix4 W R B j) = (show EReal from ((nibVal (nibOf true (A0 (ix3 W R ⟨64 * B.val + j.val, by omega⟩))) * (2 ^ 120)⁻¹ : ℝ) : EReal)) := by
  rw [← wide_val, ← wide_odd]
  pointwise [nibF]
  simp only [Nat.mul_comm B.val 64]
  rfl

theorem big_val : Ideal.ofBits .f32 0x5D800000#32 = (show EReal from ((2 ^ 60 : ℝ) : EReal)) := by
  rw [show (2 : ℝ) ^ 60 = 1152921504606846976 by norm_num]
  simp [Ideal.ofBits, Ideal.ieee, -EReal.coe_mul]; norm_num

theorem coefF_apply (W : Fin 16) (R : Fin 7808) (B : Fin 24) (j : Fin 64) :
    coefF (F := Ideal) A1 A2 (ix4 W R B j) = (show EReal from A2 (ix1 W)) * (show EReal from A1 (ix3 W R B)) * Ideal.ofBits .f32 0x5D800000#32 := by
  pointwise [coefF]

theorem halfF_sum (s : BitVec 32) (R : Fin 7808) (B : Fin 24) (j : Fin 64) :
    halfF (F := Ideal) A0 A1 A2 s (ix3 R B j)
      = (∑ W : Fin 16, (show EReal from nibF (F := Ideal) A0 s (ix4 W R B j)) * (show EReal from coefF (F := Ideal) A1 A2 (ix4 W R B j))) * Ideal.ofBits .f32 0x5D800000#32 := by
  unfold halfF
  generalize nibF (F := Ideal) A0 s = N
  generalize coefF (F := Ideal) A1 A2 = C
  pointwise

theorem sum_coe (f : Fin 16 → ℝ) (s : Finset (Fin 16)) : ∑ W ∈ s, ((f W : ℝ) : EReal) = ((∑ W ∈ s, f W : ℝ) : EReal) :=
  Finset.induction_on s (by simp) (fun a s ha ih => by rw [Finset.sum_insert ha, Finset.sum_insert ha, EReal.coe_add, ih])

/-- The powers of two put into the sum and taken out of it cancel, the scales and the weights being real. -/
theorem sum_scaled (n a b : Fin 16 → ℝ) :
    (∑ W : Fin 16, ((n W * (2 ^ 120)⁻¹ : ℝ) : EReal) * (((b W : ℝ) : EReal) * ((a W : ℝ) : EReal) * ((2 ^ 60 : ℝ) : EReal))) * ((2 ^ 60 : ℝ) : EReal)
      = ∑ W : Fin 16, ((a W : ℝ) : EReal) * ((b W : ℝ) : EReal) * ((n W : ℝ) : EReal) := by
  simp only [← EReal.coe_mul, sum_coe]
  refine congrArg _ ?_
  rw [Finset.sum_mul]
  refine Finset.sum_congr rfl fun W _ => ?_
  have h : (2 : ℝ) ^ 120 = 2 ^ 60 * 2 ^ 60 := by norm_num
  have h0 : (2 : ℝ) ^ 60 ≠ 0 := by positivity
  rw [h]
  generalize (2 : ℝ) ^ 60 = p at h0
  field_simp

section
variable (h1 : ∀ i, ∃ r : ℝ, A1 i = (show EReal from (r : EReal))) (h2 : ∀ i, ∃ r : ℝ, A2 i = (show EReal from (r : EReal)))
include h1 h2

theorem halfF_apply (s : BitVec 32) (o : Bool)
    (hs : ∀ (W : Fin 16) (R : Fin 7808) (B : Fin 24) (j : Fin 64), nibF (F := Ideal) A0 s (ix4 W R B j)
      = (show EReal from ((nibVal (nibOf o (A0 (ix3 W R ⟨64 * B.val + j.val, by omega⟩))) * (2 ^ 120)⁻¹ : ℝ) : EReal)))
    (R : Fin 7808) (B : Fin 24) (j : Fin 64) :
    halfF (F := Ideal) A0 A1 A2 s (ix3 R B j)
      = ∑ W : Fin 16, (show EReal from A1 (ix3 W R B)) * (show EReal from A2 (ix1 W)) * nibE o (A0 (ix3 W R ⟨64 * B.val + j.val, by omega⟩)) := by
  rw [halfF_sum, big_val]
  choose a ha using h1
  choose b hb using h2
  simp only [hs, coefF_apply, big_val, ha, hb]
  exact sum_scaled (fun W => nibVal (nibOf o (A0 (ix3 W R ⟨64 * B.val + j.val, by omega⟩)))) (fun W => a (ix3 W R B)) (fun W => b (ix1 W))

theorem aggF_apply (R : Fin 7808) (y : Fin 3072) :
    aggF (F := Ideal) A0 A1 A2 (ix2 R y)
      = ∑ W : Fin 16, (show EReal from A1 (ix3 W R ⟨y.val / 128, by omega⟩)) * (show EReal from A2 (ix1 W)) * nibE (decide (y.val % 2 = 1)) (A0 (ix3 W R ⟨y.val / 2, by omega⟩)) := by
  have hy := y.isLt
  have e0 := halfF_apply A0 A1 A2 h1 h2 28#32 false (nibF_even A0) R ⟨y.val / 128, by omega⟩ ⟨y.val % 128 / 2, by omega⟩
  have e1 := halfF_apply A0 A1 A2 h1 h2 24#32 true (nibF_odd A0) R ⟨y.val / 128, by omega⟩ ⟨y.val % 128 / 2, by omega⟩
  have hi : (⟨64 * (y.val / 128) + y.val % 128 / 2, by omega⟩ : Fin 1536) = ⟨y.val / 2, by omega⟩ := Fin.ext (by show 64 * (y.val / 128) + y.val % 128 / 2 = y.val / 2; omega)
  simp only [hi] at e0 e1
  unfold aggF
  generalize halfF (F := Ideal) A0 A1 A2 28#32 = H0 at e0
  generalize halfF (F := Ideal) A0 A1 A2 24#32 = H1 at e1
  have hc : shapeCast S7808x3072 (concatenate S7808x24x64x2 3 [⟨S7808x24x64x1, (broadcastInDim S7808x24x64x1 ![0, 1, 2] bcast_S7808x24x64_S7808x24x64x1_0_1_2 H0)⟩, ⟨S7808x24x64x1, (broadcastInDim S7808x24x64x1 ![0, 1, 2] bcast_S7808x24x64_S7808x24x64x1_0_1_2 H1)⟩] concatenates_S7808x24x64x1_S7808x24x64x1_S7808x24x64x2_d3) shapeCasts_S7808x24x64x2_S7808x3072 (ix2 R y)
      = if y.val % 2 = 1 then H1 (ix3 R ⟨y.val / 128, by omega⟩ ⟨y.val % 128 / 2, by omega⟩) else H0 (ix3 R ⟨y.val / 128, by omega⟩ ⟨y.val % 128 / 2, by omega⟩) := by
    have hj : (⟨y.val / 2 % 64, by omega⟩ : Fin 64) = ⟨y.val % 128 / 2, by omega⟩ := Fin.ext (by show y.val / 2 % 64 = y.val % 128 / 2; omega)
    pointwise
    simp only [hj]
    by_cases h : y.val % 2 = 1
    · rw [dif_neg (by omega), if_pos h]
    · rw [dif_pos (by omega), if_neg h]
  refine hc.trans ?_
  by_cases h : y.val % 2 = 1
  · rw [if_pos h, show decide (y.val % 2 = 1) = true from decide_eq_true h]
    exact e1
  · rw [if_neg h, show decide (y.val % 2 = 1) = false from decide_eq_false h]
    exact e0
end

theorem oldF_apply (R : Fin 7808) (y : Fin 3072) :
    oldF (F := Ideal) A5 A6 (ix2 R y) = (show EReal from Scalar.sitofp (F := Ideal) .f32 (A5 (ix2 R y))) * (show EReal from A6 (ix2 R ⟨y.val / 128, by omega⟩)) := by
  have e : (show EReal from FloatOps.sitofp (F := Ideal) .f32 (BitVec.signExtend 32 (A5 (ix2 R y)))) = FloatOps.sitofp (F := Ideal) .f32 (A5 (ix2 R y)) := by
    show (((BitVec.signExtend 32 (A5 (ix2 R y))).toInt : ℝ) : EReal) = (((A5 (ix2 R y)).toInt : ℝ) : EReal)
    rw [BitVec.toInt_signExtend_of_le (by decide)]
  refine Eq.trans ?_ (congrArg (· * (show EReal from A6 (ix2 R ⟨y.val / 128, by omega⟩))) e)
  pointwise [oldF]

theorem stepF_apply (d old : FVec Ideal S7808x3072 .f32) (R : Fin 7808) (y : Fin 3072) (s : EReal)
    (hold : old (ix2 R y) = (show EReal from Scalar.sitofp (F := Ideal) .f32 (A5 (ix2 R y))) * s) :
    stepF (F := Ideal) A3 A7 d old (ix2 R y) = outS (A7 ix0) (d (ix2 R y)) s (A5 (ix2 R y)) (A3 (ix2 R y)) := by
  unfold outS momS
  rw [← hold]
  pointwise [stepF]

theorem mergeF_apply (o : FVec Ideal S7808x3072 .f32) (x : S7808x3072.Idx) :
    mergeF (F := Ideal) A4 o x = (show EReal from Scalar.ofBits (F := Ideal) .f32 0x3F000000#32) * (show EReal from A4 x) + (show EReal from Scalar.ofBits (F := Ideal) .f32 0x3F000000#32) * (show EReal from o x) := rfl

theorem newF_apply (d old : FVec Ideal S7808x3072 .f32) (R : Fin 7808) (y : Fin 3072) (s : EReal)
    (hold : old (ix2 R y) = (show EReal from Scalar.sitofp (F := Ideal) .f32 (A5 (ix2 R y))) * s) :
    newF (F := Ideal) d old (ix2 R y) = momS (d (ix2 R y)) s (A5 (ix2 R y)) := by
  unfold momS
  rw [← hold]
  rfl

theorem maxF_apply (b : FVec Ideal S7808x3072 .f32) (R : Fin 7808) (B : Fin 24) :
    maxF (F := Ideal) b (ix2 R B) = maxS fun l => b (ix2 R ⟨128 * B.val + l.val, by omega⟩) := by
  pointwise [maxF, maxS]
  simp only [Nat.mul_comm B.val 128]
  rfl

theorem scaleF_apply (a : FVec Ideal S7808x24 .f32) (i : S7808x24.Idx) : scaleF (F := Ideal) a i = scaleS (a i) := rfl

theorem ascF_apply (a : FVec Ideal S7808x24 .f32) (i : S7808x24.Idx) : ascF (F := Ideal) a i = ascS (a i) := rfl

theorem turnF_apply (a : FVec Ideal S7808x24 .f32) (B : Fin 24) (R : Fin 7808) : turnF (F := Ideal) a (ix2 B R) = a (ix2 R B) := by
  pointwise [turnF]

theorem ascT_apply (b : FVec Ideal S7808x3072 .f32) (B : Fin 24) (R : Fin 7808) :
    turnF (F := Ideal) (ascF (maxF b)) (ix2 B R) = ascS (maxS fun l => b (ix2 R (blkLane B l))) := by
  rw [turnF_apply, ascF_apply, maxF_apply]
  rfl

theorem scaleT_apply (b : FVec Ideal S7808x3072 .f32) (B : Fin 24) (R : Fin 7808) :
    turnF (F := Ideal) (scaleF (maxF b)) (ix2 B R) = scaleS (maxS fun l => b (ix2 R (blkLane B l))) := by
  rw [turnF_apply, scaleF_apply, maxF_apply]
  rfl

theorem clipF_apply (b : FVec Ideal S7808x3072 .f32) (s : FVec Ideal S7808x24 .f32) (R : Fin 7808) (B : Fin 24) (l : Fin 128) :
    clipF (F := Ideal) b s (ix3 R B l) = clipS (b (ix2 R ⟨128 * B.val + l.val, by omega⟩)) (s (ix2 R B)) := by
  pointwise [clipF, clipS]
  simp only [Nat.mul_comm B.val 128]
  rfl

theorem codesF_apply (b : FVec Ideal S7808x3072 .f32) (R : Fin 7808) (y : Fin 3072) :
    codesF (F := Ideal) (clipF b (scaleF (maxF b))) (ix2 R y) = codeS (b (ix2 R y)) (scaleS (maxS fun l => b (ix2 R (inBlk y l)))) := by
  have e := clipF_apply b (scaleF (maxF b)) R ⟨y.val / 128, by omega⟩ ⟨y.val % 128, by omega⟩
  rw [scaleF_apply, maxF_apply] at e
  have hy : (⟨128 * (y.val / 128) + y.val % 128, by omega⟩ : Fin 3072) = y := Fin.ext (by show 128 * (y.val / 128) + y.val % 128 = y.val; omega)
  simp only [hy] at e
  generalize clipF b (scaleF (maxF b)) = X at e
  have hx : codesF (F := Ideal) X (ix2 R y) = BitVec.setWidth 8 (Ideal.fptosi 32 (show EReal from X (ix3 R ⟨y.val / 128, by omega⟩ ⟨y.val % 128, by omega⟩))) := by
    pointwise [codesF]
    rfl
  rw [hx, e]
  exact clip_conv _ _ _ n127 p127

end

end Cert.ReferenceIdeal.Hand

end
-- ==== Proof.Finite.lean ====
/-
  What the precondition says: every scale and every worker's weight is a real number.
-/
module

public import proofs.«01_k».proof.Defs
public import proofs.«01_k».proof.Proof.Gen.Pre_finite
public import Idealize.ShloMosaic.Lib.ReduceAll
public import Idealize.ShloMosaic.Lib.Pointwise

@[expose] public section

noncomputable section

namespace Cert.KernelIdeal.Hand

open Idealize.ShloMosaic Idealize.ShloMosaic.TcCoe

/-- An extended real whose absolute value is below +∞ is a real number. -/
theorem real_of_abs_lt (x : EReal) (h : max x (-x) < ⊤) : ∃ r : ℝ, x = (r : EReal) := by
  induction x using EReal.rec with
  | bot => simp at h
  | coe r => exact ⟨r, rfl⟩
  | top => simp at h

/-- The test the precondition makes of one entry. -/
theorem real_of_test (x : EReal) (h : Scalar.cmpf (F := Ideal) (φ := .f32) .olt (FloatOps.absf (F := Ideal) (φ := .f32) x) (Scalar.ofBits (F := Ideal) .f32 0x7F800000#32) = 1#1) :
    ∃ r : ℝ, x = (r : EReal) := by
  have hc : (Scalar.ofBits (F := Ideal) .f32 0x7F800000#32 : EReal) = ⊤ := by
    show Ideal.ieee 8 23 0x7F800000#32 = ⊤
    unfold Ideal.ieee
    have e1 : (0x7F800000#32 : BitVec 32).extractLsb' 23 8 = 255#8 := by decide
    have e2 : (0x7F800000#32 : BitVec 32).extractLsb' 0 23 = 0#23 := by decide
    have e3 : ((0x7F800000#32 : BitVec 32).extractLsb' (8 + 23) 1 == 1#1) = false := by decide
    simp only [e1, e2, e3]
    simp
  refine real_of_abs_lt x ?_
  by_contra hn
  have hn' : ¬ max x (-x) < (Scalar.ofBits (F := Ideal) .f32 0x7F800000#32 : EReal) := by rw [hc]; exact hn
  have h' : BitVec.ofBool (decide (max x (-x) < (Scalar.ofBits (F := Ideal) .f32 0x7F800000#32 : EReal))) = 1#1 := h
  rw [decide_eq_false hn'] at h'
  exact absurd h' (by decide)

variable [Cert.Pre_finite.Facts]

theorem finite_of_pre (a0) (a1 : FVec Ideal Cert.Pre_finite.S16x7808x24 .f32) (a2 : FVec Ideal Cert.Pre_finite.S16 .f32) (a3 a4 a5 a6 a7 a8 a9 a10 a11)
    (h : Cert.Pre_finite.fn (F := Ideal) a0 a1 a2 a3 a4 a5 a6 a7 a8 a9 a10 a11 = fun _ => 1#1) :
    (∀ i, ∃ r : ℝ, a1 i = (show EReal from (r : EReal))) ∧ (∀ i, ∃ r : ℝ, a2 i = (show EReal from (r : EReal))) := by
  have e := IntOp.andi_eq_one.1 (congrFun h ix0)
  have : Subsingleton Cert.Pre_finite.S_.Idx := ⟨fun a b => funext fun i => i.elim0⟩
  exact ⟨fun i => real_of_test _ (Host.reduce_andi_all _ _ _ _ _ e.1 i), fun i => real_of_test _ (Host.reduce_andi_all _ _ _ _ _ e.2 i)⟩

end Cert.KernelIdeal.Hand

end
-- ==== Proof.lean ====
module

public import proofs.«01_k».proof.Defs
public import proofs.«01_k».proof.Proof.KernelFrame
public import proofs.«01_k».proof.Proof.KernelIdealValue
public import proofs.«01_k».proof.Proof.ReferenceValue
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem

/-- The reference's outer step is the kernel's closed form of it, -/
theorem outer_step (A0 A1 A2 A3 A5 A6 A7) (m : (ℓ : Loc Cert.KernelIdeal.nD Cert.KernelIdeal.τ Cert.KernelIdeal.sig) → Buf (Elt Ideal) ℓ) (c : Dev Cert.KernelIdeal.nD)
    (e0 : A0 = m ((c.tc : Thread Cert.KernelIdeal.nD Cert.KernelIdeal.τ).loc Cert.KernelIdeal.main_arg0))
    (e1 : A1 = m ((c.tc : Thread Cert.KernelIdeal.nD Cert.KernelIdeal.τ).loc Cert.KernelIdeal.main_arg1))
    (e2 : A2 = m ((c.tc : Thread Cert.KernelIdeal.nD Cert.KernelIdeal.τ).loc Cert.KernelIdeal.main_arg2))
    (e3 : A3 = m ((c.tc : Thread Cert.KernelIdeal.nD Cert.KernelIdeal.τ).loc Cert.KernelIdeal.main_arg3))
    (e5 : A5 = m ((c.tc : Thread Cert.KernelIdeal.nD Cert.KernelIdeal.τ).loc Cert.KernelIdeal.main_arg5))
    (e6 : A6 = m ((c.tc : Thread Cert.KernelIdeal.nD Cert.KernelIdeal.τ).loc Cert.KernelIdeal.main_arg6))
    (e7 : A7 = m ((c.tc : Thread Cert.KernelIdeal.nD Cert.KernelIdeal.τ).loc Cert.KernelIdeal.main_arg7))
    (hs : ∀ i, ∃ r : ℝ, m ((c.tc : Thread Cert.KernelIdeal.nD Cert.KernelIdeal.τ).loc Cert.KernelIdeal.main_arg1) i = (show EReal from (r : EReal)))
    (hw : ∀ i, ∃ r : ℝ, m ((c.tc : Thread Cert.KernelIdeal.nD Cert.KernelIdeal.τ).loc Cert.KernelIdeal.main_arg2) i = (show EReal from (r : EReal))) :
    Cert.ReferenceIdeal.Hand.stepF (F := Ideal) A3 A7 (Cert.ReferenceIdeal.Hand.aggF A0 A1 A2) (Cert.ReferenceIdeal.Hand.oldF A5 A6)
      = Cert.KernelIdeal.Hand.outArr m c := by
  subst e0 e1 e2 e3 e5 e6 e7
  funext i
  obtain ⟨R, y, rfl⟩ : ∃ (R : Fin 7808) (y : Fin 3072), i = ix2 R y := ⟨i 0, i 1, funext fun a => by fin_cases a <;> rfl⟩
  rw [Cert.ReferenceIdeal.Hand.stepF_apply _ _ _ _ _ _ _ _ (Cert.ReferenceIdeal.Hand.oldF_apply _ _ R y), Cert.ReferenceIdeal.Hand.aggF_apply _ _ _ hs hw]
  rfl

/-- and its merge the kernel's. -/
theorem merge (A4) (m : (ℓ : Loc Cert.KernelIdeal.nD Cert.KernelIdeal.τ Cert.KernelIdeal.sig) → Buf (Elt Ideal) ℓ) (c : Dev Cert.KernelIdeal.nD)
    (e4 : A4 = m ((c.tc : Thread Cert.KernelIdeal.nD Cert.KernelIdeal.τ).loc Cert.KernelIdeal.main_arg4)) :
    Cert.ReferenceIdeal.Hand.mergeF (F := Ideal) A4 (Cert.KernelIdeal.Hand.outArr m c) = Cert.KernelIdeal.Hand.mrgArr m c := by
  subst e4
  funext i
  exact Cert.ReferenceIdeal.Hand.mergeF_apply _ _ i

/-- The reference's momentum codes are the kernel's, -/
theorem codes (A0 A1 A2 A5 A6) (m : (ℓ : Loc Cert.KernelIdeal.nD Cert.KernelIdeal.τ Cert.KernelIdeal.sig) → Buf (Elt Ideal) ℓ) (c : Dev Cert.KernelIdeal.nD)
    (e0 : A0 = m ((c.tc : Thread Cert.KernelIdeal.nD Cert.KernelIdeal.τ).loc Cert.KernelIdeal.main_arg0))
    (e1 : A1 = m ((c.tc : Thread Cert.KernelIdeal.nD Cert.KernelIdeal.τ).loc Cert.KernelIdeal.main_arg1))
    (e2 : A2 = m ((c.tc : Thread Cert.KernelIdeal.nD Cert.KernelIdeal.τ).loc Cert.KernelIdeal.main_arg2))
    (e5 : A5 = m ((c.tc : Thread Cert.KernelIdeal.nD Cert.KernelIdeal.τ).loc Cert.KernelIdeal.main_arg5))
    (e6 : A6 = m ((c.tc : Thread Cert.KernelIdeal.nD Cert.KernelIdeal.τ).loc Cert.KernelIdeal.main_arg6))
    (hs : ∀ i, ∃ r : ℝ, m ((c.tc : Thread Cert.KernelIdeal.nD Cert.KernelIdeal.τ).loc Cert.KernelIdeal.main_arg1) i = (show EReal from (r : EReal)))
    (hw : ∀ i, ∃ r : ℝ, m ((c.tc : Thread Cert.KernelIdeal.nD Cert.KernelIdeal.τ).loc Cert.KernelIdeal.main_arg2) i = (show EReal from (r : EReal))) :
    (let b := Cert.ReferenceIdeal.Hand.newF (F := Ideal) (Cert.ReferenceIdeal.Hand.aggF A0 A1 A2) (Cert.ReferenceIdeal.Hand.oldF A5 A6);
      Cert.ReferenceIdeal.Hand.codesF (Cert.ReferenceIdeal.Hand.clipF b (Cert.ReferenceIdeal.Hand.scaleF (Cert.ReferenceIdeal.Hand.maxF b))))
      = Cert.KernelIdeal.Hand.mcnArr m c := by
  subst e0 e1 e2 e5 e6
  funext i
  obtain ⟨R, y, rfl⟩ : ∃ (R : Fin 7808) (y : Fin 3072), i = ix2 R y := ⟨i 0, i 1, funext fun a => by fin_cases a <;> rfl⟩
  refine (Cert.ReferenceIdeal.Hand.codesF_apply _ R y).trans ?_
  have e : ∀ y, Cert.ReferenceIdeal.Hand.newF (F := Ideal) (Cert.ReferenceIdeal.Hand.aggF _ _ _) (Cert.ReferenceIdeal.Hand.oldF _ _) (ix2 R y) = Cert.KernelIdeal.Hand.momRow m c R y := fun y => by
    rw [Cert.ReferenceIdeal.Hand.newF_apply _ _ _ _ _ _ (Cert.ReferenceIdeal.Hand.oldF_apply _ _ R y), Cert.ReferenceIdeal.Hand.aggF_apply _ _ _ hs hw]
    rfl
  simp only [e]
  rfl

/-- the aggregate's scales, -/
theorem agg_scales (A0 A1 A2) (m : (ℓ : Loc Cert.KernelIdeal.nD Cert.KernelIdeal.τ Cert.KernelIdeal.sig) → Buf (Elt Ideal) ℓ) (c : Dev Cert.KernelIdeal.nD)
    (e0 : A0 = m ((c.tc : Thread Cert.KernelIdeal.nD Cert.KernelIdeal.τ).loc Cert.KernelIdeal.main_arg0))
    (e1 : A1 = m ((c.tc : Thread Cert.KernelIdeal.nD Cert.KernelIdeal.τ).loc Cert.KernelIdeal.main_arg1))
    (e2 : A2 = m ((c.tc : Thread Cert.KernelIdeal.nD Cert.KernelIdeal.τ).loc Cert.KernelIdeal.main_arg2))
    (hs : ∀ i, ∃ r : ℝ, m ((c.tc : Thread Cert.KernelIdeal.nD Cert.KernelIdeal.τ).loc Cert.KernelIdeal.main_arg1) i = (show EReal from (r : EReal)))
    (hw : ∀ i, ∃ r : ℝ, m ((c.tc : Thread Cert.KernelIdeal.nD Cert.KernelIdeal.τ).loc Cert.KernelIdeal.main_arg2) i = (show EReal from (r : EReal))) :
    Cert.ReferenceIdeal.Hand.turnF (F := Ideal) (Cert.ReferenceIdeal.Hand.ascF (Cert.ReferenceIdeal.Hand.maxF (Cert.ReferenceIdeal.Hand.aggF A0 A1 A2)))
      = Cert.KernelIdeal.Hand.ascArr m c := by
  subst e0 e1 e2
  funext i
  obtain ⟨B, R, rfl⟩ : ∃ (B : Fin 24) (R : Fin 7808), i = ix2 B R := ⟨i 0, i 1, funext fun a => by fin_cases a <;> rfl⟩
  refine (Cert.ReferenceIdeal.Hand.ascT_apply _ B R).trans ?_
  have e : ∀ y, Cert.ReferenceIdeal.Hand.aggF (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ix2 R y)
      = Cert.KernelIdeal.Hand.aggRow (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) R y := fun y => Cert.ReferenceIdeal.Hand.aggF_apply _ _ _ hs hw R y
  simp only [e]
  rfl

/-- and the momentum's. -/
theorem mom_scales (A0 A1 A2 A5 A6) (m : (ℓ : Loc Cert.KernelIdeal.nD Cert.KernelIdeal.τ Cert.KernelIdeal.sig) → Buf (Elt Ideal) ℓ) (c : Dev Cert.KernelIdeal.nD)
    (e0 : A0 = m ((c.tc : Thread Cert.KernelIdeal.nD Cert.KernelIdeal.τ).loc Cert.KernelIdeal.main_arg0))
    (e1 : A1 = m ((c.tc : Thread Cert.KernelIdeal.nD Cert.KernelIdeal.τ).loc Cert.KernelIdeal.main_arg1))
    (e2 : A2 = m ((c.tc : Thread Cert.KernelIdeal.nD Cert.KernelIdeal.τ).loc Cert.KernelIdeal.main_arg2))
    (e5 : A5 = m ((c.tc : Thread Cert.KernelIdeal.nD Cert.KernelIdeal.τ).loc Cert.KernelIdeal.main_arg5))
    (e6 : A6 = m ((c.tc : Thread Cert.KernelIdeal.nD Cert.KernelIdeal.τ).loc Cert.KernelIdeal.main_arg6))
    (hs : ∀ i, ∃ r : ℝ, m ((c.tc : Thread Cert.KernelIdeal.nD Cert.KernelIdeal.τ).loc Cert.KernelIdeal.main_arg1) i = (show EReal from (r : EReal)))
    (hw : ∀ i, ∃ r : ℝ, m ((c.tc : Thread Cert.KernelIdeal.nD Cert.KernelIdeal.τ).loc Cert.KernelIdeal.main_arg2) i = (show EReal from (r : EReal))) :
    Cert.ReferenceIdeal.Hand.turnF (F := Ideal) (Cert.ReferenceIdeal.Hand.scaleF (Cert.ReferenceIdeal.Hand.maxF
        (Cert.ReferenceIdeal.Hand.newF (Cert.ReferenceIdeal.Hand.aggF A0 A1 A2) (Cert.ReferenceIdeal.Hand.oldF A5 A6))))
      = Cert.KernelIdeal.Hand.mscArr m c := by
  subst e0 e1 e2 e5 e6
  funext i
  obtain ⟨B, R, rfl⟩ : ∃ (B : Fin 24) (R : Fin 7808), i = ix2 B R := ⟨i 0, i 1, funext fun a => by fin_cases a <;> rfl⟩
  refine (Cert.ReferenceIdeal.Hand.scaleT_apply _ B R).trans ?_
  have e : ∀ y, Cert.ReferenceIdeal.Hand.newF (F := Ideal) (Cert.ReferenceIdeal.Hand.aggF _ _ _) (Cert.ReferenceIdeal.Hand.oldF _ _) (ix2 R y) = Cert.KernelIdeal.Hand.momRow m c R y := fun y => by
    rw [Cert.ReferenceIdeal.Hand.newF_apply _ _ _ _ _ _ (Cert.ReferenceIdeal.Hand.oldF_apply _ _ R y), Cert.ReferenceIdeal.Hand.aggF_apply _ _ _ hs hw]
    rfl
  simp only [e]
  rfl

/-- The kernel and the reference fill the five arrays alike. -/
theorem algebraic : Cert.algebraic_KernelIdeal_ReferenceIdeal_pre_finite := by
  intro m g m' g' hpre hargs
  have hfin := fun c => Cert.KernelIdeal.Hand.finite_of_pre _ _ _ _ _ _ _ _ _ _ _ _ (hpre c)
  refine ⟨fun c => Cert.KernelIdeal.Hand.outArr m c, fun c => Cert.KernelIdeal.Hand.mrgArr m c, fun c => Cert.KernelIdeal.Hand.ascArr m c,
    fun c => Cert.KernelIdeal.Hand.mcnArr m c, fun c => Cert.KernelIdeal.Hand.mscArr m c, ?_, ?_⟩
  · refine (θ_run (Cert.KernelIdeal.defs (F := Ideal)) _ _).mono (fun _ h c => ?_) (Cert.KernelIdeal.Hand.run_results m g)
    exact ⟨(h c).1.trans (Cert.KernelIdeal.Hand.arr12 m c (hfin c).1 (hfin c).2), (h c).2.1.trans (Cert.KernelIdeal.Hand.arr13 m c (hfin c).1 (hfin c).2), (h c).2.2.1.trans (Cert.KernelIdeal.Hand.arr23 m c (hfin c).1 (hfin c).2),
      (h c).2.2.2.1.trans (Cert.KernelIdeal.Hand.arr24 m c (hfin c).1 (hfin c).2), (h c).2.2.2.2.1.trans (Cert.KernelIdeal.Hand.arr25 m c (hfin c).1 (hfin c).2), (h c).2.2.2.2.2⟩
  · refine (θ_run (Cert.ReferenceIdeal.defs (F := Ideal)) _ _).mono (fun _ h c => ?_) (Cert.ReferenceIdeal.Value.run m' g')
    obtain ⟨e0, e1, e2, e3, e4, e5, e6, e7, -⟩ := hargs c
    have hstep := outer_step _ _ _ _ _ _ _ m c e0 e1 e2 e3 e5 e6 e7 (hfin c).1 (hfin c).2
    refine ⟨(h c).1.trans ((Cert.ReferenceIdeal.Hand.res_main_v51_eq m' c).trans hstep), (h c).2.1.trans ((Cert.ReferenceIdeal.Hand.res_main_v57_eq m' c).trans ?_),
      (h c).2.2.1.trans ((Cert.ReferenceIdeal.Hand.res_main_v80_eq m' c).trans (agg_scales _ _ _ m c e0 e1 e2 (hfin c).1 (hfin c).2)),
      (h c).2.2.2.1.trans ((Cert.ReferenceIdeal.Hand.res_main_v79_eq m' c).trans (codes _ _ _ _ _ m c e0 e1 e2 e5 e6 (hfin c).1 (hfin c).2)),
      (h c).2.2.2.2.1.trans ((Cert.ReferenceIdeal.Hand.res_main_v81_eq m' c).trans (mom_scales _ _ _ _ _ m c e0 e1 e2 e5 e6 (hfin c).1 (hfin c).2)), (h c).2.2.2.2.2⟩
    rw [hstep]
    exact merge _ m c e4

/-- The whole claim. -/
theorem claim : Cert.Claim := ⟨Cert.Kernel.Gen.facts, Cert.KernelIdeal.Gen.facts, Cert.ReferenceIdeal.Gen.facts, Cert.Pre_finite.Gen.facts,
  fun m ρ _ => Cert.Kernel.Hand.frame m ρ, fun m ρ _ => Cert.KernelIdeal.Hand.frame m ρ, fun m ρ _ => Cert.KernelIdeal.Hand.frame m ρ,
  fun m ρ _ => (θ_run (Cert.ReferenceIdeal.defs (F := Ideal)) _ _).mono (fun r h => ⟨fun c => (h c).2.2.2.2.2, sem_eq_zero_of_no_sems (by decide) r.2⟩) (Cert.ReferenceIdeal.Value.run m ρ),
  fun m ρ _ => (θ_run (Cert.ReferenceIdeal.defs (F := Ideal)) _ _).mono (fun r h => ⟨fun c => (h c).2.2.2.2.2, sem_eq_zero_of_no_sems (by decide) r.2⟩) (Cert.ReferenceIdeal.Value.run m ρ),
  Idealize.ShloMosaic.IdealRules.bf16_pack.statement _, algebraic⟩

end Cert.Proof

end
